-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x1152 : Shape := ⟨3, ![8, 1024, 1152]⟩
abbrev S8x1024x1 : Shape := ⟨3, ![8, 1024, 1]⟩
abbrev S1152x16384 : Shape := ⟨2, ![1152, 16384]⟩
abbrev S9x128 : Shape := ⟨2, ![9, 128]⟩
abbrev S8x1024x16384 : Shape := ⟨3, ![8, 1024, 16384]⟩
abbrev S16384 : Shape := ⟨1, ![16384]⟩
abbrev S8192x1152 : Shape := ⟨2, ![8192, 1152]⟩
abbrev S32x2x128 : Shape := ⟨3, ![32, 2, 128]⟩
abbrev S9x128x128 : Shape := ⟨3, ![9, 128, 128]⟩
abbrev S9x16384 : Shape := ⟨2, ![9, 16384]⟩
abbrev S1x9x16384 : Shape := ⟨3, ![1, 9, 16384]⟩
abbrev S8192x16384 : Shape := ⟨2, ![8192, 16384]⟩
abbrev S1x16384 : Shape := ⟨2, ![1, 16384]⟩
abbrev S256x1152 : Shape := ⟨2, ![256, 1152]⟩
abbrev S1x2x128 : Shape := ⟨3, ![1, 2, 128]⟩
abbrev S1152x2048 : Shape := ⟨2, ![1152, 2048]⟩
abbrev S1x9x2048 : Shape := ⟨3, ![1, 9, 2048]⟩
abbrev S256x2048 : Shape := ⟨2, ![256, 2048]⟩
abbrev S1x2048 : Shape := ⟨2, ![1, 2048]⟩
abbrev S256x16384 : Shape := ⟨2, ![256, 16384]⟩
abbrev S256x128 : Shape := ⟨2, ![256, 128]⟩
abbrev S128x128 : Shape := ⟨2, ![128, 128]⟩
abbrev S1x1x128 : Shape := ⟨3, ![1, 1, 128]⟩
abbrev S1x128 : Shape := ⟨2, ![1, 128]⟩
abbrev S256 : Shape := ⟨1, ![256]⟩
abbrev S256x1 : Shape := ⟨2, ![256, 1]⟩
abbrev S32x128 : Shape := ⟨2, ![32, 128]⟩
abbrev S1152x256 : Shape := ⟨2, ![1152, 256]⟩
abbrev S256x256 : Shape := ⟨2, ![256, 256]⟩

abbrev nBuf : Space → Nat
  | .hbm => 17
  | .vmem => 26
  | .smem => 0
  | _ => 0

abbrev bufTy : (tb : Table) → Fin (tcTables nBuf tb) → BufTy
  | .hbm, ⟨0, _⟩ => ⟨S8x1024x1152, .fp8e4m3⟩
  | .hbm, ⟨1, _⟩ => ⟨S8x1024x1, .f32⟩
  | .hbm, ⟨2, _⟩ => ⟨S1152x16384, .fp8e4m3⟩
  | .hbm, ⟨3, _⟩ => ⟨S9x128, .f32⟩
  | .hbm, ⟨4, _⟩ => ⟨S8x1024x16384, .bf16⟩
  | .hbm, ⟨5, _⟩ => ⟨S16384, .bf16⟩
  | .hbm, ⟨6, _⟩ => ⟨S8192x1152, .fp8e4m3⟩
  | .hbm, ⟨7, _⟩ => ⟨S32x2x128, .f32⟩
  | .hbm, ⟨8, _⟩ => ⟨S9x128x128, .f32⟩
  | .hbm, ⟨9, _⟩ => ⟨S9x16384, .f32⟩
  | .hbm, ⟨10, _⟩ => ⟨S1x9x16384, .f32⟩
  | .hbm, ⟨11, _⟩ => ⟨S8192x16384, .bf16⟩
  | .hbm, ⟨12, _⟩ => ⟨S16384, .f32⟩
  | .hbm, ⟨13, _⟩ => ⟨S1x16384, .f32⟩
  | .hbm, ⟨14, _⟩ => ⟨S8192x16384, .bf16⟩
  | .hbm, ⟨15, _⟩ => ⟨S8192x16384, .fp8e4m3⟩
  | .hbm, ⟨16, _⟩ => ⟨S32x2x128, .f32⟩
  | .local _ .vmem, ⟨0, _⟩ => ⟨S256x1152, .fp8e4m3⟩
  | .local _ .vmem, ⟨1, _⟩ => ⟨S256x1152, .fp8e4m3⟩
  | .local _ .vmem, ⟨2, _⟩ => ⟨S1x2x128, .f32⟩
  | .local _ .vmem, ⟨3, _⟩ => ⟨S1x2x128, .f32⟩
  | .local _ .vmem, ⟨4, _⟩ => ⟨S1152x2048, .fp8e4m3⟩
  | .local _ .vmem, ⟨5, _⟩ => ⟨S1152x2048, .fp8e4m3⟩
  | .local _ .vmem, ⟨6, _⟩ => ⟨S1x9x2048, .f32⟩
  | .local _ .vmem, ⟨7, _⟩ => ⟨S1x9x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .fp8e4m3⟩
  | .local _ .vmem, ⟨15, _⟩ => ⟨S256x2048, .fp8e4m3⟩
  | .local _ .vmem, ⟨16, _⟩ => ⟨S1x2x128, .f32⟩
  | .local _ .vmem, ⟨17, _⟩ => ⟨S1x2x128, .f32⟩
  | .local _ .vmem, ⟨18, _⟩ => ⟨S1152x16384, .bf16⟩
  | .local _ .vmem, ⟨19, _⟩ => ⟨S256x16384, .bf16⟩
  | .local _ .vmem, ⟨20, _⟩ => ⟨S256x1152, .bf16⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | _, _ => ⟨S8x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![33, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c2048_i32 : BitVec 32 := 2048#32
  let v29 : BitVec 32 := Scalar.muli arg1 c2048_i32
  let c0_i32_16 : BitVec 32 := 0#32
  let v30 : BitVec 32 := Scalar.addi v29 c0_i32_16
  v30
def k0_off1 (i : grid0.Coords) (c0_i32_16 : BitVec 32) : Fin 2 → Nat :=
  let c0_17 : Index := 0#32
  let arg1 : BitVec 32 := BitVec.ofNat 32 (i 1).val
  let c2048_i32 : BitVec 32 := 2048#32
  let v29 : BitVec 32 := Scalar.muli arg1 c2048_i32
  let v30 : BitVec 32 := Scalar.addi v29 c0_i32_16
  let v31 : BitVec 32 := v30
  let v32 : Index := Scalar.indexCast v31
  ![0, v32.toNat]
def k0_mult2 (i : grid0.Coords) : BitVec 32 :=
  let arg1 : BitVec 32 := BitVec.ofNat 32 (i 1).val
  let c2048_i32_22 : BitVec 32 := 2048#32
  let v43 : BitVec 32 := Scalar.muli arg1 c2048_i32_22
  let c128_i32 : BitVec 32 := 128#32
  let v44 : BitVec 32 := Scalar.addi v43 c128_i32
  v44
def k0_mult3 (i : grid0.Coords) : BitVec 32 :=
  let arg1 : BitVec 32 := BitVec.ofNat 32 (i 1).val
  let c2048_i32_28 : BitVec 32 := 2048#32
  let v57 : BitVec 32 := Scalar.muli arg1 c2048_i32_28
  let c256_i32 : BitVec 32 := 256#32
  let v58 : BitVec 32 := Scalar.addi v57 c256_i32
  v58
def k0_mult4 (i : grid0.Coords) : BitVec 32 :=
  let arg1 : BitVec 32 := BitVec.ofNat 32 (i 1).val
  let c2048_i32_34 : BitVec 32 := 2048#32
  let v71 : BitVec 32 := Scalar.muli arg1 c2048_i32_34
  let c384_i32 : BitVec 32 := 384#32
  let v72 : BitVec 32 := Scalar.addi v71 c384_i32
  v72
def k0_mult5 (i : grid0.Coords) : BitVec 32 :=
  let arg1 : BitVec 32 := BitVec.ofNat 32 (i 1).val
  let c2048_i32_40 : BitVec 32 := 2048#32
  let v85 : BitVec 32 := Scalar.muli arg1 c2048_i32_40
  let c512_i32 : BitVec 32 := 512#32
  let v86 : BitVec 32 := Scalar.addi v85 c512_i32
  v86
def k0_mult6 (i : grid0.Coords) : BitVec 32 :=
  let arg1 : BitVec 32 := BitVec.ofNat 32 (i 1).val
  let c2048_i32_46 : BitVec 32 := 2048#32
  let v99 : BitVec 32 := Scalar.muli arg1 c2048_i32_46
  let c640_i32 : BitVec 32 := 640#32
  let v100 : BitVec 32 := Scalar.addi v99 c640_i32
  v100
def k0_mult7 (i : grid0.Coords) : BitVec 32 :=
  let arg1 : BitVec 32 := BitVec.ofNat 32 (i 1).val
  let c2048_i32_52 : BitVec 32 := 2048#32
  let v113 : BitVec 32 := Scalar.muli arg1 c2048_i32_52
  let c768_i32 : BitVec 32 := 768#32
  let v114 : BitVec 32 := Scalar.addi v113 c768_i32
  v114
def k0_mult8 (i : grid0.Coords) : BitVec 32 :=
  let arg1 : BitVec 32 := BitVec.ofNat 32 (i 1).val
  let c2048_i32_58 : BitVec 32 := 2048#32
  let v127 : BitVec 32 := Scalar.muli arg1 c2048_i32_58
  let c896_i32 : BitVec 32 := 896#32
  let v128 : BitVec 32 := Scalar.addi v127 c896_i32
  v128
def k0_mult9 (i : grid0.Coords) : BitVec 32 :=
  let arg1 : BitVec 32 := BitVec.ofNat 32 (i 1).val
  let c2048_i32_64 : BitVec 32 := 2048#32
  let v141 : BitVec 32 := Scalar.muli arg1 c2048_i32_64
  let c1024_i32 : BitVec 32 := 1024#32
  let v142 : BitVec 32 := Scalar.addi v141 c1024_i32
  v142
def k0_mult10 (i : grid0.Coords) : BitVec 32 :=
  let arg1 : BitVec 32 := BitVec.ofNat 32 (i 1).val
  let c2048_i32_70 : BitVec 32 := 2048#32
  let v155 : BitVec 32 := Scalar.muli arg1 c2048_i32_70
  let c1152_i32 : BitVec 32 := 1152#32
  let v156 : BitVec 32 := Scalar.addi v155 c1152_i32
  v156
def k0_mult11 (i : grid0.Coords) : BitVec 32 :=
  let arg1 : BitVec 32 := BitVec.ofNat 32 (i 1).val
  let c2048_i32_76 : BitVec 32 := 2048#32
  let v169 : BitVec 32 := Scalar.muli arg1 c2048_i32_76
  let c1280_i32 : BitVec 32 := 1280#32
  let v170 : BitVec 32 := Scalar.addi v169 c1280_i32
  v170
def k0_mult12 (i : grid0.Coords) : BitVec 32 :=
  let arg1 : BitVec 32 := BitVec.ofNat 32 (i 1).val
  let c2048_i32_82 : BitVec 32 := 2048#32
  let v183 : BitVec 32 := Scalar.muli arg1 c2048_i32_82
  let c1408_i32 : BitVec 32 := 1408#32
  let v184 : BitVec 32 := Scalar.addi v183 c1408_i32
  v184
def k0_mult13 (i : grid0.Coords) : BitVec 32 :=
  let arg1 : BitVec 32 := BitVec.ofNat 32 (i 1).val
  let c2048_i32_88 : BitVec 32 := 2048#32
  let v197 : BitVec 32 := Scalar.muli arg1 c2048_i32_88
  let c1536_i32 : BitVec 32 := 1536#32
  let v198 : BitVec 32 := Scalar.addi v197 c1536_i32
  v198
def k0_mult14 (i : grid0.Coords) : BitVec 32 :=
  let arg1 : BitVec 32 := BitVec.ofNat 32 (i 1).val
  let c2048_i32_94 : BitVec 32 := 2048#32
  let v211 : BitVec 32 := Scalar.muli arg1 c2048_i32_94
  let c1664_i32 : BitVec 32 := 1664#32
  let v212 : BitVec 32 := Scalar.addi v211 c1664_i32
  v212
def k0_mult15 (i : grid0.Coords) : BitVec 32 :=
  let arg1 : BitVec 32 := BitVec.ofNat 32 (i 1).val
  let c2048_i32_100 : BitVec 32 := 2048#32
  let v225 : BitVec 32 := Scalar.muli arg1 c2048_i32_100
  let c1792_i32 : BitVec 32 := 1792#32
  let v226 : BitVec 32 := Scalar.addi v225 c1792_i32
  v226
def k0_mult16 (i : grid0.Coords) : BitVec 32 :=
  let arg1 : BitVec 32 := BitVec.ofNat 32 (i 1).val
  let c2048_i32_106 : BitVec 32 := 2048#32
  let v239 : BitVec 32 := Scalar.muli arg1 c2048_i32_106
  let c1920_i32 : BitVec 32 := 1920#32
  let v240 : BitVec 32 := Scalar.addi v239 c1920_i32
  v240
def k0_mult17 (i : grid0.Coords) : BitVec 32 :=
  let arg1 : BitVec 32 := BitVec.ofNat 32 (i 1).val
  let c2048_i32_112 : BitVec 32 := 2048#32
  let v253 : BitVec 32 := Scalar.muli arg1 c2048_i32_112
  let c0_i32_113 : BitVec 32 := 0#32
  let v254 : BitVec 32 := Scalar.addi v253 c0_i32_113
  v254
def k0_off2 (i : grid0.Coords) (c0_i32_113 : BitVec 32) : Fin 2 → Nat :=
  let c128_114 : Index := 128#32
  let arg1 : BitVec 32 := BitVec.ofNat 32 (i 1).val
  let c2048_i32_112 : BitVec 32 := 2048#32
  let v253 : BitVec 32 := Scalar.muli arg1 c2048_i32_112
  let v254 : BitVec 32 := Scalar.addi v253 c0_i32_113
  let v255 : BitVec 32 := v254
  let v256 : Index := Scalar.indexCast v255
  ![128, v256.toNat]
def k0_mult18 (i : grid0.Coords) : BitVec 32 :=
  let arg1 : BitVec 32 := BitVec.ofNat 32 (i 1).val
  let c2048_i32_120 : BitVec 32 := 2048#32
  let v267 : BitVec 32 := Scalar.muli arg1 c2048_i32_120
  let c128_i32_121 : BitVec 32 := 128#32
  let v268 : BitVec 32 := Scalar.addi v267 c128_i32_121
  v268
def k0_mult19 (i : grid0.Coords) : BitVec 32 :=
  let arg1 : BitVec 32 := BitVec.ofNat 32 (i 1).val
  let c2048_i32_128 : BitVec 32 := 2048#32
  let v281 : BitVec 32 := Scalar.muli arg1 c2048_i32_128
  let c256_i32_129 : BitVec 32 := 256#32
  let v282 : BitVec 32 := Scalar.addi v281 c256_i32_129
  v282
def k0_mult20 (i : grid0.Coords) : BitVec 32 :=
  let arg1 : BitVec 32 := BitVec.ofNat 32 (i 1).val
  let c2048_i32_136 : BitVec 32 := 2048#32
  let v295 : BitVec 32 := Scalar.muli arg1 c2048_i32_136
  let c384_i32_137 : BitVec 32 := 384#32
  let v296 : BitVec 32 := Scalar.addi v295 c384_i32_137
  v296
def k0_mult21 (i : grid0.Coords) : BitVec 32 :=
  let arg1 : BitVec 32 := BitVec.ofNat 32 (i 1).val
  let c2048_i32_144 : BitVec 32 := 2048#32
  let v309 : BitVec 32 := Scalar.muli arg1 c2048_i32_144
  let c512_i32_145 : BitVec 32 := 512#32
  let v310 : BitVec 32 := Scalar.addi v309 c512_i32_145
  v310
def k0_mult22 (i : grid0.Coords) : BitVec 32 :=
  let arg1 : BitVec 32 := BitVec.ofNat 32 (i 1).val
  let c2048_i32_152 : BitVec 32 := 2048#32
  let v323 : BitVec 32 := Scalar.muli arg1 c2048_i32_152
  let c640_i32_153 : BitVec 32 := 640#32
  let v324 : BitVec 32 := Scalar.addi v323 c640_i32_153
  v324
def k0_mult23 (i : grid0.Coords) : BitVec 32 :=
  let arg1 : BitVec 32 := BitVec.ofNat 32 (i 1).val
  let c2048_i32_160 : BitVec 32 := 2048#32
  let v337 : BitVec 32 := Scalar.muli arg1 c2048_i32_160
  let c768_i32_161 : BitVec 32 := 768#32
  let v338 : BitVec 32 := Scalar.addi v337 c768_i32_161
  v338
def k0_mult24 (i : grid0.Coords) : BitVec 32 :=
  let arg1 : BitVec 32 := BitVec.ofNat 32 (i 1).val
  let c2048_i32_168 : BitVec 32 := 2048#32
  let v351 : BitVec 32 := Scalar.muli arg1 c2048_i32_168
  let c896_i32_169 : BitVec 32 := 896#32
  let v352 : BitVec 32 := Scalar.addi v351 c896_i32_169
  v352
def k0_mult25 (i : grid0.Coords) : BitVec 32 :=
  let arg1 : BitVec 32 := BitVec.ofNat 32 (i 1).val
  let c2048_i32_176 : BitVec 32 := 2048#32
  let v365 : BitVec 32 := Scalar.muli arg1 c2048_i32_176
  let c1024_i32_177 : BitVec 32 := 1024#32
  let v366 : BitVec 32 := Scalar.addi v365 c1024_i32_177
  v366
def k0_mult26 (i : grid0.Coords) : BitVec 32 :=
  let arg1 : BitVec 32 := BitVec.ofNat 32 (i 1).val
  let c2048_i32_184 : BitVec 32 := 2048#32
  let v379 : BitVec 32 := Scalar.muli arg1 c2048_i32_184
  let c1152_i32_185 : BitVec 32 := 1152#32
  let v380 : BitVec 32 := Scalar.addi v379 c1152_i32_185
  v380
def k0_mult27 (i : grid0.Coords) : BitVec 32 :=
  let arg1 : BitVec 32 := BitVec.ofNat 32 (i 1).val
  let c2048_i32_192 : BitVec 32 := 2048#32
  let v393 : BitVec 32 := Scalar.muli arg1 c2048_i32_192
  let c1280_i32_193 : BitVec 32 := 1280#32
  let v394 : BitVec 32 := Scalar.addi v393 c1280_i32_193
  v394
def k0_mult28 (i : grid0.Coords) : BitVec 32 :=
  let arg1 : BitVec 32 := BitVec.ofNat 32 (i 1).val
  let c2048_i32_200 : BitVec 32 := 2048#32
  let v407 : BitVec 32 := Scalar.muli arg1 c2048_i32_200
  let c1408_i32_201 : BitVec 32 := 1408#32
  let v408 : BitVec 32 := Scalar.addi v407 c1408_i32_201
  v408
def k0_mult29 (i : grid0.Coords) : BitVec 32 :=
  let arg1 : BitVec 32 := BitVec.ofNat 32 (i 1).val
  let c2048_i32_208 : BitVec 32 := 2048#32
  let v421 : BitVec 32 := Scalar.muli arg1 c2048_i32_208
  let c1536_i32_209 : BitVec 32 := 1536#32
  let v422 : BitVec 32 := Scalar.addi v421 c1536_i32_209
  v422
def k0_mult30 (i : grid0.Coords) : BitVec 32 :=
  let arg1 : BitVec 32 := BitVec.ofNat 32 (i 1).val
  let c2048_i32_216 : BitVec 32 := 2048#32
  let v435 : BitVec 32 := Scalar.muli arg1 c2048_i32_216
  let c1664_i32_217 : BitVec 32 := 1664#32
  let v436 : BitVec 32 := Scalar.addi v435 c1664_i32_217
  v436
def k0_mult31 (i : grid0.Coords) : BitVec 32 :=
  let arg1 : BitVec 32 := BitVec.ofNat 32 (i 1).val
  let c2048_i32_224 : BitVec 32 := 2048#32
  let v449 : BitVec 32 := Scalar.muli arg1 c2048_i32_224
  let c1792_i32_225 : BitVec 32 := 1792#32
  let v450 : BitVec 32 := Scalar.addi v449 c1792_i32_225
  v450
def k0_mult32 (i : grid0.Coords) : BitVec 32 :=
  let arg1 : BitVec 32 := BitVec.ofNat 32 (i 1).val
  let c2048_i32_232 : BitVec 32 := 2048#32
  let v463 : BitVec 32 := Scalar.muli arg1 c2048_i32_232
  let c1920_i32_233 : BitVec 32 := 1920#32
  let v464 : BitVec 32 := Scalar.addi v463 c1920_i32_233
  v464
def k0_mult33 (i : grid0.Coords) : BitVec 32 :=
  let arg1 : BitVec 32 := BitVec.ofNat 32 (i 1).val
  let c2048_i32_239 : BitVec 32 := 2048#32
  let v477 : BitVec 32 := Scalar.muli arg1 c2048_i32_239
  let c0_i32_240 : BitVec 32 := 0#32
  let v478 : BitVec 32 := Scalar.addi v477 c0_i32_240
  v478
def k0_off3 (i : grid0.Coords) (c0_i32_240 : BitVec 32) : Fin 2 → Nat :=
  let c256_241 : Index := 256#32
  let arg1 : BitVec 32 := BitVec.ofNat 32 (i 1).val
  let c2048_i32_239 : BitVec 32 := 2048#32
  let v477 : BitVec 32 := Scalar.muli arg1 c2048_i32_239
  let v478 : BitVec 32 := Scalar.addi v477 c0_i32_240
  let v479 : BitVec 32 := v478
  let v480 : Index := Scalar.indexCast v479
  ![256, v480.toNat]
def k0_mult34 (i : grid0.Coords) : BitVec 32 :=
  let arg1 : BitVec 32 := BitVec.ofNat 32 (i 1).val
  let c2048_i32_247 : BitVec 32 := 2048#32
  let v491 : BitVec 32 := Scalar.muli arg1 c2048_i32_247
  let c128_i32_248 : BitVec 32 := 128#32
  let v492 : BitVec 32 := Scalar.addi v491 c128_i32_248
  v492
def k0_mult35 (i : grid0.Coords) : BitVec 32 :=
  let arg1 : BitVec 32 := BitVec.ofNat 32 (i 1).val
  let c2048_i32_255 : BitVec 32 := 2048#32
  let v505 : BitVec 32 := Scalar.muli arg1 c2048_i32_255
  let c256_i32_256 : BitVec 32 := 256#32
  let v506 : BitVec 32 := Scalar.addi v505 c256_i32_256
  v506
def k0_mult36 (i : grid0.Coords) : BitVec 32 :=
  let arg1 : BitVec 32 := BitVec.ofNat 32 (i 1).val
  let c2048_i32_263 : BitVec 32 := 2048#32
  let v519 : BitVec 32 := Scalar.muli arg1 c2048_i32_263
  let c384_i32_264 : BitVec 32 := 384#32
  let v520 : BitVec 32 := Scalar.addi v519 c384_i32_264
  v520
def k0_mult37 (i : grid0.Coords) : BitVec 32 :=
  let arg1 : BitVec 32 := BitVec.ofNat 32 (i 1).val
  let c2048_i32_271 : BitVec 32 := 2048#32
  let v533 : BitVec 32 := Scalar.muli arg1 c2048_i32_271
  let c512_i32_272 : BitVec 32 := 512#32
  let v534 : BitVec 32 := Scalar.addi v533 c512_i32_272
  v534
def k0_mult38 (i : grid0.Coords) : BitVec 32 :=
  let arg1 : BitVec 32 := BitVec.ofNat 32 (i 1).val
  let c2048_i32_279 : BitVec 32 := 2048#32
  let v547 : BitVec 32 := Scalar.muli arg1 c2048_i32_279
  let c640_i32_280 : BitVec 32 := 640#32
  let v548 : BitVec 32 := Scalar.addi v547 c640_i32_280
  v548
def k0_mult39 (i : grid0.Coords) : BitVec 32 :=
  let arg1 : BitVec 32 := BitVec.ofNat 32 (i 1).val
  let c2048_i32_287 : BitVec 32 := 2048#32
  let v561 : BitVec 32 := Scalar.muli arg1 c2048_i32_287
  let c768_i32_288 : BitVec 32 := 768#32
  let v562 : BitVec 32 := Scalar.addi v561 c768_i32_288
  v562
def k0_mult40 (i : grid0.Coords) : BitVec 32 :=
  let arg1 : BitVec 32 := BitVec.ofNat 32 (i 1).val
  let c2048_i32_295 : BitVec 32 := 2048#32
  let v575 : BitVec 32 := Scalar.muli arg1 c2048_i32_295
  let c896_i32_296 : BitVec 32 := 896#32
  let v576 : BitVec 32 := Scalar.addi v575 c896_i32_296
  v576
def k0_mult41 (i : grid0.Coords) : BitVec 32 :=
  let arg1 : BitVec 32 := BitVec.ofNat 32 (i 1).val
  let c2048_i32_303 : BitVec 32 := 2048#32
  let v589 : BitVec 32 := Scalar.muli arg1 c2048_i32_303
  let c1024_i32_304 : BitVec 32 := 1024#32
  let v590 : BitVec 32 := Scalar.addi v589 c1024_i32_304
  v590
def k0_mult42 (i : grid0.Coords) : BitVec 32 :=
  let arg1 : BitVec 32 := BitVec.ofNat 32 (i 1).val
  let c2048_i32_311 : BitVec 32 := 2048#32
  let v603 : BitVec 32 := Scalar.muli arg1 c2048_i32_311
  let c1152_i32_312 : BitVec 32 := 1152#32
  let v604 : BitVec 32 := Scalar.addi v603 c1152_i32_312
  v604
def k0_mult43 (i : grid0.Coords) : BitVec 32 :=
  let arg1 : BitVec 32 := BitVec.ofNat 32 (i 1).val
  let c2048_i32_319 : BitVec 32 := 2048#32
  let v617 : BitVec 32 := Scalar.muli arg1 c2048_i32_319
  let c1280_i32_320 : BitVec 32 := 1280#32
  let v618 : BitVec 32 := Scalar.addi v617 c1280_i32_320
  v618
def k0_mult44 (i : grid0.Coords) : BitVec 32 :=
  let arg1 : BitVec 32 := BitVec.ofNat 32 (i 1).val
  let c2048_i32_327 : BitVec 32 := 2048#32
  let v631 : BitVec 32 := Scalar.muli arg1 c2048_i32_327
  let c1408_i32_328 : BitVec 32 := 1408#32
  let v632 : BitVec 32 := Scalar.addi v631 c1408_i32_328
  v632
def k0_mult45 (i : grid0.Coords) : BitVec 32 :=
  let arg1 : BitVec 32 := BitVec.ofNat 32 (i 1).val
  let c2048_i32_335 : BitVec 32 := 2048#32
  let v645 : BitVec 32 := Scalar.muli arg1 c2048_i32_335
  let c1536_i32_336 : BitVec 32 := 1536#32
  let v646 : BitVec 32 := Scalar.addi v645 c1536_i32_336
  v646
def k0_mult46 (i : grid0.Coords) : BitVec 32 :=
  let arg1 : BitVec 32 := BitVec.ofNat 32 (i 1).val
  let c2048_i32_343 : BitVec 32 := 2048#32
  let v659 : BitVec 32 := Scalar.muli arg1 c2048_i32_343
  let c1664_i32_344 : BitVec 32 := 1664#32
  let v660 : BitVec 32 := Scalar.addi v659 c1664_i32_344
  v660
def k0_mult47 (i : grid0.Coords) : BitVec 32 :=
  let arg1 : BitVec 32 := BitVec.ofNat 32 (i 1).val
  let c2048_i32_351 : BitVec 32 := 2048#32
  let v673 : BitVec 32 := Scalar.muli arg1 c2048_i32_351
  let c1792_i32_352 : BitVec 32 := 1792#32
  let v674 : BitVec 32 := Scalar.addi v673 c1792_i32_352
  v674
def k0_mult48 (i : grid0.Coords) : BitVec 32 :=
  let arg1 : BitVec 32 := BitVec.ofNat 32 (i 1).val
  let c2048_i32_359 : BitVec 32 := 2048#32
  let v687 : BitVec 32 := Scalar.muli arg1 c2048_i32_359
  let c1920_i32_360 : BitVec 32 := 1920#32
  let v688 : BitVec 32 := Scalar.addi v687 c1920_i32_360
  v688
def k0_mult49 (i : grid0.Coords) : BitVec 32 :=
  let arg1 : BitVec 32 := BitVec.ofNat 32 (i 1).val
  let c2048_i32_366 : BitVec 32 := 2048#32
  let v701 : BitVec 32 := Scalar.muli arg1 c2048_i32_366
  let c0_i32_367 : BitVec 32 := 0#32
  let v702 : BitVec 32 := Scalar.addi v701 c0_i32_367
  v702
def k0_off4 (i : grid0.Coords) (c0_i32_367 : BitVec 32) : Fin 2 → Nat :=
  let c384_368 : Index := 384#32
  let arg1 : BitVec 32 := BitVec.ofNat 32 (i 1).val
  let c2048_i32_366 : BitVec 32 := 2048#32
  let v701 : BitVec 32 := Scalar.muli arg1 c2048_i32_366
  let v702 : BitVec 32 := Scalar.addi v701 c0_i32_367
  let v703 : BitVec 32 := v702
  let v704 : Index := Scalar.indexCast v703
  ![384, v704.toNat]
def k0_mult50 (i : grid0.Coords) : BitVec 32 :=
  let arg1 : BitVec 32 := BitVec.ofNat 32 (i 1).val
  let c2048_i32_374 : BitVec 32 := 2048#32
  let v715 : BitVec 32 := Scalar.muli arg1 c2048_i32_374
  let c128_i32_375 : BitVec 32 := 128#32
  let v716 : BitVec 32 := Scalar.addi v715 c128_i32_375
  v716
def k0_mult51 (i : grid0.Coords) : BitVec 32 :=
  let arg1 : BitVec 32 := BitVec.ofNat 32 (i 1).val
  let c2048_i32_382 : BitVec 32 := 2048#32
  let v729 : BitVec 32 := Scalar.muli arg1 c2048_i32_382
  let c256_i32_383 : BitVec 32 := 256#32
  let v730 : BitVec 32 := Scalar.addi v729 c256_i32_383
  v730
def k0_mult52 (i : grid0.Coords) : BitVec 32 :=
  let arg1 : BitVec 32 := BitVec.ofNat 32 (i 1).val
  let c2048_i32_390 : BitVec 32 := 2048#32
  let v743 : BitVec 32 := Scalar.muli arg1 c2048_i32_390
  let c384_i32_391 : BitVec 32 := 384#32
  let v744 : BitVec 32 := Scalar.addi v743 c384_i32_391
  v744
def k0_mult53 (i : grid0.Coords) : BitVec 32 :=
  let arg1 : BitVec 32 := BitVec.ofNat 32 (i 1).val
  let c2048_i32_398 : BitVec 32 := 2048#32
  let v757 : BitVec 32 := Scalar.muli arg1 c2048_i32_398
  let c512_i32_399 : BitVec 32 := 512#32
  let v758 : BitVec 32 := Scalar.addi v757 c512_i32_399
  v758
def k0_mult54 (i : grid0.Coords) : BitVec 32 :=
  let arg1 : BitVec 32 := BitVec.ofNat 32 (i 1).val
  let c2048_i32_406 : BitVec 32 := 2048#32
  let v771 : BitVec 32 := Scalar.muli arg1 c2048_i32_406
  let c640_i32_407 : BitVec 32 := 640#32
  let v772 : BitVec 32 := Scalar.addi v771 c640_i32_407
  v772
def k0_mult55 (i : grid0.Coords) : BitVec 32 :=
  let arg1 : BitVec 32 := BitVec.ofNat 32 (i 1).val
  let c2048_i32_414 : BitVec 32 := 2048#32
  let v785 : BitVec 32 := Scalar.muli arg1 c2048_i32_414
  let c768_i32_415 : BitVec 32 := 768#32
  let v786 : BitVec 32 := Scalar.addi v785 c768_i32_415
  v786
def k0_mult56 (i : grid0.Coords) : BitVec 32 :=
  let arg1 : BitVec 32 := BitVec.ofNat 32 (i 1).val
  let c2048_i32_422 : BitVec 32 := 2048#32
  let v799 : BitVec 32 := Scalar.muli arg1 c2048_i32_422
  let c896_i32_423 : BitVec 32 := 896#32
  let v800 : BitVec 32 := Scalar.addi v799 c896_i32_423
  v800
def k0_mult57 (i : grid0.Coords) : BitVec 32 :=
  let arg1 : BitVec 32 := BitVec.ofNat 32 (i 1).val
  let c2048_i32_430 : BitVec 32 := 2048#32
  let v813 : BitVec 32 := Scalar.muli arg1 c2048_i32_430
  let c1024_i32_431 : BitVec 32 := 1024#32
  let v814 : BitVec 32 := Scalar.addi v813 c1024_i32_431
  v814
def k0_mult58 (i : grid0.Coords) : BitVec 32 :=
  let arg1 : BitVec 32 := BitVec.ofNat 32 (i 1).val
  let c2048_i32_438 : BitVec 32 := 2048#32
  let v827 : BitVec 32 := Scalar.muli arg1 c2048_i32_438
  let c1152_i32_439 : BitVec 32 := 1152#32
  let v828 : BitVec 32 := Scalar.addi v827 c1152_i32_439
  v828
def k0_mult59 (i : grid0.Coords) : BitVec 32 :=
  let arg1 : BitVec 32 := BitVec.ofNat 32 (i 1).val
  let c2048_i32_446 : BitVec 32 := 2048#32
  let v841 : BitVec 32 := Scalar.muli arg1 c2048_i32_446
  let c1280_i32_447 : BitVec 32 := 1280#32
  let v842 : BitVec 32 := Scalar.addi v841 c1280_i32_447
  v842
def k0_mult60 (i : grid0.Coords) : BitVec 32 :=
  let arg1 : BitVec 32 := BitVec.ofNat 32 (i 1).val
  let c2048_i32_454 : BitVec 32 := 2048#32
  let v855 : BitVec 32 := Scalar.muli arg1 c2048_i32_454
  let c1408_i32_455 : BitVec 32 := 1408#32
  let v856 : BitVec 32 := Scalar.addi v855 c1408_i32_455
  v856
def k0_mult61 (i : grid0.Coords) : BitVec 32 :=
  let arg1 : BitVec 32 := BitVec.ofNat 32 (i 1).val
  let c2048_i32_462 : BitVec 32 := 2048#32
  let v869 : BitVec 32 := Scalar.muli arg1 c2048_i32_462
  let c1536_i32_463 : BitVec 32 := 1536#32
  let v870 : BitVec 32 := Scalar.addi v869 c1536_i32_463
  v870
def k0_mult62 (i : grid0.Coords) : BitVec 32 :=
  let arg1 : BitVec 32 := BitVec.ofNat 32 (i 1).val
  let c2048_i32_470 : BitVec 32 := 2048#32
  let v883 : BitVec 32 := Scalar.muli arg1 c2048_i32_470
  let c1664_i32_471 : BitVec 32 := 1664#32
  let v884 : BitVec 32 := Scalar.addi v883 c1664_i32_471
  v884
def k0_mult63 (i : grid0.Coords) : BitVec 32 :=
  let arg1 : BitVec 32 := BitVec.ofNat 32 (i 1).val
  let c2048_i32_478 : BitVec 32 := 2048#32
  let v897 : BitVec 32 := Scalar.muli arg1 c2048_i32_478
  let c1792_i32_479 : BitVec 32 := 1792#32
  let v898 : BitVec 32 := Scalar.addi v897 c1792_i32_479
  v898
def k0_mult64 (i : grid0.Coords) : BitVec 32 :=
  let arg1 : BitVec 32 := BitVec.ofNat 32 (i 1).val
  let c2048_i32_486 : BitVec 32 := 2048#32
  let v911 : BitVec 32 := Scalar.muli arg1 c2048_i32_486
  let c1920_i32_487 : BitVec 32 := 1920#32
  let v912 : BitVec 32 := Scalar.addi v911 c1920_i32_487
  v912
def k0_mult65 (i : grid0.Coords) : BitVec 32 :=
  let arg1 : BitVec 32 := BitVec.ofNat 32 (i 1).val
  let c2048_i32_493 : BitVec 32 := 2048#32
  let v925 : BitVec 32 := Scalar.muli arg1 c2048_i32_493
  let c0_i32_494 : BitVec 32 := 0#32
  let v926 : BitVec 32 := Scalar.addi v925 c0_i32_494
  v926
def k0_off5 (i : grid0.Coords) (c0_i32_494 : BitVec 32) : Fin 2 → Nat :=
  let c512_495 : Index := 512#32
  let arg1 : BitVec 32 := BitVec.ofNat 32 (i 1).val
  let c2048_i32_493 : BitVec 32 := 2048#32
  let v925 : BitVec 32 := Scalar.muli arg1 c2048_i32_493
  let v926 : BitVec 32 := Scalar.addi v925 c0_i32_494
  let v927 : BitVec 32 := v926
  let v928 : Index := Scalar.indexCast v927
  ![512, v928.toNat]
def k0_mult66 (i : grid0.Coords) : BitVec 32 :=
  let arg1 : BitVec 32 := BitVec.ofNat 32 (i 1).val
  let c2048_i32_501 : BitVec 32 := 2048#32
  let v939 : BitVec 32 := Scalar.muli arg1 c2048_i32_501
  let c128_i32_502 : BitVec 32 := 128#32
  let v940 : BitVec 32 := Scalar.addi v939 c128_i32_502
  v940
def k0_mult67 (i : grid0.Coords) : BitVec 32 :=
  let arg1 : BitVec 32 := BitVec.ofNat 32 (i 1).val
  let c2048_i32_509 : BitVec 32 := 2048#32
  let v953 : BitVec 32 := Scalar.muli arg1 c2048_i32_509
  let c256_i32_510 : BitVec 32 := 256#32
  let v954 : BitVec 32 := Scalar.addi v953 c256_i32_510
  v954
def k0_mult68 (i : grid0.Coords) : BitVec 32 :=
  let arg1 : BitVec 32 := BitVec.ofNat 32 (i 1).val
  let c2048_i32_517 : BitVec 32 := 2048#32
  let v967 : BitVec 32 := Scalar.muli arg1 c2048_i32_517
  let c384_i32_518 : BitVec 32 := 384#32
  let v968 : BitVec 32 := Scalar.addi v967 c384_i32_518
  v968
def k0_mult69 (i : grid0.Coords) : BitVec 32 :=
  let arg1 : BitVec 32 := BitVec.ofNat 32 (i 1).val
  let c2048_i32_525 : BitVec 32 := 2048#32
  let v981 : BitVec 32 := Scalar.muli arg1 c2048_i32_525
  let c512_i32_526 : BitVec 32 := 512#32
  let v982 : BitVec 32 := Scalar.addi v981 c512_i32_526
  v982
def k0_mult70 (i : grid0.Coords) : BitVec 32 :=
  let arg1 : BitVec 32 := BitVec.ofNat 32 (i 1).val
  let c2048_i32_533 : BitVec 32 := 2048#32
  let v995 : BitVec 32 := Scalar.muli arg1 c2048_i32_533
  let c640_i32_534 : BitVec 32 := 640#32
  let v996 : BitVec 32 := Scalar.addi v995 c640_i32_534
  v996
def k0_mult71 (i : grid0.Coords) : BitVec 32 :=
  let arg1 : BitVec 32 := BitVec.ofNat 32 (i 1).val
  let c2048_i32_541 : BitVec 32 := 2048#32
  let v1009 : BitVec 32 := Scalar.muli arg1 c2048_i32_541
  let c768_i32_542 : BitVec 32 := 768#32
  let v1010 : BitVec 32 := Scalar.addi v1009 c768_i32_542
  v1010
def k0_mult72 (i : grid0.Coords) : BitVec 32 :=
  let arg1 : BitVec 32 := BitVec.ofNat 32 (i 1).val
  let c2048_i32_549 : BitVec 32 := 2048#32
  let v1023 : BitVec 32 := Scalar.muli arg1 c2048_i32_549
  let c896_i32_550 : BitVec 32 := 896#32
  let v1024 : BitVec 32 := Scalar.addi v1023 c896_i32_550
  v1024
def k0_mult73 (i : grid0.Coords) : BitVec 32 :=
  let arg1 : BitVec 32 := BitVec.ofNat 32 (i 1).val
  let c2048_i32_557 : BitVec 32 := 2048#32
  let v1037 : BitVec 32 := Scalar.muli arg1 c2048_i32_557
  let c1024_i32_558 : BitVec 32 := 1024#32
  let v1038 : BitVec 32 := Scalar.addi v1037 c1024_i32_558
  v1038
def k0_mult74 (i : grid0.Coords) : BitVec 32 :=
  let arg1 : BitVec 32 := BitVec.ofNat 32 (i 1).val
  let c2048_i32_565 : BitVec 32 := 2048#32
  let v1051 : BitVec 32 := Scalar.muli arg1 c2048_i32_565
  let c1152_i32_566 : BitVec 32 := 1152#32
  let v1052 : BitVec 32 := Scalar.addi v1051 c1152_i32_566
  v1052
def k0_mult75 (i : grid0.Coords) : BitVec 32 :=
  let arg1 : BitVec 32 := BitVec.ofNat 32 (i 1).val
  let c2048_i32_573 : BitVec 32 := 2048#32
  let v1065 : BitVec 32 := Scalar.muli arg1 c2048_i32_573
  let c1280_i32_574 : BitVec 32 := 1280#32
  let v1066 : BitVec 32 := Scalar.addi v1065 c1280_i32_574
  v1066
def k0_mult76 (i : grid0.Coords) : BitVec 32 :=
  let arg1 : BitVec 32 := BitVec.ofNat 32 (i 1).val
  let c2048_i32_581 : BitVec 32 := 2048#32
  let v1079 : BitVec 32 := Scalar.muli arg1 c2048_i32_581
  let c1408_i32_582 : BitVec 32 := 1408#32
  let v1080 : BitVec 32 := Scalar.addi v1079 c1408_i32_582
  v1080
def k0_mult77 (i : grid0.Coords) : BitVec 32 :=
  let arg1 : BitVec 32 := BitVec.ofNat 32 (i 1).val
  let c2048_i32_589 : BitVec 32 := 2048#32
  let v1093 : BitVec 32 := Scalar.muli arg1 c2048_i32_589
  let c1536_i32_590 : BitVec 32 := 1536#32
  let v1094 : BitVec 32 := Scalar.addi v1093 c1536_i32_590
  v1094
def k0_mult78 (i : grid0.Coords) : BitVec 32 :=
  let arg1 : BitVec 32 := BitVec.ofNat 32 (i 1).val
  let c2048_i32_597 : BitVec 32 := 2048#32
  let v1107 : BitVec 32 := Scalar.muli arg1 c2048_i32_597
  let c1664_i32_598 : BitVec 32 := 1664#32
  let v1108 : BitVec 32 := Scalar.addi v1107 c1664_i32_598
  v1108
def k0_mult79 (i : grid0.Coords) : BitVec 32 :=
  let arg1 : BitVec 32 := BitVec.ofNat 32 (i 1).val
  let c2048_i32_605 : BitVec 32 := 2048#32
  let v1121 : BitVec 32 := Scalar.muli arg1 c2048_i32_605
  let c1792_i32_606 : BitVec 32 := 1792#32
  let v1122 : BitVec 32 := Scalar.addi v1121 c1792_i32_606
  v1122
def k0_mult80 (i : grid0.Coords) : BitVec 32 :=
  let arg1 : BitVec 32 := BitVec.ofNat 32 (i 1).val
  let c2048_i32_613 : BitVec 32 := 2048#32
  let v1135 : BitVec 32 := Scalar.muli arg1 c2048_i32_613
  let c1920_i32_614 : BitVec 32 := 1920#32
  let v1136 : BitVec 32 := Scalar.addi v1135 c1920_i32_614
  v1136
def k0_mult81 (i : grid0.Coords) : BitVec 32 :=
  let arg1 : BitVec 32 := BitVec.ofNat 32 (i 1).val
  let c2048_i32_620 : BitVec 32 := 2048#32
  let v1149 : BitVec 32 := Scalar.muli arg1 c2048_i32_620
  let c0_i32_621 : BitVec 32 := 0#32
  let v1150 : BitVec 32 := Scalar.addi v1149 c0_i32_621
  v1150
def k0_off6 (i : grid0.Coords) (c0_i32_621 : BitVec 32) : Fin 2 → Nat :=
  let c640_622 : Index := 640#32
  let arg1 : BitVec 32 := BitVec.ofNat 32 (i 1).val
  let c2048_i32_620 : BitVec 32 := 2048#32
  let v1149 : BitVec 32 := Scalar.muli arg1 c2048_i32_620
  let v1150 : BitVec 32 := Scalar.addi v1149 c0_i32_621
  let v1151 : BitVec 32 := v1150
  let v1152 : Index := Scalar.indexCast v1151
  ![640, v1152.toNat]
def k0_mult82 (i : grid0.Coords) : BitVec 32 :=
  let arg1 : BitVec 32 := BitVec.ofNat 32 (i 1).val
  let c2048_i32_628 : BitVec 32 := 2048#32
  let v1163 : BitVec 32 := Scalar.muli arg1 c2048_i32_628
  let c128_i32_629 : BitVec 32 := 128#32
  let v1164 : BitVec 32 := Scalar.addi v1163 c128_i32_629
  v1164
def k0_mult83 (i : grid0.Coords) : BitVec 32 :=
  let arg1 : BitVec 32 := BitVec.ofNat 32 (i 1).val
  let c2048_i32_636 : BitVec 32 := 2048#32
  let v1177 : BitVec 32 := Scalar.muli arg1 c2048_i32_636
  let c256_i32_637 : BitVec 32 := 256#32
  let v1178 : BitVec 32 := Scalar.addi v1177 c256_i32_637
  v1178
def k0_mult84 (i : grid0.Coords) : BitVec 32 :=
  let arg1 : BitVec 32 := BitVec.ofNat 32 (i 1).val
  let c2048_i32_644 : BitVec 32 := 2048#32
  let v1191 : BitVec 32 := Scalar.muli arg1 c2048_i32_644
  let c384_i32_645 : BitVec 32 := 384#32
  let v1192 : BitVec 32 := Scalar.addi v1191 c384_i32_645
  v1192
def k0_mult85 (i : grid0.Coords) : BitVec 32 :=
  let arg1 : BitVec 32 := BitVec.ofNat 32 (i 1).val
  let c2048_i32_652 : BitVec 32 := 2048#32
  let v1205 : BitVec 32 := Scalar.muli arg1 c2048_i32_652
  let c512_i32_653 : BitVec 32 := 512#32
  let v1206 : BitVec 32 := Scalar.addi v1205 c512_i32_653
  v1206
def k0_mult86 (i : grid0.Coords) : BitVec 32 :=
  let arg1 : BitVec 32 := BitVec.ofNat 32 (i 1).val
  let c2048_i32_660 : BitVec 32 := 2048#32
  let v1219 : BitVec 32 := Scalar.muli arg1 c2048_i32_660
  let c640_i32_661 : BitVec 32 := 640#32
  let v1220 : BitVec 32 := Scalar.addi v1219 c640_i32_661
  v1220
def k0_mult87 (i : grid0.Coords) : BitVec 32 :=
  let arg1 : BitVec 32 := BitVec.ofNat 32 (i 1).val
  let c2048_i32_668 : BitVec 32 := 2048#32
  let v1233 : BitVec 32 := Scalar.muli arg1 c2048_i32_668
  let c768_i32_669 : BitVec 32 := 768#32
  let v1234 : BitVec 32 := Scalar.addi v1233 c768_i32_669
  v1234
def k0_mult88 (i : grid0.Coords) : BitVec 32 :=
  let arg1 : BitVec 32 := BitVec.ofNat 32 (i 1).val
  let c2048_i32_676 : BitVec 32 := 2048#32
  let v1247 : BitVec 32 := Scalar.muli arg1 c2048_i32_676
  let c896_i32_677 : BitVec 32 := 896#32
  let v1248 : BitVec 32 := Scalar.addi v1247 c896_i32_677
  v1248
def k0_mult89 (i : grid0.Coords) : BitVec 32 :=
  let arg1 : BitVec 32 := BitVec.ofNat 32 (i 1).val
  let c2048_i32_684 : BitVec 32 := 2048#32
  let v1261 : BitVec 32 := Scalar.muli arg1 c2048_i32_684
  let c1024_i32_685 : BitVec 32 := 1024#32
  let v1262 : BitVec 32 := Scalar.addi v1261 c1024_i32_685
  v1262
def k0_mult90 (i : grid0.Coords) : BitVec 32 :=
  let arg1 : BitVec 32 := BitVec.ofNat 32 (i 1).val
  let c2048_i32_692 : BitVec 32 := 2048#32
  let v1275 : BitVec 32 := Scalar.muli arg1 c2048_i32_692
  let c1152_i32_693 : BitVec 32 := 1152#32
  let v1276 : BitVec 32 := Scalar.addi v1275 c1152_i32_693
  v1276
def k0_mult91 (i : grid0.Coords) : BitVec 32 :=
  let arg1 : BitVec 32 := BitVec.ofNat 32 (i 1).val
  let c2048_i32_700 : BitVec 32 := 2048#32
  let v1289 : BitVec 32 := Scalar.muli arg1 c2048_i32_700
  let c1280_i32_701 : BitVec 32 := 1280#32
  let v1290 : BitVec 32 := Scalar.addi v1289 c1280_i32_701
  v1290
def k0_mult92 (i : grid0.Coords) : BitVec 32 :=
  let arg1 : BitVec 32 := BitVec.ofNat 32 (i 1).val
  let c2048_i32_708 : BitVec 32 := 2048#32
  let v1303 : BitVec 32 := Scalar.muli arg1 c2048_i32_708
  let c1408_i32_709 : BitVec 32 := 1408#32
  let v1304 : BitVec 32 := Scalar.addi v1303 c1408_i32_709
  v1304
def k0_mult93 (i : grid0.Coords) : BitVec 32 :=
  let arg1 : BitVec 32 := BitVec.ofNat 32 (i 1).val
  let c2048_i32_716 : BitVec 32 := 2048#32
  let v1317 : BitVec 32 := Scalar.muli arg1 c2048_i32_716
  let c1536_i32_717 : BitVec 32 := 1536#32
  let v1318 : BitVec 32 := Scalar.addi v1317 c1536_i32_717
  v1318
def k0_mult94 (i : grid0.Coords) : BitVec 32 :=
  let arg1 : BitVec 32 := BitVec.ofNat 32 (i 1).val
  let c2048_i32_724 : BitVec 32 := 2048#32
  let v1331 : BitVec 32 := Scalar.muli arg1 c2048_i32_724
  let c1664_i32_725 : BitVec 32 := 1664#32
  let v1332 : BitVec 32 := Scalar.addi v1331 c1664_i32_725
  v1332
def k0_mult95 (i : grid0.Coords) : BitVec 32 :=
  let arg1 : BitVec 32 := BitVec.ofNat 32 (i 1).val
  let c2048_i32_732 : BitVec 32 := 2048#32
  let v1345 : BitVec 32 := Scalar.muli arg1 c2048_i32_732
  let c1792_i32_733 : BitVec 32 := 1792#32
  let v1346 : BitVec 32 := Scalar.addi v1345 c1792_i32_733
  v1346
def k0_mult96 (i : grid0.Coords) : BitVec 32 :=
  let arg1 : BitVec 32 := BitVec.ofNat 32 (i 1).val
  let c2048_i32_740 : BitVec 32 := 2048#32
  let v1359 : BitVec 32 := Scalar.muli arg1 c2048_i32_740
  let c1920_i32_741 : BitVec 32 := 1920#32
  let v1360 : BitVec 32 := Scalar.addi v1359 c1920_i32_741
  v1360
def k0_mult97 (i : grid0.Coords) : BitVec 32 :=
  let arg1 : BitVec 32 := BitVec.ofNat 32 (i 1).val
  let c2048_i32_747 : BitVec 32 := 2048#32
  let v1373 : BitVec 32 := Scalar.muli arg1 c2048_i32_747
  let c0_i32_748 : BitVec 32 := 0#32
  let v1374 : BitVec 32 := Scalar.addi v1373 c0_i32_748
  v1374
def k0_off7 (i : grid0.Coords) (c0_i32_748 : BitVec 32) : Fin 2 → Nat :=
  let c768_749 : Index := 768#32
  let arg1 : BitVec 32 := BitVec.ofNat 32 (i 1).val
  let c2048_i32_747 : BitVec 32 := 2048#32
  let v1373 : BitVec 32 := Scalar.muli arg1 c2048_i32_747
  let v1374 : BitVec 32 := Scalar.addi v1373 c0_i32_748
  let v1375 : BitVec 32 := v1374
  let v1376 : Index := Scalar.indexCast v1375
  ![768, v1376.toNat]
def k0_mult98 (i : grid0.Coords) : BitVec 32 :=
  let arg1 : BitVec 32 := BitVec.ofNat 32 (i 1).val
  let c2048_i32_755 : BitVec 32 := 2048#32
  let v1387 : BitVec 32 := Scalar.muli arg1 c2048_i32_755
  let c128_i32_756 : BitVec 32 := 128#32
  let v1388 : BitVec 32 := Scalar.addi v1387 c128_i32_756
  v1388
def k0_mult99 (i : grid0.Coords) : BitVec 32 :=
  let arg1 : BitVec 32 := BitVec.ofNat 32 (i 1).val
  let c2048_i32_763 : BitVec 32 := 2048#32
  let v1401 : BitVec 32 := Scalar.muli arg1 c2048_i32_763
  let c256_i32_764 : BitVec 32 := 256#32
  let v1402 : BitVec 32 := Scalar.addi v1401 c256_i32_764
  v1402
def k0_mult100 (i : grid0.Coords) : BitVec 32 :=
  let arg1 : BitVec 32 := BitVec.ofNat 32 (i 1).val
  let c2048_i32_771 : BitVec 32 := 2048#32
  let v1415 : BitVec 32 := Scalar.muli arg1 c2048_i32_771
  let c384_i32_772 : BitVec 32 := 384#32
  let v1416 : BitVec 32 := Scalar.addi v1415 c384_i32_772
  v1416
def k0_mult101 (i : grid0.Coords) : BitVec 32 :=
  let arg1 : BitVec 32 := BitVec.ofNat 32 (i 1).val
  let c2048_i32_779 : BitVec 32 := 2048#32
  let v1429 : BitVec 32 := Scalar.muli arg1 c2048_i32_779
  let c512_i32_780 : BitVec 32 := 512#32
  let v1430 : BitVec 32 := Scalar.addi v1429 c512_i32_780
  v1430
def k0_mult102 (i : grid0.Coords) : BitVec 32 :=
  let arg1 : BitVec 32 := BitVec.ofNat 32 (i 1).val
  let c2048_i32_787 : BitVec 32 := 2048#32
  let v1443 : BitVec 32 := Scalar.muli arg1 c2048_i32_787
  let c640_i32_788 : BitVec 32 := 640#32
  let v1444 : BitVec 32 := Scalar.addi v1443 c640_i32_788
  v1444
def k0_mult103 (i : grid0.Coords) : BitVec 32 :=
  let arg1 : BitVec 32 := BitVec.ofNat 32 (i 1).val
  let c2048_i32_795 : BitVec 32 := 2048#32
  let v1457 : BitVec 32 := Scalar.muli arg1 c2048_i32_795
  let c768_i32_796 : BitVec 32 := 768#32
  let v1458 : BitVec 32 := Scalar.addi v1457 c768_i32_796
  v1458
def k0_mult104 (i : grid0.Coords) : BitVec 32 :=
  let arg1 : BitVec 32 := BitVec.ofNat 32 (i 1).val
  let c2048_i32_803 : BitVec 32 := 2048#32
  let v1471 : BitVec 32 := Scalar.muli arg1 c2048_i32_803
  let c896_i32_804 : BitVec 32 := 896#32
  let v1472 : BitVec 32 := Scalar.addi v1471 c896_i32_804
  v1472
def k0_mult105 (i : grid0.Coords) : BitVec 32 :=
  let arg1 : BitVec 32 := BitVec.ofNat 32 (i 1).val
  let c2048_i32_811 : BitVec 32 := 2048#32
  let v1485 : BitVec 32 := Scalar.muli arg1 c2048_i32_811
  let c1024_i32_812 : BitVec 32 := 1024#32
  let v1486 : BitVec 32 := Scalar.addi v1485 c1024_i32_812
  v1486
def k0_mult106 (i : grid0.Coords) : BitVec 32 :=
  let arg1 : BitVec 32 := BitVec.ofNat 32 (i 1).val
  let c2048_i32_819 : BitVec 32 := 2048#32
  let v1499 : BitVec 32 := Scalar.muli arg1 c2048_i32_819
  let c1152_i32_820 : BitVec 32 := 1152#32
  let v1500 : BitVec 32 := Scalar.addi v1499 c1152_i32_820
  v1500
def k0_mult107 (i : grid0.Coords) : BitVec 32 :=
  let arg1 : BitVec 32 := BitVec.ofNat 32 (i 1).val
  let c2048_i32_827 : BitVec 32 := 2048#32
  let v1513 : BitVec 32 := Scalar.muli arg1 c2048_i32_827
  let c1280_i32_828 : BitVec 32 := 1280#32
  let v1514 : BitVec 32 := Scalar.addi v1513 c1280_i32_828
  v1514
def k0_mult108 (i : grid0.Coords) : BitVec 32 :=
  let arg1 : BitVec 32 := BitVec.ofNat 32 (i 1).val
  let c2048_i32_835 : BitVec 32 := 2048#32
  let v1527 : BitVec 32 := Scalar.muli arg1 c2048_i32_835
  let c1408_i32_836 : BitVec 32 := 1408#32
  let v1528 : BitVec 32 := Scalar.addi v1527 c1408_i32_836
  v1528
def k0_mult109 (i : grid0.Coords) : BitVec 32 :=
  let arg1 : BitVec 32 := BitVec.ofNat 32 (i 1).val
  let c2048_i32_843 : BitVec 32 := 2048#32
  let v1541 : BitVec 32 := Scalar.muli arg1 c2048_i32_843
  let c1536_i32_844 : BitVec 32 := 1536#32
  let v1542 : BitVec 32 := Scalar.addi v1541 c1536_i32_844
  v1542
def k0_mult110 (i : grid0.Coords) : BitVec 32 :=
  let arg1 : BitVec 32 := BitVec.ofNat 32 (i 1).val
  let c2048_i32_851 : BitVec 32 := 2048#32
  let v1555 : BitVec 32 := Scalar.muli arg1 c2048_i32_851
  let c1664_i32_852 : BitVec 32 := 1664#32
  let v1556 : BitVec 32 := Scalar.addi v1555 c1664_i32_852
  v1556
def k0_mult111 (i : grid0.Coords) : BitVec 32 :=
  let arg1 : BitVec 32 := BitVec.ofNat 32 (i 1).val
  let c2048_i32_859 : BitVec 32 := 2048#32
  let v1569 : BitVec 32 := Scalar.muli arg1 c2048_i32_859
  let c1792_i32_860 : BitVec 32 := 1792#32
  let v1570 : BitVec 32 := Scalar.addi v1569 c1792_i32_860
  v1570
def k0_mult112 (i : grid0.Coords) : BitVec 32 :=
  let arg1 : BitVec 32 := BitVec.ofNat 32 (i 1).val
  let c2048_i32_867 : BitVec 32 := 2048#32
  let v1583 : BitVec 32 := Scalar.muli arg1 c2048_i32_867
  let c1920_i32_868 : BitVec 32 := 1920#32
  let v1584 : BitVec 32 := Scalar.addi v1583 c1920_i32_868
  v1584
def k0_mult113 (i : grid0.Coords) : BitVec 32 :=
  let arg1 : BitVec 32 := BitVec.ofNat 32 (i 1).val
  let c2048_i32_874 : BitVec 32 := 2048#32
  let v1597 : BitVec 32 := Scalar.muli arg1 c2048_i32_874
  let c0_i32_875 : BitVec 32 := 0#32
  let v1598 : BitVec 32 := Scalar.addi v1597 c0_i32_875
  v1598
def k0_off8 (i : grid0.Coords) (c0_i32_875 : BitVec 32) : Fin 2 → Nat :=
  let c896_876 : Index := 896#32
  let arg1 : BitVec 32 := BitVec.ofNat 32 (i 1).val
  let c2048_i32_874 : BitVec 32 := 2048#32
  let v1597 : BitVec 32 := Scalar.muli arg1 c2048_i32_874
  let v1598 : BitVec 32 := Scalar.addi v1597 c0_i32_875
  let v1599 : BitVec 32 := v1598
  let v1600 : Index := Scalar.indexCast v1599
  ![896, v1600.toNat]
def k0_mult114 (i : grid0.Coords) : BitVec 32 :=
  let arg1 : BitVec 32 := BitVec.ofNat 32 (i 1).val
  let c2048_i32_882 : BitVec 32 := 2048#32
  let v1611 : BitVec 32 := Scalar.muli arg1 c2048_i32_882
  let c128_i32_883 : BitVec 32 := 128#32
  let v1612 : BitVec 32 := Scalar.addi v1611 c128_i32_883
  v1612
def k0_mult115 (i : grid0.Coords) : BitVec 32 :=
  let arg1 : BitVec 32 := BitVec.ofNat 32 (i 1).val
  let c2048_i32_890 : BitVec 32 := 2048#32
  let v1625 : BitVec 32 := Scalar.muli arg1 c2048_i32_890
  let c256_i32_891 : BitVec 32 := 256#32
  let v1626 : BitVec 32 := Scalar.addi v1625 c256_i32_891
  v1626
def k0_mult116 (i : grid0.Coords) : BitVec 32 :=
  let arg1 : BitVec 32 := BitVec.ofNat 32 (i 1).val
  let c2048_i32_898 : BitVec 32 := 2048#32
  let v1639 : BitVec 32 := Scalar.muli arg1 c2048_i32_898
  let c384_i32_899 : BitVec 32 := 384#32
  let v1640 : BitVec 32 := Scalar.addi v1639 c384_i32_899
  v1640
def k0_mult117 (i : grid0.Coords) : BitVec 32 :=
  let arg1 : BitVec 32 := BitVec.ofNat 32 (i 1).val
  let c2048_i32_906 : BitVec 32 := 2048#32
  let v1653 : BitVec 32 := Scalar.muli arg1 c2048_i32_906
  let c512_i32_907 : BitVec 32 := 512#32
  let v1654 : BitVec 32 := Scalar.addi v1653 c512_i32_907
  v1654
def k0_mult118 (i : grid0.Coords) : BitVec 32 :=
  let arg1 : BitVec 32 := BitVec.ofNat 32 (i 1).val
  let c2048_i32_914 : BitVec 32 := 2048#32
  let v1667 : BitVec 32 := Scalar.muli arg1 c2048_i32_914
  let c640_i32_915 : BitVec 32 := 640#32
  let v1668 : BitVec 32 := Scalar.addi v1667 c640_i32_915
  v1668
def k0_mult119 (i : grid0.Coords) : BitVec 32 :=
  let arg1 : BitVec 32 := BitVec.ofNat 32 (i 1).val
  let c2048_i32_922 : BitVec 32 := 2048#32
  let v1681 : BitVec 32 := Scalar.muli arg1 c2048_i32_922
  let c768_i32_923 : BitVec 32 := 768#32
  let v1682 : BitVec 32 := Scalar.addi v1681 c768_i32_923
  v1682
def k0_mult120 (i : grid0.Coords) : BitVec 32 :=
  let arg1 : BitVec 32 := BitVec.ofNat 32 (i 1).val
  let c2048_i32_930 : BitVec 32 := 2048#32
  let v1695 : BitVec 32 := Scalar.muli arg1 c2048_i32_930
  let c896_i32_931 : BitVec 32 := 896#32
  let v1696 : BitVec 32 := Scalar.addi v1695 c896_i32_931
  v1696
def k0_mult121 (i : grid0.Coords) : BitVec 32 :=
  let arg1 : BitVec 32 := BitVec.ofNat 32 (i 1).val
  let c2048_i32_938 : BitVec 32 := 2048#32
  let v1709 : BitVec 32 := Scalar.muli arg1 c2048_i32_938
  let c1024_i32_939 : BitVec 32 := 1024#32
  let v1710 : BitVec 32 := Scalar.addi v1709 c1024_i32_939
  v1710
def k0_mult122 (i : grid0.Coords) : BitVec 32 :=
  let arg1 : BitVec 32 := BitVec.ofNat 32 (i 1).val
  let c2048_i32_946 : BitVec 32 := 2048#32
  let v1723 : BitVec 32 := Scalar.muli arg1 c2048_i32_946
  let c1152_i32_947 : BitVec 32 := 1152#32
  let v1724 : BitVec 32 := Scalar.addi v1723 c1152_i32_947
  v1724
def k0_mult123 (i : grid0.Coords) : BitVec 32 :=
  let arg1 : BitVec 32 := BitVec.ofNat 32 (i 1).val
  let c2048_i32_954 : BitVec 32 := 2048#32
  let v1737 : BitVec 32 := Scalar.muli arg1 c2048_i32_954
  let c1280_i32_955 : BitVec 32 := 1280#32
  let v1738 : BitVec 32 := Scalar.addi v1737 c1280_i32_955
  v1738
def k0_mult124 (i : grid0.Coords) : BitVec 32 :=
  let arg1 : BitVec 32 := BitVec.ofNat 32 (i 1).val
  let c2048_i32_962 : BitVec 32 := 2048#32
  let v1751 : BitVec 32 := Scalar.muli arg1 c2048_i32_962
  let c1408_i32_963 : BitVec 32 := 1408#32
  let v1752 : BitVec 32 := Scalar.addi v1751 c1408_i32_963
  v1752
def k0_mult125 (i : grid0.Coords) : BitVec 32 :=
  let arg1 : BitVec 32 := BitVec.ofNat 32 (i 1).val
  let c2048_i32_970 : BitVec 32 := 2048#32
  let v1765 : BitVec 32 := Scalar.muli arg1 c2048_i32_970
  let c1536_i32_971 : BitVec 32 := 1536#32
  let v1766 : BitVec 32 := Scalar.addi v1765 c1536_i32_971
  v1766
def k0_mult126 (i : grid0.Coords) : BitVec 32 :=
  let arg1 : BitVec 32 := BitVec.ofNat 32 (i 1).val
  let c2048_i32_978 : BitVec 32 := 2048#32
  let v1779 : BitVec 32 := Scalar.muli arg1 c2048_i32_978
  let c1664_i32_979 : BitVec 32 := 1664#32
  let v1780 : BitVec 32 := Scalar.addi v1779 c1664_i32_979
  v1780
def k0_mult127 (i : grid0.Coords) : BitVec 32 :=
  let arg1 : BitVec 32 := BitVec.ofNat 32 (i 1).val
  let c2048_i32_986 : BitVec 32 := 2048#32
  let v1793 : BitVec 32 := Scalar.muli arg1 c2048_i32_986
  let c1792_i32_987 : BitVec 32 := 1792#32
  let v1794 : BitVec 32 := Scalar.addi v1793 c1792_i32_987
  v1794
def k0_mult128 (i : grid0.Coords) : BitVec 32 :=
  let arg1 : BitVec 32 := BitVec.ofNat 32 (i 1).val
  let c2048_i32_994 : BitVec 32 := 2048#32
  let v1807 : BitVec 32 := Scalar.muli arg1 c2048_i32_994
  let c1920_i32_995 : BitVec 32 := 1920#32
  let v1808 : BitVec 32 := Scalar.addi v1807 c1920_i32_995
  v1808
def k0_mult129 (i : grid0.Coords) : BitVec 32 :=
  let arg1 : BitVec 32 := BitVec.ofNat 32 (i 1).val
  let c2048_i32_1001 : BitVec 32 := 2048#32
  let v1821 : BitVec 32 := Scalar.muli arg1 c2048_i32_1001
  let c0_i32_1002 : BitVec 32 := 0#32
  let v1822 : BitVec 32 := Scalar.addi v1821 c0_i32_1002
  v1822
def k0_off9 (i : grid0.Coords) (c0_i32_1002 : BitVec 32) : Fin 2 → Nat :=
  let c1024_1003 : Index := 1024#32
  let arg1 : BitVec 32 := BitVec.ofNat 32 (i 1).val
  let c2048_i32_1001 : BitVec 32 := 2048#32
  let v1821 : BitVec 32 := Scalar.muli arg1 c2048_i32_1001
  let v1822 : BitVec 32 := Scalar.addi v1821 c0_i32_1002
  let v1823 : BitVec 32 := v1822
  let v1824 : Index := Scalar.indexCast v1823
  ![1024, v1824.toNat]
def k0_mult130 (i : grid0.Coords) : BitVec 32 :=
  let arg1 : BitVec 32 := BitVec.ofNat 32 (i 1).val
  let c2048_i32_1009 : BitVec 32 := 2048#32
  let v1835 : BitVec 32 := Scalar.muli arg1 c2048_i32_1009
  let c128_i32_1010 : BitVec 32 := 128#32
  let v1836 : BitVec 32 := Scalar.addi v1835 c128_i32_1010
  v1836
def k0_mult131 (i : grid0.Coords) : BitVec 32 :=
  let arg1 : BitVec 32 := BitVec.ofNat 32 (i 1).val
  let c2048_i32_1017 : BitVec 32 := 2048#32
  let v1849 : BitVec 32 := Scalar.muli arg1 c2048_i32_1017
  let c256_i32_1018 : BitVec 32 := 256#32
  let v1850 : BitVec 32 := Scalar.addi v1849 c256_i32_1018
  v1850
def k0_mult132 (i : grid0.Coords) : BitVec 32 :=
  let arg1 : BitVec 32 := BitVec.ofNat 32 (i 1).val
  let c2048_i32_1025 : BitVec 32 := 2048#32
  let v1863 : BitVec 32 := Scalar.muli arg1 c2048_i32_1025
  let c384_i32_1026 : BitVec 32 := 384#32
  let v1864 : BitVec 32 := Scalar.addi v1863 c384_i32_1026
  v1864
def k0_mult133 (i : grid0.Coords) : BitVec 32 :=
  let arg1 : BitVec 32 := BitVec.ofNat 32 (i 1).val
  let c2048_i32_1033 : BitVec 32 := 2048#32
  let v1877 : BitVec 32 := Scalar.muli arg1 c2048_i32_1033
  let c512_i32_1034 : BitVec 32 := 512#32
  let v1878 : BitVec 32 := Scalar.addi v1877 c512_i32_1034
  v1878
def k0_mult134 (i : grid0.Coords) : BitVec 32 :=
  let arg1 : BitVec 32 := BitVec.ofNat 32 (i 1).val
  let c2048_i32_1041 : BitVec 32 := 2048#32
  let v1891 : BitVec 32 := Scalar.muli arg1 c2048_i32_1041
  let c640_i32_1042 : BitVec 32 := 640#32
  let v1892 : BitVec 32 := Scalar.addi v1891 c640_i32_1042
  v1892
def k0_mult135 (i : grid0.Coords) : BitVec 32 :=
  let arg1 : BitVec 32 := BitVec.ofNat 32 (i 1).val
  let c2048_i32_1049 : BitVec 32 := 2048#32
  let v1905 : BitVec 32 := Scalar.muli arg1 c2048_i32_1049
  let c768_i32_1050 : BitVec 32 := 768#32
  let v1906 : BitVec 32 := Scalar.addi v1905 c768_i32_1050
  v1906
def k0_mult136 (i : grid0.Coords) : BitVec 32 :=
  let arg1 : BitVec 32 := BitVec.ofNat 32 (i 1).val
  let c2048_i32_1057 : BitVec 32 := 2048#32
  let v1919 : BitVec 32 := Scalar.muli arg1 c2048_i32_1057
  let c896_i32_1058 : BitVec 32 := 896#32
  let v1920 : BitVec 32 := Scalar.addi v1919 c896_i32_1058
  v1920
def k0_mult137 (i : grid0.Coords) : BitVec 32 :=
  let arg1 : BitVec 32 := BitVec.ofNat 32 (i 1).val
  let c2048_i32_1065 : BitVec 32 := 2048#32
  let v1933 : BitVec 32 := Scalar.muli arg1 c2048_i32_1065
  let c1024_i32_1066 : BitVec 32 := 1024#32
  let v1934 : BitVec 32 := Scalar.addi v1933 c1024_i32_1066
  v1934
def k0_mult138 (i : grid0.Coords) : BitVec 32 :=
  let arg1 : BitVec 32 := BitVec.ofNat 32 (i 1).val
  let c2048_i32_1073 : BitVec 32 := 2048#32
  let v1947 : BitVec 32 := Scalar.muli arg1 c2048_i32_1073
  let c1152_i32_1074 : BitVec 32 := 1152#32
  let v1948 : BitVec 32 := Scalar.addi v1947 c1152_i32_1074
  v1948
def k0_mult139 (i : grid0.Coords) : BitVec 32 :=
  let arg1 : BitVec 32 := BitVec.ofNat 32 (i 1).val
  let c2048_i32_1081 : BitVec 32 := 2048#32
  let v1961 : BitVec 32 := Scalar.muli arg1 c2048_i32_1081
  let c1280_i32_1082 : BitVec 32 := 1280#32
  let v1962 : BitVec 32 := Scalar.addi v1961 c1280_i32_1082
  v1962
def k0_mult140 (i : grid0.Coords) : BitVec 32 :=
  let arg1 : BitVec 32 := BitVec.ofNat 32 (i 1).val
  let c2048_i32_1089 : BitVec 32 := 2048#32
  let v1975 : BitVec 32 := Scalar.muli arg1 c2048_i32_1089
  let c1408_i32_1090 : BitVec 32 := 1408#32
  let v1976 : BitVec 32 := Scalar.addi v1975 c1408_i32_1090
  v1976
def k0_mult141 (i : grid0.Coords) : BitVec 32 :=
  let arg1 : BitVec 32 := BitVec.ofNat 32 (i 1).val
  let c2048_i32_1097 : BitVec 32 := 2048#32
  let v1989 : BitVec 32 := Scalar.muli arg1 c2048_i32_1097
  let c1536_i32_1098 : BitVec 32 := 1536#32
  let v1990 : BitVec 32 := Scalar.addi v1989 c1536_i32_1098
  v1990
def k0_mult142 (i : grid0.Coords) : BitVec 32 :=
  let arg1 : BitVec 32 := BitVec.ofNat 32 (i 1).val
  let c2048_i32_1105 : BitVec 32 := 2048#32
  let v2003 : BitVec 32 := Scalar.muli arg1 c2048_i32_1105
  let c1664_i32_1106 : BitVec 32 := 1664#32
  let v2004 : BitVec 32 := Scalar.addi v2003 c1664_i32_1106
  v2004
def k0_mult143 (i : grid0.Coords) : BitVec 32 :=
  let arg1 : BitVec 32 := BitVec.ofNat 32 (i 1).val
  let c2048_i32_1113 : BitVec 32 := 2048#32
  let v2017 : BitVec 32 := Scalar.muli arg1 c2048_i32_1113
  let c1792_i32_1114 : BitVec 32 := 1792#32
  let v2018 : BitVec 32 := Scalar.addi v2017 c1792_i32_1114
  v2018
def k0_mult144 (i : grid0.Coords) : BitVec 32 :=
  let arg1 : BitVec 32 := BitVec.ofNat 32 (i 1).val
  let c2048_i32_1121 : BitVec 32 := 2048#32
  let v2031 : BitVec 32 := Scalar.muli arg1 c2048_i32_1121
  let c1920_i32_1122 : BitVec 32 := 1920#32
  let v2032 : BitVec 32 := Scalar.addi v2031 c1920_i32_1122
  v2032
def k0_cond5 (i : grid0.Coords) : BitVec 1 :=
  let arg0 : BitVec 32 := BitVec.ofNat 32 (i 0).val
  let c0_i32_8 : BitVec 32 := 0#32
  let v16 : BitVec 1 := Scalar.cmpi .sgt arg0 c0_i32_8
  let v17 : BitVec 32 := Scalar.extui v16
  let c0_i32_9 : BitVec 32 := 0#32
  let v18 : BitVec 1 := Scalar.cmpi .ne v17 c0_i32_9
  v18

def k0_mult145 (i : grid0.Coords) : BitVec 32 :=
  let arg1 : BitVec 32 := BitVec.ofNat 32 (i 1).val
  let c2048_i32 : BitVec 32 := 2048#32
  let v24 : BitVec 32 := Scalar.muli arg1 c2048_i32
  let c0_i32_15 : BitVec 32 := 0#32
  let v25 : BitVec 32 := Scalar.addi v24 c0_i32_15
  v25
def k0_off10 (i : grid0.Coords) (c0_i32_15 : BitVec 32) : Fin 2 → Nat :=
  let c0_16 : Index := 0#32
  let arg1 : BitVec 32 := BitVec.ofNat 32 (i 1).val
  let c2048_i32 : BitVec 32 := 2048#32
  let v24 : BitVec 32 := Scalar.muli arg1 c2048_i32
  let v25 : BitVec 32 := Scalar.addi v24 c0_i32_15
  let v26 : BitVec 32 := v25
  let v27 : Index := Scalar.indexCast v26
  ![0, v27.toNat]
def k0_mult146 (i : grid0.Coords) : BitVec 32 :=
  let arg1 : BitVec 32 := BitVec.ofNat 32 (i 1).val
  let c2048_i32_22 : BitVec 32 := 2048#32
  let v42 : BitVec 32 := Scalar.muli arg1 c2048_i32_22
  let c128_i32 : BitVec 32 := 128#32
  let v43 : BitVec 32 := Scalar.addi v42 c128_i32
  v43
def k0_mult147 (i : grid0.Coords) : BitVec 32 :=
  let arg1 : BitVec 32 := BitVec.ofNat 32 (i 1).val
  let c2048_i32_29 : BitVec 32 := 2048#32
  let v60 : BitVec 32 := Scalar.muli arg1 c2048_i32_29
  let c256_i32 : BitVec 32 := 256#32
  let v61 : BitVec 32 := Scalar.addi v60 c256_i32
  v61
def k0_mult148 (i : grid0.Coords) : BitVec 32 :=
  let arg1 : BitVec 32 := BitVec.ofNat 32 (i 1).val
  let c2048_i32_36 : BitVec 32 := 2048#32
  let v78 : BitVec 32 := Scalar.muli arg1 c2048_i32_36
  let c384_i32 : BitVec 32 := 384#32
  let v79 : BitVec 32 := Scalar.addi v78 c384_i32
  v79
def k0_mult149 (i : grid0.Coords) : BitVec 32 :=
  let arg1 : BitVec 32 := BitVec.ofNat 32 (i 1).val
  let c2048_i32_43 : BitVec 32 := 2048#32
  let v96 : BitVec 32 := Scalar.muli arg1 c2048_i32_43
  let c512_i32 : BitVec 32 := 512#32
  let v97 : BitVec 32 := Scalar.addi v96 c512_i32
  v97
def k0_mult150 (i : grid0.Coords) : BitVec 32 :=
  let arg1 : BitVec 32 := BitVec.ofNat 32 (i 1).val
  let c2048_i32_50 : BitVec 32 := 2048#32
  let v114 : BitVec 32 := Scalar.muli arg1 c2048_i32_50
  let c640_i32 : BitVec 32 := 640#32
  let v115 : BitVec 32 := Scalar.addi v114 c640_i32
  v115
def k0_mult151 (i : grid0.Coords) : BitVec 32 :=
  let arg1 : BitVec 32 := BitVec.ofNat 32 (i 1).val
  let c2048_i32_57 : BitVec 32 := 2048#32
  let v132 : BitVec 32 := Scalar.muli arg1 c2048_i32_57
  let c768_i32 : BitVec 32 := 768#32
  let v133 : BitVec 32 := Scalar.addi v132 c768_i32
  v133
def k0_mult152 (i : grid0.Coords) : BitVec 32 :=
  let arg1 : BitVec 32 := BitVec.ofNat 32 (i 1).val
  let c2048_i32_64 : BitVec 32 := 2048#32
  let v150 : BitVec 32 := Scalar.muli arg1 c2048_i32_64
  let c896_i32 : BitVec 32 := 896#32
  let v151 : BitVec 32 := Scalar.addi v150 c896_i32
  v151
def k0_mult153 (i : grid0.Coords) : BitVec 32 :=
  let arg1 : BitVec 32 := BitVec.ofNat 32 (i 1).val
  let c2048_i32_71 : BitVec 32 := 2048#32
  let v168 : BitVec 32 := Scalar.muli arg1 c2048_i32_71
  let c1024_i32 : BitVec 32 := 1024#32
  let v169 : BitVec 32 := Scalar.addi v168 c1024_i32
  v169
def k0_mult154 (i : grid0.Coords) : BitVec 32 :=
  let arg1 : BitVec 32 := BitVec.ofNat 32 (i 1).val
  let c2048_i32_78 : BitVec 32 := 2048#32
  let v186 : BitVec 32 := Scalar.muli arg1 c2048_i32_78
  let c1152_i32 : BitVec 32 := 1152#32
  let v187 : BitVec 32 := Scalar.addi v186 c1152_i32
  v187
def k0_mult155 (i : grid0.Coords) : BitVec 32 :=
  let arg1 : BitVec 32 := BitVec.ofNat 32 (i 1).val
  let c2048_i32_85 : BitVec 32 := 2048#32
  let v204 : BitVec 32 := Scalar.muli arg1 c2048_i32_85
  let c1280_i32 : BitVec 32 := 1280#32
  let v205 : BitVec 32 := Scalar.addi v204 c1280_i32
  v205
def k0_mult156 (i : grid0.Coords) : BitVec 32 :=
  let arg1 : BitVec 32 := BitVec.ofNat 32 (i 1).val
  let c2048_i32_92 : BitVec 32 := 2048#32
  let v222 : BitVec 32 := Scalar.muli arg1 c2048_i32_92
  let c1408_i32 : BitVec 32 := 1408#32
  let v223 : BitVec 32 := Scalar.addi v222 c1408_i32
  v223
def k0_mult157 (i : grid0.Coords) : BitVec 32 :=
  let arg1 : BitVec 32 := BitVec.ofNat 32 (i 1).val
  let c2048_i32_99 : BitVec 32 := 2048#32
  let v240 : BitVec 32 := Scalar.muli arg1 c2048_i32_99
  let c1536_i32 : BitVec 32 := 1536#32
  let v241 : BitVec 32 := Scalar.addi v240 c1536_i32
  v241
def k0_mult158 (i : grid0.Coords) : BitVec 32 :=
  let arg1 : BitVec 32 := BitVec.ofNat 32 (i 1).val
  let c2048_i32_106 : BitVec 32 := 2048#32
  let v258 : BitVec 32 := Scalar.muli arg1 c2048_i32_106
  let c1664_i32 : BitVec 32 := 1664#32
  let v259 : BitVec 32 := Scalar.addi v258 c1664_i32
  v259
def k0_mult159 (i : grid0.Coords) : BitVec 32 :=
  let arg1 : BitVec 32 := BitVec.ofNat 32 (i 1).val
  let c2048_i32_113 : BitVec 32 := 2048#32
  let v276 : BitVec 32 := Scalar.muli arg1 c2048_i32_113
  let c1792_i32 : BitVec 32 := 1792#32
  let v277 : BitVec 32 := Scalar.addi v276 c1792_i32
  v277
def k0_mult160 (i : grid0.Coords) : BitVec 32 :=
  let arg1 : BitVec 32 := BitVec.ofNat 32 (i 1).val
  let c2048_i32_120 : BitVec 32 := 2048#32
  let v294 : BitVec 32 := Scalar.muli arg1 c2048_i32_120
  let c1920_i32 : BitVec 32 := 1920#32
  let v295 : BitVec 32 := Scalar.addi v294 c1920_i32
  v295
def k0_mult161 (i : grid0.Coords) : BitVec 32 :=
  let arg1 : BitVec 32 := BitVec.ofNat 32 (i 1).val
  let c2048_i32_130 : BitVec 32 := 2048#32
  let v314 : BitVec 32 := Scalar.muli arg1 c2048_i32_130
  let c0_i32_131 : BitVec 32 := 0#32
  let v315 : BitVec 32 := Scalar.addi v314 c0_i32_131
  v315
def k0_off11 (i : grid0.Coords) (c0_i32_131 : BitVec 32) : Fin 2 → Nat :=
  let c32_132 : Index := 32#32
  let arg1 : BitVec 32 := BitVec.ofNat 32 (i 1).val
  let c2048_i32_130 : BitVec 32 := 2048#32
  let v314 : BitVec 32 := Scalar.muli arg1 c2048_i32_130
  let v315 : BitVec 32 := Scalar.addi v314 c0_i32_131
  let v316 : BitVec 32 := v315
  let v317 : Index := Scalar.indexCast v316
  ![32, v317.toNat]
def k0_mult162 (i : grid0.Coords) : BitVec 32 :=
  let arg1 : BitVec 32 := BitVec.ofNat 32 (i 1).val
  let c2048_i32_139 : BitVec 32 := 2048#32
  let v332 : BitVec 32 := Scalar.muli arg1 c2048_i32_139
  let c128_i32_140 : BitVec 32 := 128#32
  let v333 : BitVec 32 := Scalar.addi v332 c128_i32_140
  v333
def k0_mult163 (i : grid0.Coords) : BitVec 32 :=
  let arg1 : BitVec 32 := BitVec.ofNat 32 (i 1).val
  let c2048_i32_148 : BitVec 32 := 2048#32
  let v350 : BitVec 32 := Scalar.muli arg1 c2048_i32_148
  let c256_i32_149 : BitVec 32 := 256#32
  let v351 : BitVec 32 := Scalar.addi v350 c256_i32_149
  v351
def k0_mult164 (i : grid0.Coords) : BitVec 32 :=
  let arg1 : BitVec 32 := BitVec.ofNat 32 (i 1).val
  let c2048_i32_157 : BitVec 32 := 2048#32
  let v368 : BitVec 32 := Scalar.muli arg1 c2048_i32_157
  let c384_i32_158 : BitVec 32 := 384#32
  let v369 : BitVec 32 := Scalar.addi v368 c384_i32_158
  v369
def k0_mult165 (i : grid0.Coords) : BitVec 32 :=
  let arg1 : BitVec 32 := BitVec.ofNat 32 (i 1).val
  let c2048_i32_166 : BitVec 32 := 2048#32
  let v386 : BitVec 32 := Scalar.muli arg1 c2048_i32_166
  let c512_i32_167 : BitVec 32 := 512#32
  let v387 : BitVec 32 := Scalar.addi v386 c512_i32_167
  v387
def k0_mult166 (i : grid0.Coords) : BitVec 32 :=
  let arg1 : BitVec 32 := BitVec.ofNat 32 (i 1).val
  let c2048_i32_175 : BitVec 32 := 2048#32
  let v404 : BitVec 32 := Scalar.muli arg1 c2048_i32_175
  let c640_i32_176 : BitVec 32 := 640#32
  let v405 : BitVec 32 := Scalar.addi v404 c640_i32_176
  v405
def k0_mult167 (i : grid0.Coords) : BitVec 32 :=
  let arg1 : BitVec 32 := BitVec.ofNat 32 (i 1).val
  let c2048_i32_184 : BitVec 32 := 2048#32
  let v422 : BitVec 32 := Scalar.muli arg1 c2048_i32_184
  let c768_i32_185 : BitVec 32 := 768#32
  let v423 : BitVec 32 := Scalar.addi v422 c768_i32_185
  v423
def k0_mult168 (i : grid0.Coords) : BitVec 32 :=
  let arg1 : BitVec 32 := BitVec.ofNat 32 (i 1).val
  let c2048_i32_193 : BitVec 32 := 2048#32
  let v440 : BitVec 32 := Scalar.muli arg1 c2048_i32_193
  let c896_i32_194 : BitVec 32 := 896#32
  let v441 : BitVec 32 := Scalar.addi v440 c896_i32_194
  v441
def k0_mult169 (i : grid0.Coords) : BitVec 32 :=
  let arg1 : BitVec 32 := BitVec.ofNat 32 (i 1).val
  let c2048_i32_202 : BitVec 32 := 2048#32
  let v458 : BitVec 32 := Scalar.muli arg1 c2048_i32_202
  let c1024_i32_203 : BitVec 32 := 1024#32
  let v459 : BitVec 32 := Scalar.addi v458 c1024_i32_203
  v459
def k0_mult170 (i : grid0.Coords) : BitVec 32 :=
  let arg1 : BitVec 32 := BitVec.ofNat 32 (i 1).val
  let c2048_i32_211 : BitVec 32 := 2048#32
  let v476 : BitVec 32 := Scalar.muli arg1 c2048_i32_211
  let c1152_i32_212 : BitVec 32 := 1152#32
  let v477 : BitVec 32 := Scalar.addi v476 c1152_i32_212
  v477
def k0_mult171 (i : grid0.Coords) : BitVec 32 :=
  let arg1 : BitVec 32 := BitVec.ofNat 32 (i 1).val
  let c2048_i32_220 : BitVec 32 := 2048#32
  let v494 : BitVec 32 := Scalar.muli arg1 c2048_i32_220
  let c1280_i32_221 : BitVec 32 := 1280#32
  let v495 : BitVec 32 := Scalar.addi v494 c1280_i32_221
  v495
def k0_mult172 (i : grid0.Coords) : BitVec 32 :=
  let arg1 : BitVec 32 := BitVec.ofNat 32 (i 1).val
  let c2048_i32_229 : BitVec 32 := 2048#32
  let v512 : BitVec 32 := Scalar.muli arg1 c2048_i32_229
  let c1408_i32_230 : BitVec 32 := 1408#32
  let v513 : BitVec 32 := Scalar.addi v512 c1408_i32_230
  v513
def k0_mult173 (i : grid0.Coords) : BitVec 32 :=
  let arg1 : BitVec 32 := BitVec.ofNat 32 (i 1).val
  let c2048_i32_238 : BitVec 32 := 2048#32
  let v530 : BitVec 32 := Scalar.muli arg1 c2048_i32_238
  let c1536_i32_239 : BitVec 32 := 1536#32
  let v531 : BitVec 32 := Scalar.addi v530 c1536_i32_239
  v531
def k0_mult174 (i : grid0.Coords) : BitVec 32 :=
  let arg1 : BitVec 32 := BitVec.ofNat 32 (i 1).val
  let c2048_i32_247 : BitVec 32 := 2048#32
  let v548 : BitVec 32 := Scalar.muli arg1 c2048_i32_247
  let c1664_i32_248 : BitVec 32 := 1664#32
  let v549 : BitVec 32 := Scalar.addi v548 c1664_i32_248
  v549
def k0_mult175 (i : grid0.Coords) : BitVec 32 :=
  let arg1 : BitVec 32 := BitVec.ofNat 32 (i 1).val
  let c2048_i32_256 : BitVec 32 := 2048#32
  let v566 : BitVec 32 := Scalar.muli arg1 c2048_i32_256
  let c1792_i32_257 : BitVec 32 := 1792#32
  let v567 : BitVec 32 := Scalar.addi v566 c1792_i32_257
  v567
def k0_mult176 (i : grid0.Coords) : BitVec 32 :=
  let arg1 : BitVec 32 := BitVec.ofNat 32 (i 1).val
  let c2048_i32_265 : BitVec 32 := 2048#32
  let v584 : BitVec 32 := Scalar.muli arg1 c2048_i32_265
  let c1920_i32_266 : BitVec 32 := 1920#32
  let v585 : BitVec 32 := Scalar.addi v584 c1920_i32_266
  v585
def k0_mult177 (i : grid0.Coords) : BitVec 32 :=
  let arg1 : BitVec 32 := BitVec.ofNat 32 (i 1).val
  let c2048_i32_277 : BitVec 32 := 2048#32
  let v604 : BitVec 32 := Scalar.muli arg1 c2048_i32_277
  let c0_i32_278 : BitVec 32 := 0#32
  let v605 : BitVec 32 := Scalar.addi v604 c0_i32_278
  v605
def k0_off12 (i : grid0.Coords) (c0_i32_278 : BitVec 32) : Fin 2 → Nat :=
  let c64_279 : Index := 64#32
  let arg1 : BitVec 32 := BitVec.ofNat 32 (i 1).val
  let c2048_i32_277 : BitVec 32 := 2048#32
  let v604 : BitVec 32 := Scalar.muli arg1 c2048_i32_277
  let v605 : BitVec 32 := Scalar.addi v604 c0_i32_278
  let v606 : BitVec 32 := v605
  let v607 : Index := Scalar.indexCast v606
  ![64, v607.toNat]
def k0_mult178 (i : grid0.Coords) : BitVec 32 :=
  let arg1 : BitVec 32 := BitVec.ofNat 32 (i 1).val
  let c2048_i32_286 : BitVec 32 := 2048#32
  let v622 : BitVec 32 := Scalar.muli arg1 c2048_i32_286
  let c128_i32_287 : BitVec 32 := 128#32
  let v623 : BitVec 32 := Scalar.addi v622 c128_i32_287
  v623
def k0_mult179 (i : grid0.Coords) : BitVec 32 :=
  let arg1 : BitVec 32 := BitVec.ofNat 32 (i 1).val
  let c2048_i32_295 : BitVec 32 := 2048#32
  let v640 : BitVec 32 := Scalar.muli arg1 c2048_i32_295
  let c256_i32_296 : BitVec 32 := 256#32
  let v641 : BitVec 32 := Scalar.addi v640 c256_i32_296
  v641
def k0_mult180 (i : grid0.Coords) : BitVec 32 :=
  let arg1 : BitVec 32 := BitVec.ofNat 32 (i 1).val
  let c2048_i32_304 : BitVec 32 := 2048#32
  let v658 : BitVec 32 := Scalar.muli arg1 c2048_i32_304
  let c384_i32_305 : BitVec 32 := 384#32
  let v659 : BitVec 32 := Scalar.addi v658 c384_i32_305
  v659
def k0_mult181 (i : grid0.Coords) : BitVec 32 :=
  let arg1 : BitVec 32 := BitVec.ofNat 32 (i 1).val
  let c2048_i32_313 : BitVec 32 := 2048#32
  let v676 : BitVec 32 := Scalar.muli arg1 c2048_i32_313
  let c512_i32_314 : BitVec 32 := 512#32
  let v677 : BitVec 32 := Scalar.addi v676 c512_i32_314
  v677
def k0_mult182 (i : grid0.Coords) : BitVec 32 :=
  let arg1 : BitVec 32 := BitVec.ofNat 32 (i 1).val
  let c2048_i32_322 : BitVec 32 := 2048#32
  let v694 : BitVec 32 := Scalar.muli arg1 c2048_i32_322
  let c640_i32_323 : BitVec 32 := 640#32
  let v695 : BitVec 32 := Scalar.addi v694 c640_i32_323
  v695
def k0_mult183 (i : grid0.Coords) : BitVec 32 :=
  let arg1 : BitVec 32 := BitVec.ofNat 32 (i 1).val
  let c2048_i32_331 : BitVec 32 := 2048#32
  let v712 : BitVec 32 := Scalar.muli arg1 c2048_i32_331
  let c768_i32_332 : BitVec 32 := 768#32
  let v713 : BitVec 32 := Scalar.addi v712 c768_i32_332
  v713
def k0_mult184 (i : grid0.Coords) : BitVec 32 :=
  let arg1 : BitVec 32 := BitVec.ofNat 32 (i 1).val
  let c2048_i32_340 : BitVec 32 := 2048#32
  let v730 : BitVec 32 := Scalar.muli arg1 c2048_i32_340
  let c896_i32_341 : BitVec 32 := 896#32
  let v731 : BitVec 32 := Scalar.addi v730 c896_i32_341
  v731
def k0_mult185 (i : grid0.Coords) : BitVec 32 :=
  let arg1 : BitVec 32 := BitVec.ofNat 32 (i 1).val
  let c2048_i32_349 : BitVec 32 := 2048#32
  let v748 : BitVec 32 := Scalar.muli arg1 c2048_i32_349
  let c1024_i32_350 : BitVec 32 := 1024#32
  let v749 : BitVec 32 := Scalar.addi v748 c1024_i32_350
  v749
def k0_mult186 (i : grid0.Coords) : BitVec 32 :=
  let arg1 : BitVec 32 := BitVec.ofNat 32 (i 1).val
  let c2048_i32_358 : BitVec 32 := 2048#32
  let v766 : BitVec 32 := Scalar.muli arg1 c2048_i32_358
  let c1152_i32_359 : BitVec 32 := 1152#32
  let v767 : BitVec 32 := Scalar.addi v766 c1152_i32_359
  v767
def k0_mult187 (i : grid0.Coords) : BitVec 32 :=
  let arg1 : BitVec 32 := BitVec.ofNat 32 (i 1).val
  let c2048_i32_367 : BitVec 32 := 2048#32
  let v784 : BitVec 32 := Scalar.muli arg1 c2048_i32_367
  let c1280_i32_368 : BitVec 32 := 1280#32
  let v785 : BitVec 32 := Scalar.addi v784 c1280_i32_368
  v785
def k0_mult188 (i : grid0.Coords) : BitVec 32 :=
  let arg1 : BitVec 32 := BitVec.ofNat 32 (i 1).val
  let c2048_i32_376 : BitVec 32 := 2048#32
  let v802 : BitVec 32 := Scalar.muli arg1 c2048_i32_376
  let c1408_i32_377 : BitVec 32 := 1408#32
  let v803 : BitVec 32 := Scalar.addi v802 c1408_i32_377
  v803
def k0_mult189 (i : grid0.Coords) : BitVec 32 :=
  let arg1 : BitVec 32 := BitVec.ofNat 32 (i 1).val
  let c2048_i32_385 : BitVec 32 := 2048#32
  let v820 : BitVec 32 := Scalar.muli arg1 c2048_i32_385
  let c1536_i32_386 : BitVec 32 := 1536#32
  let v821 : BitVec 32 := Scalar.addi v820 c1536_i32_386
  v821
def k0_mult190 (i : grid0.Coords) : BitVec 32 :=
  let arg1 : BitVec 32 := BitVec.ofNat 32 (i 1).val
  let c2048_i32_394 : BitVec 32 := 2048#32
  let v838 : BitVec 32 := Scalar.muli arg1 c2048_i32_394
  let c1664_i32_395 : BitVec 32 := 1664#32
  let v839 : BitVec 32 := Scalar.addi v838 c1664_i32_395
  v839
def k0_mult191 (i : grid0.Coords) : BitVec 32 :=
  let arg1 : BitVec 32 := BitVec.ofNat 32 (i 1).val
  let c2048_i32_403 : BitVec 32 := 2048#32
  let v856 : BitVec 32 := Scalar.muli arg1 c2048_i32_403
  let c1792_i32_404 : BitVec 32 := 1792#32
  let v857 : BitVec 32 := Scalar.addi v856 c1792_i32_404
  v857
def k0_mult192 (i : grid0.Coords) : BitVec 32 :=
  let arg1 : BitVec 32 := BitVec.ofNat 32 (i 1).val
  let c2048_i32_412 : BitVec 32 := 2048#32
  let v874 : BitVec 32 := Scalar.muli arg1 c2048_i32_412
  let c1920_i32_413 : BitVec 32 := 1920#32
  let v875 : BitVec 32 := Scalar.addi v874 c1920_i32_413
  v875
def k0_mult193 (i : grid0.Coords) : BitVec 32 :=
  let arg1 : BitVec 32 := BitVec.ofNat 32 (i 1).val
  let c2048_i32_424 : BitVec 32 := 2048#32
  let v894 : BitVec 32 := Scalar.muli arg1 c2048_i32_424
  let c0_i32_425 : BitVec 32 := 0#32
  let v895 : BitVec 32 := Scalar.addi v894 c0_i32_425
  v895
def k0_off13 (i : grid0.Coords) (c0_i32_425 : BitVec 32) : Fin 2 → Nat :=
  let c96_426 : Index := 96#32
  let arg1 : BitVec 32 := BitVec.ofNat 32 (i 1).val
  let c2048_i32_424 : BitVec 32 := 2048#32
  let v894 : BitVec 32 := Scalar.muli arg1 c2048_i32_424
  let v895 : BitVec 32 := Scalar.addi v894 c0_i32_425
  let v896 : BitVec 32 := v895
  let v897 : Index := Scalar.indexCast v896
  ![96, v897.toNat]
def k0_mult194 (i : grid0.Coords) : BitVec 32 :=
  let arg1 : BitVec 32 := BitVec.ofNat 32 (i 1).val
  let c2048_i32_433 : BitVec 32 := 2048#32
  let v912 : BitVec 32 := Scalar.muli arg1 c2048_i32_433
  let c128_i32_434 : BitVec 32 := 128#32
  let v913 : BitVec 32 := Scalar.addi v912 c128_i32_434
  v913
def k0_mult195 (i : grid0.Coords) : BitVec 32 :=
  let arg1 : BitVec 32 := BitVec.ofNat 32 (i 1).val
  let c2048_i32_442 : BitVec 32 := 2048#32
  let v930 : BitVec 32 := Scalar.muli arg1 c2048_i32_442
  let c256_i32_443 : BitVec 32 := 256#32
  let v931 : BitVec 32 := Scalar.addi v930 c256_i32_443
  v931
def k0_mult196 (i : grid0.Coords) : BitVec 32 :=
  let arg1 : BitVec 32 := BitVec.ofNat 32 (i 1).val
  let c2048_i32_451 : BitVec 32 := 2048#32
  let v948 : BitVec 32 := Scalar.muli arg1 c2048_i32_451
  let c384_i32_452 : BitVec 32 := 384#32
  let v949 : BitVec 32 := Scalar.addi v948 c384_i32_452
  v949
def k0_mult197 (i : grid0.Coords) : BitVec 32 :=
  let arg1 : BitVec 32 := BitVec.ofNat 32 (i 1).val
  let c2048_i32_460 : BitVec 32 := 2048#32
  let v966 : BitVec 32 := Scalar.muli arg1 c2048_i32_460
  let c512_i32_461 : BitVec 32 := 512#32
  let v967 : BitVec 32 := Scalar.addi v966 c512_i32_461
  v967
def k0_mult198 (i : grid0.Coords) : BitVec 32 :=
  let arg1 : BitVec 32 := BitVec.ofNat 32 (i 1).val
  let c2048_i32_469 : BitVec 32 := 2048#32
  let v984 : BitVec 32 := Scalar.muli arg1 c2048_i32_469
  let c640_i32_470 : BitVec 32 := 640#32
  let v985 : BitVec 32 := Scalar.addi v984 c640_i32_470
  v985
def k0_mult199 (i : grid0.Coords) : BitVec 32 :=
  let arg1 : BitVec 32 := BitVec.ofNat 32 (i 1).val
  let c2048_i32_478 : BitVec 32 := 2048#32
  let v1002 : BitVec 32 := Scalar.muli arg1 c2048_i32_478
  let c768_i32_479 : BitVec 32 := 768#32
  let v1003 : BitVec 32 := Scalar.addi v1002 c768_i32_479
  v1003
def k0_mult200 (i : grid0.Coords) : BitVec 32 :=
  let arg1 : BitVec 32 := BitVec.ofNat 32 (i 1).val
  let c2048_i32_487 : BitVec 32 := 2048#32
  let v1020 : BitVec 32 := Scalar.muli arg1 c2048_i32_487
  let c896_i32_488 : BitVec 32 := 896#32
  let v1021 : BitVec 32 := Scalar.addi v1020 c896_i32_488
  v1021
def k0_mult201 (i : grid0.Coords) : BitVec 32 :=
  let arg1 : BitVec 32 := BitVec.ofNat 32 (i 1).val
  let c2048_i32_496 : BitVec 32 := 2048#32
  let v1038 : BitVec 32 := Scalar.muli arg1 c2048_i32_496
  let c1024_i32_497 : BitVec 32 := 1024#32
  let v1039 : BitVec 32 := Scalar.addi v1038 c1024_i32_497
  v1039
def k0_mult202 (i : grid0.Coords) : BitVec 32 :=
  let arg1 : BitVec 32 := BitVec.ofNat 32 (i 1).val
  let c2048_i32_505 : BitVec 32 := 2048#32
  let v1056 : BitVec 32 := Scalar.muli arg1 c2048_i32_505
  let c1152_i32_506 : BitVec 32 := 1152#32
  let v1057 : BitVec 32 := Scalar.addi v1056 c1152_i32_506
  v1057
def k0_mult203 (i : grid0.Coords) : BitVec 32 :=
  let arg1 : BitVec 32 := BitVec.ofNat 32 (i 1).val
  let c2048_i32_514 : BitVec 32 := 2048#32
  let v1074 : BitVec 32 := Scalar.muli arg1 c2048_i32_514
  let c1280_i32_515 : BitVec 32 := 1280#32
  let v1075 : BitVec 32 := Scalar.addi v1074 c1280_i32_515
  v1075
def k0_mult204 (i : grid0.Coords) : BitVec 32 :=
  let arg1 : BitVec 32 := BitVec.ofNat 32 (i 1).val
  let c2048_i32_523 : BitVec 32 := 2048#32
  let v1092 : BitVec 32 := Scalar.muli arg1 c2048_i32_523
  let c1408_i32_524 : BitVec 32 := 1408#32
  let v1093 : BitVec 32 := Scalar.addi v1092 c1408_i32_524
  v1093
def k0_mult205 (i : grid0.Coords) : BitVec 32 :=
  let arg1 : BitVec 32 := BitVec.ofNat 32 (i 1).val
  let c2048_i32_532 : BitVec 32 := 2048#32
  let v1110 : BitVec 32 := Scalar.muli arg1 c2048_i32_532
  let c1536_i32_533 : BitVec 32 := 1536#32
  let v1111 : BitVec 32 := Scalar.addi v1110 c1536_i32_533
  v1111
def k0_mult206 (i : grid0.Coords) : BitVec 32 :=
  let arg1 : BitVec 32 := BitVec.ofNat 32 (i 1).val
  let c2048_i32_541 : BitVec 32 := 2048#32
  let v1128 : BitVec 32 := Scalar.muli arg1 c2048_i32_541
  let c1664_i32_542 : BitVec 32 := 1664#32
  let v1129 : BitVec 32 := Scalar.addi v1128 c1664_i32_542
  v1129
def k0_mult207 (i : grid0.Coords) : BitVec 32 :=
  let arg1 : BitVec 32 := BitVec.ofNat 32 (i 1).val
  let c2048_i32_550 : BitVec 32 := 2048#32
  let v1146 : BitVec 32 := Scalar.muli arg1 c2048_i32_550
  let c1792_i32_551 : BitVec 32 := 1792#32
  let v1147 : BitVec 32 := Scalar.addi v1146 c1792_i32_551
  v1147
def k0_mult208 (i : grid0.Coords) : BitVec 32 :=
  let arg1 : BitVec 32 := BitVec.ofNat 32 (i 1).val
  let c2048_i32_559 : BitVec 32 := 2048#32
  let v1164 : BitVec 32 := Scalar.muli arg1 c2048_i32_559
  let c1920_i32_560 : BitVec 32 := 1920#32
  let v1165 : BitVec 32 := Scalar.addi v1164 c1920_i32_560
  v1165
def k0_mult209 (i : grid0.Coords) : BitVec 32 :=
  let arg1 : BitVec 32 := BitVec.ofNat 32 (i 1).val
  let c2048_i32_572 : BitVec 32 := 2048#32
  let v1184 : BitVec 32 := Scalar.muli arg1 c2048_i32_572
  let c0_i32_573 : BitVec 32 := 0#32
  let v1185 : BitVec 32 := Scalar.addi v1184 c0_i32_573
  v1185
def k0_off14 (i : grid0.Coords) (c0_i32_573 : BitVec 32) : Fin 2 → Nat :=
  let c128_574 : Index := 128#32
  let arg1 : BitVec 32 := BitVec.ofNat 32 (i 1).val
  let c2048_i32_572 : BitVec 32 := 2048#32
  let v1184 : BitVec 32 := Scalar.muli arg1 c2048_i32_572
  let v1185 : BitVec 32 := Scalar.addi v1184 c0_i32_573
  let v1186 : BitVec 32 := v1185
  let v1187 : Index := Scalar.indexCast v1186
  ![128, v1187.toNat]
def k0_mult210 (i : grid0.Coords) : BitVec 32 :=
  let arg1 : BitVec 32 := BitVec.ofNat 32 (i 1).val
  let c2048_i32_581 : BitVec 32 := 2048#32
  let v1202 : BitVec 32 := Scalar.muli arg1 c2048_i32_581
  let c128_i32_582 : BitVec 32 := 128#32
  let v1203 : BitVec 32 := Scalar.addi v1202 c128_i32_582
  v1203
def k0_mult211 (i : grid0.Coords) : BitVec 32 :=
  let arg1 : BitVec 32 := BitVec.ofNat 32 (i 1).val
  let c2048_i32_590 : BitVec 32 := 2048#32
  let v1220 : BitVec 32 := Scalar.muli arg1 c2048_i32_590
  let c256_i32_591 : BitVec 32 := 256#32
  let v1221 : BitVec 32 := Scalar.addi v1220 c256_i32_591
  v1221
def k0_mult212 (i : grid0.Coords) : BitVec 32 :=
  let arg1 : BitVec 32 := BitVec.ofNat 32 (i 1).val
  let c2048_i32_599 : BitVec 32 := 2048#32
  let v1238 : BitVec 32 := Scalar.muli arg1 c2048_i32_599
  let c384_i32_600 : BitVec 32 := 384#32
  let v1239 : BitVec 32 := Scalar.addi v1238 c384_i32_600
  v1239
def k0_mult213 (i : grid0.Coords) : BitVec 32 :=
  let arg1 : BitVec 32 := BitVec.ofNat 32 (i 1).val
  let c2048_i32_608 : BitVec 32 := 2048#32
  let v1256 : BitVec 32 := Scalar.muli arg1 c2048_i32_608
  let c512_i32_609 : BitVec 32 := 512#32
  let v1257 : BitVec 32 := Scalar.addi v1256 c512_i32_609
  v1257
def k0_mult214 (i : grid0.Coords) : BitVec 32 :=
  let arg1 : BitVec 32 := BitVec.ofNat 32 (i 1).val
  let c2048_i32_617 : BitVec 32 := 2048#32
  let v1274 : BitVec 32 := Scalar.muli arg1 c2048_i32_617
  let c640_i32_618 : BitVec 32 := 640#32
  let v1275 : BitVec 32 := Scalar.addi v1274 c640_i32_618
  v1275
def k0_mult215 (i : grid0.Coords) : BitVec 32 :=
  let arg1 : BitVec 32 := BitVec.ofNat 32 (i 1).val
  let c2048_i32_626 : BitVec 32 := 2048#32
  let v1292 : BitVec 32 := Scalar.muli arg1 c2048_i32_626
  let c768_i32_627 : BitVec 32 := 768#32
  let v1293 : BitVec 32 := Scalar.addi v1292 c768_i32_627
  v1293
def k0_mult216 (i : grid0.Coords) : BitVec 32 :=
  let arg1 : BitVec 32 := BitVec.ofNat 32 (i 1).val
  let c2048_i32_635 : BitVec 32 := 2048#32
  let v1310 : BitVec 32 := Scalar.muli arg1 c2048_i32_635
  let c896_i32_636 : BitVec 32 := 896#32
  let v1311 : BitVec 32 := Scalar.addi v1310 c896_i32_636
  v1311
def k0_mult217 (i : grid0.Coords) : BitVec 32 :=
  let arg1 : BitVec 32 := BitVec.ofNat 32 (i 1).val
  let c2048_i32_644 : BitVec 32 := 2048#32
  let v1328 : BitVec 32 := Scalar.muli arg1 c2048_i32_644
  let c1024_i32_645 : BitVec 32 := 1024#32
  let v1329 : BitVec 32 := Scalar.addi v1328 c1024_i32_645
  v1329
def k0_mult218 (i : grid0.Coords) : BitVec 32 :=
  let arg1 : BitVec 32 := BitVec.ofNat 32 (i 1).val
  let c2048_i32_653 : BitVec 32 := 2048#32
  let v1346 : BitVec 32 := Scalar.muli arg1 c2048_i32_653
  let c1152_i32_654 : BitVec 32 := 1152#32
  let v1347 : BitVec 32 := Scalar.addi v1346 c1152_i32_654
  v1347
def k0_mult219 (i : grid0.Coords) : BitVec 32 :=
  let arg1 : BitVec 32 := BitVec.ofNat 32 (i 1).val
  let c2048_i32_662 : BitVec 32 := 2048#32
  let v1364 : BitVec 32 := Scalar.muli arg1 c2048_i32_662
  let c1280_i32_663 : BitVec 32 := 1280#32
  let v1365 : BitVec 32 := Scalar.addi v1364 c1280_i32_663
  v1365
def k0_mult220 (i : grid0.Coords) : BitVec 32 :=
  let arg1 : BitVec 32 := BitVec.ofNat 32 (i 1).val
  let c2048_i32_671 : BitVec 32 := 2048#32
  let v1382 : BitVec 32 := Scalar.muli arg1 c2048_i32_671
  let c1408_i32_672 : BitVec 32 := 1408#32
  let v1383 : BitVec 32 := Scalar.addi v1382 c1408_i32_672
  v1383
def k0_mult221 (i : grid0.Coords) : BitVec 32 :=
  let arg1 : BitVec 32 := BitVec.ofNat 32 (i 1).val
  let c2048_i32_680 : BitVec 32 := 2048#32
  let v1400 : BitVec 32 := Scalar.muli arg1 c2048_i32_680
  let c1536_i32_681 : BitVec 32 := 1536#32
  let v1401 : BitVec 32 := Scalar.addi v1400 c1536_i32_681
  v1401
def k0_mult222 (i : grid0.Coords) : BitVec 32 :=
  let arg1 : BitVec 32 := BitVec.ofNat 32 (i 1).val
  let c2048_i32_689 : BitVec 32 := 2048#32
  let v1418 : BitVec 32 := Scalar.muli arg1 c2048_i32_689
  let c1664_i32_690 : BitVec 32 := 1664#32
  let v1419 : BitVec 32 := Scalar.addi v1418 c1664_i32_690
  v1419
def k0_mult223 (i : grid0.Coords) : BitVec 32 :=
  let arg1 : BitVec 32 := BitVec.ofNat 32 (i 1).val
  let c2048_i32_698 : BitVec 32 := 2048#32
  let v1436 : BitVec 32 := Scalar.muli arg1 c2048_i32_698
  let c1792_i32_699 : BitVec 32 := 1792#32
  let v1437 : BitVec 32 := Scalar.addi v1436 c1792_i32_699
  v1437
def k0_mult224 (i : grid0.Coords) : BitVec 32 :=
  let arg1 : BitVec 32 := BitVec.ofNat 32 (i 1).val
  let c2048_i32_707 : BitVec 32 := 2048#32
  let v1454 : BitVec 32 := Scalar.muli arg1 c2048_i32_707
  let c1920_i32_708 : BitVec 32 := 1920#32
  let v1455 : BitVec 32 := Scalar.addi v1454 c1920_i32_708
  v1455
def k0_mult225 (i : grid0.Coords) : BitVec 32 :=
  let arg1 : BitVec 32 := BitVec.ofNat 32 (i 1).val
  let c2048_i32_719 : BitVec 32 := 2048#32
  let v1474 : BitVec 32 := Scalar.muli arg1 c2048_i32_719
  let c0_i32_720 : BitVec 32 := 0#32
  let v1475 : BitVec 32 := Scalar.addi v1474 c0_i32_720
  v1475
def k0_off15 (i : grid0.Coords) (c0_i32_720 : BitVec 32) : Fin 2 → Nat :=
  let c160_721 : Index := 160#32
  let arg1 : BitVec 32 := BitVec.ofNat 32 (i 1).val
  let c2048_i32_719 : BitVec 32 := 2048#32
  let v1474 : BitVec 32 := Scalar.muli arg1 c2048_i32_719
  let v1475 : BitVec 32 := Scalar.addi v1474 c0_i32_720
  let v1476 : BitVec 32 := v1475
  let v1477 : Index := Scalar.indexCast v1476
  ![160, v1477.toNat]
def k0_mult226 (i : grid0.Coords) : BitVec 32 :=
  let arg1 : BitVec 32 := BitVec.ofNat 32 (i 1).val
  let c2048_i32_728 : BitVec 32 := 2048#32
  let v1492 : BitVec 32 := Scalar.muli arg1 c2048_i32_728
  let c128_i32_729 : BitVec 32 := 128#32
  let v1493 : BitVec 32 := Scalar.addi v1492 c128_i32_729
  v1493
def k0_mult227 (i : grid0.Coords) : BitVec 32 :=
  let arg1 : BitVec 32 := BitVec.ofNat 32 (i 1).val
  let c2048_i32_737 : BitVec 32 := 2048#32
  let v1510 : BitVec 32 := Scalar.muli arg1 c2048_i32_737
  let c256_i32_738 : BitVec 32 := 256#32
  let v1511 : BitVec 32 := Scalar.addi v1510 c256_i32_738
  v1511
def k0_mult228 (i : grid0.Coords) : BitVec 32 :=
  let arg1 : BitVec 32 := BitVec.ofNat 32 (i 1).val
  let c2048_i32_746 : BitVec 32 := 2048#32
  let v1528 : BitVec 32 := Scalar.muli arg1 c2048_i32_746
  let c384_i32_747 : BitVec 32 := 384#32
  let v1529 : BitVec 32 := Scalar.addi v1528 c384_i32_747
  v1529
def k0_mult229 (i : grid0.Coords) : BitVec 32 :=
  let arg1 : BitVec 32 := BitVec.ofNat 32 (i 1).val
  let c2048_i32_755 : BitVec 32 := 2048#32
  let v1546 : BitVec 32 := Scalar.muli arg1 c2048_i32_755
  let c512_i32_756 : BitVec 32 := 512#32
  let v1547 : BitVec 32 := Scalar.addi v1546 c512_i32_756
  v1547
def k0_mult230 (i : grid0.Coords) : BitVec 32 :=
  let arg1 : BitVec 32 := BitVec.ofNat 32 (i 1).val
  let c2048_i32_764 : BitVec 32 := 2048#32
  let v1564 : BitVec 32 := Scalar.muli arg1 c2048_i32_764
  let c640_i32_765 : BitVec 32 := 640#32
  let v1565 : BitVec 32 := Scalar.addi v1564 c640_i32_765
  v1565
def k0_mult231 (i : grid0.Coords) : BitVec 32 :=
  let arg1 : BitVec 32 := BitVec.ofNat 32 (i 1).val
  let c2048_i32_773 : BitVec 32 := 2048#32
  let v1582 : BitVec 32 := Scalar.muli arg1 c2048_i32_773
  let c768_i32_774 : BitVec 32 := 768#32
  let v1583 : BitVec 32 := Scalar.addi v1582 c768_i32_774
  v1583
def k0_mult232 (i : grid0.Coords) : BitVec 32 :=
  let arg1 : BitVec 32 := BitVec.ofNat 32 (i 1).val
  let c2048_i32_782 : BitVec 32 := 2048#32
  let v1600 : BitVec 32 := Scalar.muli arg1 c2048_i32_782
  let c896_i32_783 : BitVec 32 := 896#32
  let v1601 : BitVec 32 := Scalar.addi v1600 c896_i32_783
  v1601
def k0_mult233 (i : grid0.Coords) : BitVec 32 :=
  let arg1 : BitVec 32 := BitVec.ofNat 32 (i 1).val
  let c2048_i32_791 : BitVec 32 := 2048#32
  let v1618 : BitVec 32 := Scalar.muli arg1 c2048_i32_791
  let c1024_i32_792 : BitVec 32 := 1024#32
  let v1619 : BitVec 32 := Scalar.addi v1618 c1024_i32_792
  v1619
def k0_mult234 (i : grid0.Coords) : BitVec 32 :=
  let arg1 : BitVec 32 := BitVec.ofNat 32 (i 1).val
  let c2048_i32_800 : BitVec 32 := 2048#32
  let v1636 : BitVec 32 := Scalar.muli arg1 c2048_i32_800
  let c1152_i32_801 : BitVec 32 := 1152#32
  let v1637 : BitVec 32 := Scalar.addi v1636 c1152_i32_801
  v1637
def k0_mult235 (i : grid0.Coords) : BitVec 32 :=
  let arg1 : BitVec 32 := BitVec.ofNat 32 (i 1).val
  let c2048_i32_809 : BitVec 32 := 2048#32
  let v1654 : BitVec 32 := Scalar.muli arg1 c2048_i32_809
  let c1280_i32_810 : BitVec 32 := 1280#32
  let v1655 : BitVec 32 := Scalar.addi v1654 c1280_i32_810
  v1655
def k0_mult236 (i : grid0.Coords) : BitVec 32 :=
  let arg1 : BitVec 32 := BitVec.ofNat 32 (i 1).val
  let c2048_i32_818 : BitVec 32 := 2048#32
  let v1672 : BitVec 32 := Scalar.muli arg1 c2048_i32_818
  let c1408_i32_819 : BitVec 32 := 1408#32
  let v1673 : BitVec 32 := Scalar.addi v1672 c1408_i32_819
  v1673
def k0_mult237 (i : grid0.Coords) : BitVec 32 :=
  let arg1 : BitVec 32 := BitVec.ofNat 32 (i 1).val
  let c2048_i32_827 : BitVec 32 := 2048#32
  let v1690 : BitVec 32 := Scalar.muli arg1 c2048_i32_827
  let c1536_i32_828 : BitVec 32 := 1536#32
  let v1691 : BitVec 32 := Scalar.addi v1690 c1536_i32_828
  v1691
def k0_mult238 (i : grid0.Coords) : BitVec 32 :=
  let arg1 : BitVec 32 := BitVec.ofNat 32 (i 1).val
  let c2048_i32_836 : BitVec 32 := 2048#32
  let v1708 : BitVec 32 := Scalar.muli arg1 c2048_i32_836
  let c1664_i32_837 : BitVec 32 := 1664#32
  let v1709 : BitVec 32 := Scalar.addi v1708 c1664_i32_837
  v1709
def k0_mult239 (i : grid0.Coords) : BitVec 32 :=
  let arg1 : BitVec 32 := BitVec.ofNat 32 (i 1).val
  let c2048_i32_845 : BitVec 32 := 2048#32
  let v1726 : BitVec 32 := Scalar.muli arg1 c2048_i32_845
  let c1792_i32_846 : BitVec 32 := 1792#32
  let v1727 : BitVec 32 := Scalar.addi v1726 c1792_i32_846
  v1727
def k0_mult240 (i : grid0.Coords) : BitVec 32 :=
  let arg1 : BitVec 32 := BitVec.ofNat 32 (i 1).val
  let c2048_i32_854 : BitVec 32 := 2048#32
  let v1744 : BitVec 32 := Scalar.muli arg1 c2048_i32_854
  let c1920_i32_855 : BitVec 32 := 1920#32
  let v1745 : BitVec 32 := Scalar.addi v1744 c1920_i32_855
  v1745
def k0_mult241 (i : grid0.Coords) : BitVec 32 :=
  let arg1 : BitVec 32 := BitVec.ofNat 32 (i 1).val
  let c2048_i32_866 : BitVec 32 := 2048#32
  let v1764 : BitVec 32 := Scalar.muli arg1 c2048_i32_866
  let c0_i32_867 : BitVec 32 := 0#32
  let v1765 : BitVec 32 := Scalar.addi v1764 c0_i32_867
  v1765
def k0_off16 (i : grid0.Coords) (c0_i32_867 : BitVec 32) : Fin 2 → Nat :=
  let c192_868 : Index := 192#32
  let arg1 : BitVec 32 := BitVec.ofNat 32 (i 1).val
  let c2048_i32_866 : BitVec 32 := 2048#32
  let v1764 : BitVec 32 := Scalar.muli arg1 c2048_i32_866
  let v1765 : BitVec 32 := Scalar.addi v1764 c0_i32_867
  let v1766 : BitVec 32 := v1765
  let v1767 : Index := Scalar.indexCast v1766
  ![192, v1767.toNat]
def k0_mult242 (i : grid0.Coords) : BitVec 32 :=
  let arg1 : BitVec 32 := BitVec.ofNat 32 (i 1).val
  let c2048_i32_875 : BitVec 32 := 2048#32
  let v1782 : BitVec 32 := Scalar.muli arg1 c2048_i32_875
  let c128_i32_876 : BitVec 32 := 128#32
  let v1783 : BitVec 32 := Scalar.addi v1782 c128_i32_876
  v1783
def k0_mult243 (i : grid0.Coords) : BitVec 32 :=
  let arg1 : BitVec 32 := BitVec.ofNat 32 (i 1).val
  let c2048_i32_884 : BitVec 32 := 2048#32
  let v1800 : BitVec 32 := Scalar.muli arg1 c2048_i32_884
  let c256_i32_885 : BitVec 32 := 256#32
  let v1801 : BitVec 32 := Scalar.addi v1800 c256_i32_885
  v1801
def k0_mult244 (i : grid0.Coords) : BitVec 32 :=
  let arg1 : BitVec 32 := BitVec.ofNat 32 (i 1).val
  let c2048_i32_893 : BitVec 32 := 2048#32
  let v1818 : BitVec 32 := Scalar.muli arg1 c2048_i32_893
  let c384_i32_894 : BitVec 32 := 384#32
  let v1819 : BitVec 32 := Scalar.addi v1818 c384_i32_894
  v1819
def k0_mult245 (i : grid0.Coords) : BitVec 32 :=
  let arg1 : BitVec 32 := BitVec.ofNat 32 (i 1).val
  let c2048_i32_902 : BitVec 32 := 2048#32
  let v1836 : BitVec 32 := Scalar.muli arg1 c2048_i32_902
  let c512_i32_903 : BitVec 32 := 512#32
  let v1837 : BitVec 32 := Scalar.addi v1836 c512_i32_903
  v1837
def k0_mult246 (i : grid0.Coords) : BitVec 32 :=
  let arg1 : BitVec 32 := BitVec.ofNat 32 (i 1).val
  let c2048_i32_911 : BitVec 32 := 2048#32
  let v1854 : BitVec 32 := Scalar.muli arg1 c2048_i32_911
  let c640_i32_912 : BitVec 32 := 640#32
  let v1855 : BitVec 32 := Scalar.addi v1854 c640_i32_912
  v1855
def k0_mult247 (i : grid0.Coords) : BitVec 32 :=
  let arg1 : BitVec 32 := BitVec.ofNat 32 (i 1).val
  let c2048_i32_920 : BitVec 32 := 2048#32
  let v1872 : BitVec 32 := Scalar.muli arg1 c2048_i32_920
  let c768_i32_921 : BitVec 32 := 768#32
  let v1873 : BitVec 32 := Scalar.addi v1872 c768_i32_921
  v1873
def k0_mult248 (i : grid0.Coords) : BitVec 32 :=
  let arg1 : BitVec 32 := BitVec.ofNat 32 (i 1).val
  let c2048_i32_929 : BitVec 32 := 2048#32
  let v1890 : BitVec 32 := Scalar.muli arg1 c2048_i32_929
  let c896_i32_930 : BitVec 32 := 896#32
  let v1891 : BitVec 32 := Scalar.addi v1890 c896_i32_930
  v1891
def k0_mult249 (i : grid0.Coords) : BitVec 32 :=
  let arg1 : BitVec 32 := BitVec.ofNat 32 (i 1).val
  let c2048_i32_938 : BitVec 32 := 2048#32
  let v1908 : BitVec 32 := Scalar.muli arg1 c2048_i32_938
  let c1024_i32_939 : BitVec 32 := 1024#32
  let v1909 : BitVec 32 := Scalar.addi v1908 c1024_i32_939
  v1909
def k0_mult250 (i : grid0.Coords) : BitVec 32 :=
  let arg1 : BitVec 32 := BitVec.ofNat 32 (i 1).val
  let c2048_i32_947 : BitVec 32 := 2048#32
  let v1926 : BitVec 32 := Scalar.muli arg1 c2048_i32_947
  let c1152_i32_948 : BitVec 32 := 1152#32
  let v1927 : BitVec 32 := Scalar.addi v1926 c1152_i32_948
  v1927
def k0_mult251 (i : grid0.Coords) : BitVec 32 :=
  let arg1 : BitVec 32 := BitVec.ofNat 32 (i 1).val
  let c2048_i32_956 : BitVec 32 := 2048#32
  let v1944 : BitVec 32 := Scalar.muli arg1 c2048_i32_956
  let c1280_i32_957 : BitVec 32 := 1280#32
  let v1945 : BitVec 32 := Scalar.addi v1944 c1280_i32_957
  v1945
def k0_mult252 (i : grid0.Coords) : BitVec 32 :=
  let arg1 : BitVec 32 := BitVec.ofNat 32 (i 1).val
  let c2048_i32_965 : BitVec 32 := 2048#32
  let v1962 : BitVec 32 := Scalar.muli arg1 c2048_i32_965
  let c1408_i32_966 : BitVec 32 := 1408#32
  let v1963 : BitVec 32 := Scalar.addi v1962 c1408_i32_966
  v1963
def k0_mult253 (i : grid0.Coords) : BitVec 32 :=
  let arg1 : BitVec 32 := BitVec.ofNat 32 (i 1).val
  let c2048_i32_974 : BitVec 32 := 2048#32
  let v1980 : BitVec 32 := Scalar.muli arg1 c2048_i32_974
  let c1536_i32_975 : BitVec 32 := 1536#32
  let v1981 : BitVec 32 := Scalar.addi v1980 c1536_i32_975
  v1981
def k0_mult254 (i : grid0.Coords) : BitVec 32 :=
  let arg1 : BitVec 32 := BitVec.ofNat 32 (i 1).val
  let c2048_i32_983 : BitVec 32 := 2048#32
  let v1998 : BitVec 32 := Scalar.muli arg1 c2048_i32_983
  let c1664_i32_984 : BitVec 32 := 1664#32
  let v1999 : BitVec 32 := Scalar.addi v1998 c1664_i32_984
  v1999
def k0_mult255 (i : grid0.Coords) : BitVec 32 :=
  let arg1 : BitVec 32 := BitVec.ofNat 32 (i 1).val
  let c2048_i32_992 : BitVec 32 := 2048#32
  let v2016 : BitVec 32 := Scalar.muli arg1 c2048_i32_992
  let c1792_i32_993 : BitVec 32 := 1792#32
  let v2017 : BitVec 32 := Scalar.addi v2016 c1792_i32_993
  v2017
def k0_mult256 (i : grid0.Coords) : BitVec 32 :=
  let arg1 : BitVec 32 := BitVec.ofNat 32 (i 1).val
  let c2048_i32_1001 : BitVec 32 := 2048#32
  let v2034 : BitVec 32 := Scalar.muli arg1 c2048_i32_1001
  let c1920_i32_1002 : BitVec 32 := 1920#32
  let v2035 : BitVec 32 := Scalar.addi v2034 c1920_i32_1002
  v2035
def k0_mult257 (i : grid0.Coords) : BitVec 32 :=
  let arg1 : BitVec 32 := BitVec.ofNat 32 (i 1).val
  let c2048_i32_1013 : BitVec 32 := 2048#32
  let v2054 : BitVec 32 := Scalar.muli arg1 c2048_i32_1013
  let c0_i32_1014 : BitVec 32 := 0#32
  let v2055 : BitVec 32 := Scalar.addi v2054 c0_i32_1014
  v2055
def k0_off17 (i : grid0.Coords) (c0_i32_1014 : BitVec 32) : Fin 2 → Nat :=
  let c224_1015 : Index := 224#32
  let arg1 : BitVec 32 := BitVec.ofNat 32 (i 1).val
  let c2048_i32_1013 : BitVec 32 := 2048#32
  let v2054 : BitVec 32 := Scalar.muli arg1 c2048_i32_1013
  let v2055 : BitVec 32 := Scalar.addi v2054 c0_i32_1014
  let v2056 : BitVec 32 := v2055
  let v2057 : Index := Scalar.indexCast v2056
  ![224, v2057.toNat]
def k0_mult258 (i : grid0.Coords) : BitVec 32 :=
  let arg1 : BitVec 32 := BitVec.ofNat 32 (i 1).val
  let c2048_i32_1022 : BitVec 32 := 2048#32
  let v2072 : BitVec 32 := Scalar.muli arg1 c2048_i32_1022
  let c128_i32_1023 : BitVec 32 := 128#32
  let v2073 : BitVec 32 := Scalar.addi v2072 c128_i32_1023
  v2073
def k0_mult259 (i : grid0.Coords) : BitVec 32 :=
  let arg1 : BitVec 32 := BitVec.ofNat 32 (i 1).val
  let c2048_i32_1031 : BitVec 32 := 2048#32
  let v2090 : BitVec 32 := Scalar.muli arg1 c2048_i32_1031
  let c256_i32_1032 : BitVec 32 := 256#32
  let v2091 : BitVec 32 := Scalar.addi v2090 c256_i32_1032
  v2091
def k0_mult260 (i : grid0.Coords) : BitVec 32 :=
  let arg1 : BitVec 32 := BitVec.ofNat 32 (i 1).val
  let c2048_i32_1040 : BitVec 32 := 2048#32
  let v2108 : BitVec 32 := Scalar.muli arg1 c2048_i32_1040
  let c384_i32_1041 : BitVec 32 := 384#32
  let v2109 : BitVec 32 := Scalar.addi v2108 c384_i32_1041
  v2109
def k0_mult261 (i : grid0.Coords) : BitVec 32 :=
  let arg1 : BitVec 32 := BitVec.ofNat 32 (i 1).val
  let c2048_i32_1049 : BitVec 32 := 2048#32
  let v2126 : BitVec 32 := Scalar.muli arg1 c2048_i32_1049
  let c512_i32_1050 : BitVec 32 := 512#32
  let v2127 : BitVec 32 := Scalar.addi v2126 c512_i32_1050
  v2127
def k0_mult262 (i : grid0.Coords) : BitVec 32 :=
  let arg1 : BitVec 32 := BitVec.ofNat 32 (i 1).val
  let c2048_i32_1058 : BitVec 32 := 2048#32
  let v2144 : BitVec 32 := Scalar.muli arg1 c2048_i32_1058
  let c640_i32_1059 : BitVec 32 := 640#32
  let v2145 : BitVec 32 := Scalar.addi v2144 c640_i32_1059
  v2145
def k0_mult263 (i : grid0.Coords) : BitVec 32 :=
  let arg1 : BitVec 32 := BitVec.ofNat 32 (i 1).val
  let c2048_i32_1067 : BitVec 32 := 2048#32
  let v2162 : BitVec 32 := Scalar.muli arg1 c2048_i32_1067
  let c768_i32_1068 : BitVec 32 := 768#32
  let v2163 : BitVec 32 := Scalar.addi v2162 c768_i32_1068
  v2163
def k0_mult264 (i : grid0.Coords) : BitVec 32 :=
  let arg1 : BitVec 32 := BitVec.ofNat 32 (i 1).val
  let c2048_i32_1076 : BitVec 32 := 2048#32
  let v2180 : BitVec 32 := Scalar.muli arg1 c2048_i32_1076
  let c896_i32_1077 : BitVec 32 := 896#32
  let v2181 : BitVec 32 := Scalar.addi v2180 c896_i32_1077
  v2181
def k0_mult265 (i : grid0.Coords) : BitVec 32 :=
  let arg1 : BitVec 32 := BitVec.ofNat 32 (i 1).val
  let c2048_i32_1085 : BitVec 32 := 2048#32
  let v2198 : BitVec 32 := Scalar.muli arg1 c2048_i32_1085
  let c1024_i32_1086 : BitVec 32 := 1024#32
  let v2199 : BitVec 32 := Scalar.addi v2198 c1024_i32_1086
  v2199
def k0_mult266 (i : grid0.Coords) : BitVec 32 :=
  let arg1 : BitVec 32 := BitVec.ofNat 32 (i 1).val
  let c2048_i32_1094 : BitVec 32 := 2048#32
  let v2216 : BitVec 32 := Scalar.muli arg1 c2048_i32_1094
  let c1152_i32_1095 : BitVec 32 := 1152#32
  let v2217 : BitVec 32 := Scalar.addi v2216 c1152_i32_1095
  v2217
def k0_mult267 (i : grid0.Coords) : BitVec 32 :=
  let arg1 : BitVec 32 := BitVec.ofNat 32 (i 1).val
  let c2048_i32_1103 : BitVec 32 := 2048#32
  let v2234 : BitVec 32 := Scalar.muli arg1 c2048_i32_1103
  let c1280_i32_1104 : BitVec 32 := 1280#32
  let v2235 : BitVec 32 := Scalar.addi v2234 c1280_i32_1104
  v2235
def k0_mult268 (i : grid0.Coords) : BitVec 32 :=
  let arg1 : BitVec 32 := BitVec.ofNat 32 (i 1).val
  let c2048_i32_1112 : BitVec 32 := 2048#32
  let v2252 : BitVec 32 := Scalar.muli arg1 c2048_i32_1112
  let c1408_i32_1113 : BitVec 32 := 1408#32
  let v2253 : BitVec 32 := Scalar.addi v2252 c1408_i32_1113
  v2253
def k0_mult269 (i : grid0.Coords) : BitVec 32 :=
  let arg1 : BitVec 32 := BitVec.ofNat 32 (i 1).val
  let c2048_i32_1121 : BitVec 32 := 2048#32
  let v2270 : BitVec 32 := Scalar.muli arg1 c2048_i32_1121
  let c1536_i32_1122 : BitVec 32 := 1536#32
  let v2271 : BitVec 32 := Scalar.addi v2270 c1536_i32_1122
  v2271
def k0_mult270 (i : grid0.Coords) : BitVec 32 :=
  let arg1 : BitVec 32 := BitVec.ofNat 32 (i 1).val
  let c2048_i32_1130 : BitVec 32 := 2048#32
  let v2288 : BitVec 32 := Scalar.muli arg1 c2048_i32_1130
  let c1664_i32_1131 : BitVec 32 := 1664#32
  let v2289 : BitVec 32 := Scalar.addi v2288 c1664_i32_1131
  v2289
def k0_mult271 (i : grid0.Coords) : BitVec 32 :=
  let arg1 : BitVec 32 := BitVec.ofNat 32 (i 1).val
  let c2048_i32_1139 : BitVec 32 := 2048#32
  let v2306 : BitVec 32 := Scalar.muli arg1 c2048_i32_1139
  let c1792_i32_1140 : BitVec 32 := 1792#32
  let v2307 : BitVec 32 := Scalar.addi v2306 c1792_i32_1140
  v2307
def k0_mult272 (i : grid0.Coords) : BitVec 32 :=
  let arg1 : BitVec 32 := BitVec.ofNat 32 (i 1).val
  let c2048_i32_1148 : BitVec 32 := 2048#32
  let v2324 : BitVec 32 := Scalar.muli arg1 c2048_i32_1148
  let c1920_i32_1149 : BitVec 32 := 1920#32
  let v2325 : BitVec 32 := Scalar.addi v2324 c1920_i32_1149
  v2325
def k0_cond6 (i : grid0.Coords) : BitVec 1 :=
  let arg0 : BitVec 32 := BitVec.ofNat 32 (i 0).val
  let c32_i32_10 : BitVec 32 := 32#32
  let v19 : BitVec 1 := Scalar.cmpi .slt arg0 c32_i32_10
  let v20 : BitVec 32 := Scalar.extui v19
  let c0_i32_11 : BitVec 32 := 0#32
  let v21 : BitVec 1 := Scalar.cmpi .ne v20 c0_i32_11
  v21

def k0_mult273 (i : grid0.Coords) : BitVec 32 :=
  let arg1 : BitVec 32 := BitVec.ofNat 32 (i 1).val
  let c2048_i32 : BitVec 32 := 2048#32
  let v23 : BitVec 32 := Scalar.muli arg1 c2048_i32
  let c0_i32_13 : BitVec 32 := 0#32
  let v24 : BitVec 32 := Scalar.addi v23 c0_i32_13
  v24
def k0_off18 (i : grid0.Coords) (c0_i32_13 : BitVec 32) : Fin 2 → Nat :=
  let c0_14 : Index := 0#32
  let arg1 : BitVec 32 := BitVec.ofNat 32 (i 1).val
  let c2048_i32 : BitVec 32 := 2048#32
  let v23 : BitVec 32 := Scalar.muli arg1 c2048_i32
  let v24 : BitVec 32 := Scalar.addi v23 c0_i32_13
  let v25 : BitVec 32 := v24
  let v26 : Index := Scalar.indexCast v25
  ![0, v26.toNat]
def k0_mult274 (i : grid0.Coords) : BitVec 32 :=
  let arg1 : BitVec 32 := BitVec.ofNat 32 (i 1).val
  let c2048_i32_25 : BitVec 32 := 2048#32
  let v40 : BitVec 32 := Scalar.muli arg1 c2048_i32_25
  let c0_i32_26 : BitVec 32 := 0#32
  let v41 : BitVec 32 := Scalar.addi v40 c0_i32_26
  v41
def k0_off19 (i : grid0.Coords) (c0_i32_26 : BitVec 32) : Fin 2 → Nat :=
  let c0_27 : Index := 0#32
  let arg1 : BitVec 32 := BitVec.ofNat 32 (i 1).val
  let c2048_i32_25 : BitVec 32 := 2048#32
  let v40 : BitVec 32 := Scalar.muli arg1 c2048_i32_25
  let v41 : BitVec 32 := Scalar.addi v40 c0_i32_26
  let v42 : BitVec 32 := v41
  let v43 : Index := Scalar.indexCast v42
  ![0, v43.toNat]
def k0_mult275 (i : grid0.Coords) : BitVec 32 :=
  let arg1 : BitVec 32 := BitVec.ofNat 32 (i 1).val
  let c2048_i32_33 : BitVec 32 := 2048#32
  let v64 : BitVec 32 := Scalar.muli arg1 c2048_i32_33
  let c128_i32 : BitVec 32 := 128#32
  let v65 : BitVec 32 := Scalar.addi v64 c128_i32
  v65
def k0_mult276 (i : grid0.Coords) : BitVec 32 :=
  let arg1 : BitVec 32 := BitVec.ofNat 32 (i 1).val
  let c2048_i32_50 : BitVec 32 := 2048#32
  let v97 : BitVec 32 := Scalar.muli arg1 c2048_i32_50
  let c0_i32_51 : BitVec 32 := 0#32
  let v98 : BitVec 32 := Scalar.addi v97 c0_i32_51
  v98
def k0_off20 (i : grid0.Coords) (c0_i32_51 : BitVec 32) : Fin 2 → Nat :=
  let c32_52 : Index := 32#32
  let arg1 : BitVec 32 := BitVec.ofNat 32 (i 1).val
  let c2048_i32_50 : BitVec 32 := 2048#32
  let v97 : BitVec 32 := Scalar.muli arg1 c2048_i32_50
  let v98 : BitVec 32 := Scalar.addi v97 c0_i32_51
  let v99 : BitVec 32 := v98
  let v100 : Index := Scalar.indexCast v99
  ![32, v100.toNat]
def k0_mult277 (i : grid0.Coords) : BitVec 32 :=
  let arg1 : BitVec 32 := BitVec.ofNat 32 (i 1).val
  let c2048_i32_59 : BitVec 32 := 2048#32
  let v121 : BitVec 32 := Scalar.muli arg1 c2048_i32_59
  let c128_i32_60 : BitVec 32 := 128#32
  let v122 : BitVec 32 := Scalar.addi v121 c128_i32_60
  v122
def k0_mult278 (i : grid0.Coords) : BitVec 32 :=
  let arg1 : BitVec 32 := BitVec.ofNat 32 (i 1).val
  let c2048_i32_77 : BitVec 32 := 2048#32
  let v154 : BitVec 32 := Scalar.muli arg1 c2048_i32_77
  let c0_i32_78 : BitVec 32 := 0#32
  let v155 : BitVec 32 := Scalar.addi v154 c0_i32_78
  v155
def k0_off21 (i : grid0.Coords) (c0_i32_78 : BitVec 32) : Fin 2 → Nat :=
  let c64_79 : Index := 64#32
  let arg1 : BitVec 32 := BitVec.ofNat 32 (i 1).val
  let c2048_i32_77 : BitVec 32 := 2048#32
  let v154 : BitVec 32 := Scalar.muli arg1 c2048_i32_77
  let v155 : BitVec 32 := Scalar.addi v154 c0_i32_78
  let v156 : BitVec 32 := v155
  let v157 : Index := Scalar.indexCast v156
  ![64, v157.toNat]
def k0_mult279 (i : grid0.Coords) : BitVec 32 :=
  let arg1 : BitVec 32 := BitVec.ofNat 32 (i 1).val
  let c2048_i32_86 : BitVec 32 := 2048#32
  let v178 : BitVec 32 := Scalar.muli arg1 c2048_i32_86
  let c128_i32_87 : BitVec 32 := 128#32
  let v179 : BitVec 32 := Scalar.addi v178 c128_i32_87
  v179
def k0_mult280 (i : grid0.Coords) : BitVec 32 :=
  let arg1 : BitVec 32 := BitVec.ofNat 32 (i 1).val
  let c2048_i32_104 : BitVec 32 := 2048#32
  let v211 : BitVec 32 := Scalar.muli arg1 c2048_i32_104
  let c0_i32_105 : BitVec 32 := 0#32
  let v212 : BitVec 32 := Scalar.addi v211 c0_i32_105
  v212
def k0_off22 (i : grid0.Coords) (c0_i32_105 : BitVec 32) : Fin 2 → Nat :=
  let c96_106 : Index := 96#32
  let arg1 : BitVec 32 := BitVec.ofNat 32 (i 1).val
  let c2048_i32_104 : BitVec 32 := 2048#32
  let v211 : BitVec 32 := Scalar.muli arg1 c2048_i32_104
  let v212 : BitVec 32 := Scalar.addi v211 c0_i32_105
  let v213 : BitVec 32 := v212
  let v214 : Index := Scalar.indexCast v213
  ![96, v214.toNat]
def k0_mult281 (i : grid0.Coords) : BitVec 32 :=
  let arg1 : BitVec 32 := BitVec.ofNat 32 (i 1).val
  let c2048_i32_113 : BitVec 32 := 2048#32
  let v235 : BitVec 32 := Scalar.muli arg1 c2048_i32_113
  let c128_i32_114 : BitVec 32 := 128#32
  let v236 : BitVec 32 := Scalar.addi v235 c128_i32_114
  v236
def k0_mult282 (i : grid0.Coords) : BitVec 32 :=
  let arg1 : BitVec 32 := BitVec.ofNat 32 (i 1).val
  let c2048_i32_132 : BitVec 32 := 2048#32
  let v268 : BitVec 32 := Scalar.muli arg1 c2048_i32_132
  let c0_i32_133 : BitVec 32 := 0#32
  let v269 : BitVec 32 := Scalar.addi v268 c0_i32_133
  v269
def k0_off23 (i : grid0.Coords) (c0_i32_133 : BitVec 32) : Fin 2 → Nat :=
  let c128_134 : Index := 128#32
  let arg1 : BitVec 32 := BitVec.ofNat 32 (i 1).val
  let c2048_i32_132 : BitVec 32 := 2048#32
  let v268 : BitVec 32 := Scalar.muli arg1 c2048_i32_132
  let v269 : BitVec 32 := Scalar.addi v268 c0_i32_133
  let v270 : BitVec 32 := v269
  let v271 : Index := Scalar.indexCast v270
  ![128, v271.toNat]
def k0_mult283 (i : grid0.Coords) : BitVec 32 :=
  let arg1 : BitVec 32 := BitVec.ofNat 32 (i 1).val
  let c2048_i32_141 : BitVec 32 := 2048#32
  let v292 : BitVec 32 := Scalar.muli arg1 c2048_i32_141
  let c128_i32_142 : BitVec 32 := 128#32
  let v293 : BitVec 32 := Scalar.addi v292 c128_i32_142
  v293
def k0_mult284 (i : grid0.Coords) : BitVec 32 :=
  let arg1 : BitVec 32 := BitVec.ofNat 32 (i 1).val
  let c2048_i32_159 : BitVec 32 := 2048#32
  let v325 : BitVec 32 := Scalar.muli arg1 c2048_i32_159
  let c0_i32_160 : BitVec 32 := 0#32
  let v326 : BitVec 32 := Scalar.addi v325 c0_i32_160
  v326
def k0_off24 (i : grid0.Coords) (c0_i32_160 : BitVec 32) : Fin 2 → Nat :=
  let c160_161 : Index := 160#32
  let arg1 : BitVec 32 := BitVec.ofNat 32 (i 1).val
  let c2048_i32_159 : BitVec 32 := 2048#32
  let v325 : BitVec 32 := Scalar.muli arg1 c2048_i32_159
  let v326 : BitVec 32 := Scalar.addi v325 c0_i32_160
  let v327 : BitVec 32 := v326
  let v328 : Index := Scalar.indexCast v327
  ![160, v328.toNat]
def k0_mult285 (i : grid0.Coords) : BitVec 32 :=
  let arg1 : BitVec 32 := BitVec.ofNat 32 (i 1).val
  let c2048_i32_168 : BitVec 32 := 2048#32
  let v349 : BitVec 32 := Scalar.muli arg1 c2048_i32_168
  let c128_i32_169 : BitVec 32 := 128#32
  let v350 : BitVec 32 := Scalar.addi v349 c128_i32_169
  v350
def k0_mult286 (i : grid0.Coords) : BitVec 32 :=
  let arg1 : BitVec 32 := BitVec.ofNat 32 (i 1).val
  let c2048_i32_186 : BitVec 32 := 2048#32
  let v382 : BitVec 32 := Scalar.muli arg1 c2048_i32_186
  let c0_i32_187 : BitVec 32 := 0#32
  let v383 : BitVec 32 := Scalar.addi v382 c0_i32_187
  v383
def k0_off25 (i : grid0.Coords) (c0_i32_187 : BitVec 32) : Fin 2 → Nat :=
  let c192_188 : Index := 192#32
  let arg1 : BitVec 32 := BitVec.ofNat 32 (i 1).val
  let c2048_i32_186 : BitVec 32 := 2048#32
  let v382 : BitVec 32 := Scalar.muli arg1 c2048_i32_186
  let v383 : BitVec 32 := Scalar.addi v382 c0_i32_187
  let v384 : BitVec 32 := v383
  let v385 : Index := Scalar.indexCast v384
  ![192, v385.toNat]
def k0_mult287 (i : grid0.Coords) : BitVec 32 :=
  let arg1 : BitVec 32 := BitVec.ofNat 32 (i 1).val
  let c2048_i32_195 : BitVec 32 := 2048#32
  let v406 : BitVec 32 := Scalar.muli arg1 c2048_i32_195
  let c128_i32_196 : BitVec 32 := 128#32
  let v407 : BitVec 32 := Scalar.addi v406 c128_i32_196
  v407
def k0_mult288 (i : grid0.Coords) : BitVec 32 :=
  let arg1 : BitVec 32 := BitVec.ofNat 32 (i 1).val
  let c2048_i32_213 : BitVec 32 := 2048#32
  let v439 : BitVec 32 := Scalar.muli arg1 c2048_i32_213
  let c0_i32_214 : BitVec 32 := 0#32
  let v440 : BitVec 32 := Scalar.addi v439 c0_i32_214
  v440
def k0_off26 (i : grid0.Coords) (c0_i32_214 : BitVec 32) : Fin 2 → Nat :=
  let c224_215 : Index := 224#32
  let arg1 : BitVec 32 := BitVec.ofNat 32 (i 1).val
  let c2048_i32_213 : BitVec 32 := 2048#32
  let v439 : BitVec 32 := Scalar.muli arg1 c2048_i32_213
  let v440 : BitVec 32 := Scalar.addi v439 c0_i32_214
  let v441 : BitVec 32 := v440
  let v442 : Index := Scalar.indexCast v441
  ![224, v442.toNat]
def k0_mult289 (i : grid0.Coords) : BitVec 32 :=
  let arg1 : BitVec 32 := BitVec.ofNat 32 (i 1).val
  let c2048_i32_222 : BitVec 32 := 2048#32
  let v463 : BitVec 32 := Scalar.muli arg1 c2048_i32_222
  let c128_i32_223 : BitVec 32 := 128#32
  let v464 : BitVec 32 := Scalar.addi v463 c128_i32_223
  v464
def k0_mult290 (i : grid0.Coords) : BitVec 32 :=
  let arg1 : BitVec 32 := BitVec.ofNat 32 (i 1).val
  let c2048_i32_233 : BitVec 32 := 2048#32
  let v486 : BitVec 32 := Scalar.muli arg1 c2048_i32_233
  let c256_i32 : BitVec 32 := 256#32
  let v487 : BitVec 32 := Scalar.addi v486 c256_i32
  v487
def k0_mult291 (i : grid0.Coords) : BitVec 32 :=
  let arg1 : BitVec 32 := BitVec.ofNat 32 (i 1).val
  let c2048_i32_245 : BitVec 32 := 2048#32
  let v503 : BitVec 32 := Scalar.muli arg1 c2048_i32_245
  let c256_i32_246 : BitVec 32 := 256#32
  let v504 : BitVec 32 := Scalar.addi v503 c256_i32_246
  v504
def k0_mult292 (i : grid0.Coords) : BitVec 32 :=
  let arg1 : BitVec 32 := BitVec.ofNat 32 (i 1).val
  let c2048_i32_253 : BitVec 32 := 2048#32
  let v527 : BitVec 32 := Scalar.muli arg1 c2048_i32_253
  let c384_i32 : BitVec 32 := 384#32
  let v528 : BitVec 32 := Scalar.addi v527 c384_i32
  v528
def k0_mult293 (i : grid0.Coords) : BitVec 32 :=
  let arg1 : BitVec 32 := BitVec.ofNat 32 (i 1).val
  let c2048_i32_271 : BitVec 32 := 2048#32
  let v560 : BitVec 32 := Scalar.muli arg1 c2048_i32_271
  let c256_i32_272 : BitVec 32 := 256#32
  let v561 : BitVec 32 := Scalar.addi v560 c256_i32_272
  v561
def k0_mult294 (i : grid0.Coords) : BitVec 32 :=
  let arg1 : BitVec 32 := BitVec.ofNat 32 (i 1).val
  let c2048_i32_280 : BitVec 32 := 2048#32
  let v584 : BitVec 32 := Scalar.muli arg1 c2048_i32_280
  let c384_i32_281 : BitVec 32 := 384#32
  let v585 : BitVec 32 := Scalar.addi v584 c384_i32_281
  v585
def k0_mult295 (i : grid0.Coords) : BitVec 32 :=
  let arg1 : BitVec 32 := BitVec.ofNat 32 (i 1).val
  let c2048_i32_299 : BitVec 32 := 2048#32
  let v617 : BitVec 32 := Scalar.muli arg1 c2048_i32_299
  let c256_i32_300 : BitVec 32 := 256#32
  let v618 : BitVec 32 := Scalar.addi v617 c256_i32_300
  v618
def k0_mult296 (i : grid0.Coords) : BitVec 32 :=
  let arg1 : BitVec 32 := BitVec.ofNat 32 (i 1).val
  let c2048_i32_308 : BitVec 32 := 2048#32
  let v641 : BitVec 32 := Scalar.muli arg1 c2048_i32_308
  let c384_i32_309 : BitVec 32 := 384#32
  let v642 : BitVec 32 := Scalar.addi v641 c384_i32_309
  v642
def k0_mult297 (i : grid0.Coords) : BitVec 32 :=
  let arg1 : BitVec 32 := BitVec.ofNat 32 (i 1).val
  let c2048_i32_327 : BitVec 32 := 2048#32
  let v674 : BitVec 32 := Scalar.muli arg1 c2048_i32_327
  let c256_i32_328 : BitVec 32 := 256#32
  let v675 : BitVec 32 := Scalar.addi v674 c256_i32_328
  v675
def k0_mult298 (i : grid0.Coords) : BitVec 32 :=
  let arg1 : BitVec 32 := BitVec.ofNat 32 (i 1).val
  let c2048_i32_336 : BitVec 32 := 2048#32
  let v698 : BitVec 32 := Scalar.muli arg1 c2048_i32_336
  let c384_i32_337 : BitVec 32 := 384#32
  let v699 : BitVec 32 := Scalar.addi v698 c384_i32_337
  v699
def k0_mult299 (i : grid0.Coords) : BitVec 32 :=
  let arg1 : BitVec 32 := BitVec.ofNat 32 (i 1).val
  let c2048_i32_355 : BitVec 32 := 2048#32
  let v731 : BitVec 32 := Scalar.muli arg1 c2048_i32_355
  let c256_i32_356 : BitVec 32 := 256#32
  let v732 : BitVec 32 := Scalar.addi v731 c256_i32_356
  v732
def k0_mult300 (i : grid0.Coords) : BitVec 32 :=
  let arg1 : BitVec 32 := BitVec.ofNat 32 (i 1).val
  let c2048_i32_364 : BitVec 32 := 2048#32
  let v755 : BitVec 32 := Scalar.muli arg1 c2048_i32_364
  let c384_i32_365 : BitVec 32 := 384#32
  let v756 : BitVec 32 := Scalar.addi v755 c384_i32_365
  v756
def k0_mult301 (i : grid0.Coords) : BitVec 32 :=
  let arg1 : BitVec 32 := BitVec.ofNat 32 (i 1).val
  let c2048_i32_383 : BitVec 32 := 2048#32
  let v788 : BitVec 32 := Scalar.muli arg1 c2048_i32_383
  let c256_i32_384 : BitVec 32 := 256#32
  let v789 : BitVec 32 := Scalar.addi v788 c256_i32_384
  v789
def k0_mult302 (i : grid0.Coords) : BitVec 32 :=
  let arg1 : BitVec 32 := BitVec.ofNat 32 (i 1).val
  let c2048_i32_392 : BitVec 32 := 2048#32
  let v812 : BitVec 32 := Scalar.muli arg1 c2048_i32_392
  let c384_i32_393 : BitVec 32 := 384#32
  let v813 : BitVec 32 := Scalar.addi v812 c384_i32_393
  v813
def k0_mult303 (i : grid0.Coords) : BitVec 32 :=
  let arg1 : BitVec 32 := BitVec.ofNat 32 (i 1).val
  let c2048_i32_411 : BitVec 32 := 2048#32
  let v845 : BitVec 32 := Scalar.muli arg1 c2048_i32_411
  let c256_i32_412 : BitVec 32 := 256#32
  let v846 : BitVec 32 := Scalar.addi v845 c256_i32_412
  v846
def k0_mult304 (i : grid0.Coords) : BitVec 32 :=
  let arg1 : BitVec 32 := BitVec.ofNat 32 (i 1).val
  let c2048_i32_420 : BitVec 32 := 2048#32
  let v869 : BitVec 32 := Scalar.muli arg1 c2048_i32_420
  let c384_i32_421 : BitVec 32 := 384#32
  let v870 : BitVec 32 := Scalar.addi v869 c384_i32_421
  v870
def k0_mult305 (i : grid0.Coords) : BitVec 32 :=
  let arg1 : BitVec 32 := BitVec.ofNat 32 (i 1).val
  let c2048_i32_439 : BitVec 32 := 2048#32
  let v902 : BitVec 32 := Scalar.muli arg1 c2048_i32_439
  let c256_i32_440 : BitVec 32 := 256#32
  let v903 : BitVec 32 := Scalar.addi v902 c256_i32_440
  v903
def k0_mult306 (i : grid0.Coords) : BitVec 32 :=
  let arg1 : BitVec 32 := BitVec.ofNat 32 (i 1).val
  let c2048_i32_448 : BitVec 32 := 2048#32
  let v926 : BitVec 32 := Scalar.muli arg1 c2048_i32_448
  let c384_i32_449 : BitVec 32 := 384#32
  let v927 : BitVec 32 := Scalar.addi v926 c384_i32_449
  v927
def k0_mult307 (i : grid0.Coords) : BitVec 32 :=
  let arg1 : BitVec 32 := BitVec.ofNat 32 (i 1).val
  let c2048_i32_459 : BitVec 32 := 2048#32
  let v949 : BitVec 32 := Scalar.muli arg1 c2048_i32_459
  let c512_i32 : BitVec 32 := 512#32
  let v950 : BitVec 32 := Scalar.addi v949 c512_i32
  v950
def k0_mult308 (i : grid0.Coords) : BitVec 32 :=
  let arg1 : BitVec 32 := BitVec.ofNat 32 (i 1).val
  let c2048_i32_471 : BitVec 32 := 2048#32
  let v966 : BitVec 32 := Scalar.muli arg1 c2048_i32_471
  let c512_i32_472 : BitVec 32 := 512#32
  let v967 : BitVec 32 := Scalar.addi v966 c512_i32_472
  v967
def k0_mult309 (i : grid0.Coords) : BitVec 32 :=
  let arg1 : BitVec 32 := BitVec.ofNat 32 (i 1).val
  let c2048_i32_479 : BitVec 32 := 2048#32
  let v990 : BitVec 32 := Scalar.muli arg1 c2048_i32_479
  let c640_i32 : BitVec 32 := 640#32
  let v991 : BitVec 32 := Scalar.addi v990 c640_i32
  v991
def k0_mult310 (i : grid0.Coords) : BitVec 32 :=
  let arg1 : BitVec 32 := BitVec.ofNat 32 (i 1).val
  let c2048_i32_497 : BitVec 32 := 2048#32
  let v1023 : BitVec 32 := Scalar.muli arg1 c2048_i32_497
  let c512_i32_498 : BitVec 32 := 512#32
  let v1024 : BitVec 32 := Scalar.addi v1023 c512_i32_498
  v1024
def k0_mult311 (i : grid0.Coords) : BitVec 32 :=
  let arg1 : BitVec 32 := BitVec.ofNat 32 (i 1).val
  let c2048_i32_506 : BitVec 32 := 2048#32
  let v1047 : BitVec 32 := Scalar.muli arg1 c2048_i32_506
  let c640_i32_507 : BitVec 32 := 640#32
  let v1048 : BitVec 32 := Scalar.addi v1047 c640_i32_507
  v1048
def k0_mult312 (i : grid0.Coords) : BitVec 32 :=
  let arg1 : BitVec 32 := BitVec.ofNat 32 (i 1).val
  let c2048_i32_525 : BitVec 32 := 2048#32
  let v1080 : BitVec 32 := Scalar.muli arg1 c2048_i32_525
  let c512_i32_526 : BitVec 32 := 512#32
  let v1081 : BitVec 32 := Scalar.addi v1080 c512_i32_526
  v1081
def k0_mult313 (i : grid0.Coords) : BitVec 32 :=
  let arg1 : BitVec 32 := BitVec.ofNat 32 (i 1).val
  let c2048_i32_534 : BitVec 32 := 2048#32
  let v1104 : BitVec 32 := Scalar.muli arg1 c2048_i32_534
  let c640_i32_535 : BitVec 32 := 640#32
  let v1105 : BitVec 32 := Scalar.addi v1104 c640_i32_535
  v1105
def k0_mult314 (i : grid0.Coords) : BitVec 32 :=
  let arg1 : BitVec 32 := BitVec.ofNat 32 (i 1).val
  let c2048_i32_553 : BitVec 32 := 2048#32
  let v1137 : BitVec 32 := Scalar.muli arg1 c2048_i32_553
  let c512_i32_554 : BitVec 32 := 512#32
  let v1138 : BitVec 32 := Scalar.addi v1137 c512_i32_554
  v1138
def k0_mult315 (i : grid0.Coords) : BitVec 32 :=
  let arg1 : BitVec 32 := BitVec.ofNat 32 (i 1).val
  let c2048_i32_562 : BitVec 32 := 2048#32
  let v1161 : BitVec 32 := Scalar.muli arg1 c2048_i32_562
  let c640_i32_563 : BitVec 32 := 640#32
  let v1162 : BitVec 32 := Scalar.addi v1161 c640_i32_563
  v1162
def k0_mult316 (i : grid0.Coords) : BitVec 32 :=
  let arg1 : BitVec 32 := BitVec.ofNat 32 (i 1).val
  let c2048_i32_581 : BitVec 32 := 2048#32
  let v1194 : BitVec 32 := Scalar.muli arg1 c2048_i32_581
  let c512_i32_582 : BitVec 32 := 512#32
  let v1195 : BitVec 32 := Scalar.addi v1194 c512_i32_582
  v1195
def k0_mult317 (i : grid0.Coords) : BitVec 32 :=
  let arg1 : BitVec 32 := BitVec.ofNat 32 (i 1).val
  let c2048_i32_590 : BitVec 32 := 2048#32
  let v1218 : BitVec 32 := Scalar.muli arg1 c2048_i32_590
  let c640_i32_591 : BitVec 32 := 640#32
  let v1219 : BitVec 32 := Scalar.addi v1218 c640_i32_591
  v1219
def k0_mult318 (i : grid0.Coords) : BitVec 32 :=
  let arg1 : BitVec 32 := BitVec.ofNat 32 (i 1).val
  let c2048_i32_609 : BitVec 32 := 2048#32
  let v1251 : BitVec 32 := Scalar.muli arg1 c2048_i32_609
  let c512_i32_610 : BitVec 32 := 512#32
  let v1252 : BitVec 32 := Scalar.addi v1251 c512_i32_610
  v1252
def k0_mult319 (i : grid0.Coords) : BitVec 32 :=
  let arg1 : BitVec 32 := BitVec.ofNat 32 (i 1).val
  let c2048_i32_618 : BitVec 32 := 2048#32
  let v1275 : BitVec 32 := Scalar.muli arg1 c2048_i32_618
  let c640_i32_619 : BitVec 32 := 640#32
  let v1276 : BitVec 32 := Scalar.addi v1275 c640_i32_619
  v1276
def k0_mult320 (i : grid0.Coords) : BitVec 32 :=
  let arg1 : BitVec 32 := BitVec.ofNat 32 (i 1).val
  let c2048_i32_637 : BitVec 32 := 2048#32
  let v1308 : BitVec 32 := Scalar.muli arg1 c2048_i32_637
  let c512_i32_638 : BitVec 32 := 512#32
  let v1309 : BitVec 32 := Scalar.addi v1308 c512_i32_638
  v1309
def k0_mult321 (i : grid0.Coords) : BitVec 32 :=
  let arg1 : BitVec 32 := BitVec.ofNat 32 (i 1).val
  let c2048_i32_646 : BitVec 32 := 2048#32
  let v1332 : BitVec 32 := Scalar.muli arg1 c2048_i32_646
  let c640_i32_647 : BitVec 32 := 640#32
  let v1333 : BitVec 32 := Scalar.addi v1332 c640_i32_647
  v1333
def k0_mult322 (i : grid0.Coords) : BitVec 32 :=
  let arg1 : BitVec 32 := BitVec.ofNat 32 (i 1).val
  let c2048_i32_665 : BitVec 32 := 2048#32
  let v1365 : BitVec 32 := Scalar.muli arg1 c2048_i32_665
  let c512_i32_666 : BitVec 32 := 512#32
  let v1366 : BitVec 32 := Scalar.addi v1365 c512_i32_666
  v1366
def k0_mult323 (i : grid0.Coords) : BitVec 32 :=
  let arg1 : BitVec 32 := BitVec.ofNat 32 (i 1).val
  let c2048_i32_674 : BitVec 32 := 2048#32
  let v1389 : BitVec 32 := Scalar.muli arg1 c2048_i32_674
  let c640_i32_675 : BitVec 32 := 640#32
  let v1390 : BitVec 32 := Scalar.addi v1389 c640_i32_675
  v1390
def k0_mult324 (i : grid0.Coords) : BitVec 32 :=
  let arg1 : BitVec 32 := BitVec.ofNat 32 (i 1).val
  let c2048_i32_685 : BitVec 32 := 2048#32
  let v1412 : BitVec 32 := Scalar.muli arg1 c2048_i32_685
  let c768_i32 : BitVec 32 := 768#32
  let v1413 : BitVec 32 := Scalar.addi v1412 c768_i32
  v1413
def k0_mult325 (i : grid0.Coords) : BitVec 32 :=
  let arg1 : BitVec 32 := BitVec.ofNat 32 (i 1).val
  let c2048_i32_697 : BitVec 32 := 2048#32
  let v1429 : BitVec 32 := Scalar.muli arg1 c2048_i32_697
  let c768_i32_698 : BitVec 32 := 768#32
  let v1430 : BitVec 32 := Scalar.addi v1429 c768_i32_698
  v1430
def k0_mult326 (i : grid0.Coords) : BitVec 32 :=
  let arg1 : BitVec 32 := BitVec.ofNat 32 (i 1).val
  let c2048_i32_705 : BitVec 32 := 2048#32
  let v1453 : BitVec 32 := Scalar.muli arg1 c2048_i32_705
  let c896_i32 : BitVec 32 := 896#32
  let v1454 : BitVec 32 := Scalar.addi v1453 c896_i32
  v1454
def k0_mult327 (i : grid0.Coords) : BitVec 32 :=
  let arg1 : BitVec 32 := BitVec.ofNat 32 (i 1).val
  let c2048_i32_723 : BitVec 32 := 2048#32
  let v1486 : BitVec 32 := Scalar.muli arg1 c2048_i32_723
  let c768_i32_724 : BitVec 32 := 768#32
  let v1487 : BitVec 32 := Scalar.addi v1486 c768_i32_724
  v1487
def k0_mult328 (i : grid0.Coords) : BitVec 32 :=
  let arg1 : BitVec 32 := BitVec.ofNat 32 (i 1).val
  let c2048_i32_732 : BitVec 32 := 2048#32
  let v1510 : BitVec 32 := Scalar.muli arg1 c2048_i32_732
  let c896_i32_733 : BitVec 32 := 896#32
  let v1511 : BitVec 32 := Scalar.addi v1510 c896_i32_733
  v1511
def k0_mult329 (i : grid0.Coords) : BitVec 32 :=
  let arg1 : BitVec 32 := BitVec.ofNat 32 (i 1).val
  let c2048_i32_751 : BitVec 32 := 2048#32
  let v1543 : BitVec 32 := Scalar.muli arg1 c2048_i32_751
  let c768_i32_752 : BitVec 32 := 768#32
  let v1544 : BitVec 32 := Scalar.addi v1543 c768_i32_752
  v1544
def k0_mult330 (i : grid0.Coords) : BitVec 32 :=
  let arg1 : BitVec 32 := BitVec.ofNat 32 (i 1).val
  let c2048_i32_760 : BitVec 32 := 2048#32
  let v1567 : BitVec 32 := Scalar.muli arg1 c2048_i32_760
  let c896_i32_761 : BitVec 32 := 896#32
  let v1568 : BitVec 32 := Scalar.addi v1567 c896_i32_761
  v1568
def k0_mult331 (i : grid0.Coords) : BitVec 32 :=
  let arg1 : BitVec 32 := BitVec.ofNat 32 (i 1).val
  let c2048_i32_779 : BitVec 32 := 2048#32
  let v1600 : BitVec 32 := Scalar.muli arg1 c2048_i32_779
  let c768_i32_780 : BitVec 32 := 768#32
  let v1601 : BitVec 32 := Scalar.addi v1600 c768_i32_780
  v1601
def k0_mult332 (i : grid0.Coords) : BitVec 32 :=
  let arg1 : BitVec 32 := BitVec.ofNat 32 (i 1).val
  let c2048_i32_788 : BitVec 32 := 2048#32
  let v1624 : BitVec 32 := Scalar.muli arg1 c2048_i32_788
  let c896_i32_789 : BitVec 32 := 896#32
  let v1625 : BitVec 32 := Scalar.addi v1624 c896_i32_789
  v1625
def k0_mult333 (i : grid0.Coords) : BitVec 32 :=
  let arg1 : BitVec 32 := BitVec.ofNat 32 (i 1).val
  let c2048_i32_807 : BitVec 32 := 2048#32
  let v1657 : BitVec 32 := Scalar.muli arg1 c2048_i32_807
  let c768_i32_808 : BitVec 32 := 768#32
  let v1658 : BitVec 32 := Scalar.addi v1657 c768_i32_808
  v1658
def k0_mult334 (i : grid0.Coords) : BitVec 32 :=
  let arg1 : BitVec 32 := BitVec.ofNat 32 (i 1).val
  let c2048_i32_816 : BitVec 32 := 2048#32
  let v1681 : BitVec 32 := Scalar.muli arg1 c2048_i32_816
  let c896_i32_817 : BitVec 32 := 896#32
  let v1682 : BitVec 32 := Scalar.addi v1681 c896_i32_817
  v1682
def k0_mult335 (i : grid0.Coords) : BitVec 32 :=
  let arg1 : BitVec 32 := BitVec.ofNat 32 (i 1).val
  let c2048_i32_835 : BitVec 32 := 2048#32
  let v1714 : BitVec 32 := Scalar.muli arg1 c2048_i32_835
  let c768_i32_836 : BitVec 32 := 768#32
  let v1715 : BitVec 32 := Scalar.addi v1714 c768_i32_836
  v1715
def k0_mult336 (i : grid0.Coords) : BitVec 32 :=
  let arg1 : BitVec 32 := BitVec.ofNat 32 (i 1).val
  let c2048_i32_844 : BitVec 32 := 2048#32
  let v1738 : BitVec 32 := Scalar.muli arg1 c2048_i32_844
  let c896_i32_845 : BitVec 32 := 896#32
  let v1739 : BitVec 32 := Scalar.addi v1738 c896_i32_845
  v1739
def k0_mult337 (i : grid0.Coords) : BitVec 32 :=
  let arg1 : BitVec 32 := BitVec.ofNat 32 (i 1).val
  let c2048_i32_863 : BitVec 32 := 2048#32
  let v1771 : BitVec 32 := Scalar.muli arg1 c2048_i32_863
  let c768_i32_864 : BitVec 32 := 768#32
  let v1772 : BitVec 32 := Scalar.addi v1771 c768_i32_864
  v1772
def k0_mult338 (i : grid0.Coords) : BitVec 32 :=
  let arg1 : BitVec 32 := BitVec.ofNat 32 (i 1).val
  let c2048_i32_872 : BitVec 32 := 2048#32
  let v1795 : BitVec 32 := Scalar.muli arg1 c2048_i32_872
  let c896_i32_873 : BitVec 32 := 896#32
  let v1796 : BitVec 32 := Scalar.addi v1795 c896_i32_873
  v1796
def k0_mult339 (i : grid0.Coords) : BitVec 32 :=
  let arg1 : BitVec 32 := BitVec.ofNat 32 (i 1).val
  let c2048_i32_891 : BitVec 32 := 2048#32
  let v1828 : BitVec 32 := Scalar.muli arg1 c2048_i32_891
  let c768_i32_892 : BitVec 32 := 768#32
  let v1829 : BitVec 32 := Scalar.addi v1828 c768_i32_892
  v1829
def k0_mult340 (i : grid0.Coords) : BitVec 32 :=
  let arg1 : BitVec 32 := BitVec.ofNat 32 (i 1).val
  let c2048_i32_900 : BitVec 32 := 2048#32
  let v1852 : BitVec 32 := Scalar.muli arg1 c2048_i32_900
  let c896_i32_901 : BitVec 32 := 896#32
  let v1853 : BitVec 32 := Scalar.addi v1852 c896_i32_901
  v1853
def k0_mult341 (i : grid0.Coords) : BitVec 32 :=
  let arg1 : BitVec 32 := BitVec.ofNat 32 (i 1).val
  let c2048_i32_911 : BitVec 32 := 2048#32
  let v1875 : BitVec 32 := Scalar.muli arg1 c2048_i32_911
  let c1024_i32 : BitVec 32 := 1024#32
  let v1876 : BitVec 32 := Scalar.addi v1875 c1024_i32
  v1876
def k0_mult342 (i : grid0.Coords) : BitVec 32 :=
  let arg1 : BitVec 32 := BitVec.ofNat 32 (i 1).val
  let c2048_i32_923 : BitVec 32 := 2048#32
  let v1892 : BitVec 32 := Scalar.muli arg1 c2048_i32_923
  let c1024_i32_924 : BitVec 32 := 1024#32
  let v1893 : BitVec 32 := Scalar.addi v1892 c1024_i32_924
  v1893
def k0_mult343 (i : grid0.Coords) : BitVec 32 :=
  let arg1 : BitVec 32 := BitVec.ofNat 32 (i 1).val
  let c2048_i32_931 : BitVec 32 := 2048#32
  let v1916 : BitVec 32 := Scalar.muli arg1 c2048_i32_931
  let c1152_i32 : BitVec 32 := 1152#32
  let v1917 : BitVec 32 := Scalar.addi v1916 c1152_i32
  v1917
def k0_mult344 (i : grid0.Coords) : BitVec 32 :=
  let arg1 : BitVec 32 := BitVec.ofNat 32 (i 1).val
  let c2048_i32_949 : BitVec 32 := 2048#32
  let v1949 : BitVec 32 := Scalar.muli arg1 c2048_i32_949
  let c1024_i32_950 : BitVec 32 := 1024#32
  let v1950 : BitVec 32 := Scalar.addi v1949 c1024_i32_950
  v1950
def k0_mult345 (i : grid0.Coords) : BitVec 32 :=
  let arg1 : BitVec 32 := BitVec.ofNat 32 (i 1).val
  let c2048_i32_958 : BitVec 32 := 2048#32
  let v1973 : BitVec 32 := Scalar.muli arg1 c2048_i32_958
  let c1152_i32_959 : BitVec 32 := 1152#32
  let v1974 : BitVec 32 := Scalar.addi v1973 c1152_i32_959
  v1974
def k0_mult346 (i : grid0.Coords) : BitVec 32 :=
  let arg1 : BitVec 32 := BitVec.ofNat 32 (i 1).val
  let c2048_i32_977 : BitVec 32 := 2048#32
  let v2006 : BitVec 32 := Scalar.muli arg1 c2048_i32_977
  let c1024_i32_978 : BitVec 32 := 1024#32
  let v2007 : BitVec 32 := Scalar.addi v2006 c1024_i32_978
  v2007
def k0_mult347 (i : grid0.Coords) : BitVec 32 :=
  let arg1 : BitVec 32 := BitVec.ofNat 32 (i 1).val
  let c2048_i32_986 : BitVec 32 := 2048#32
  let v2030 : BitVec 32 := Scalar.muli arg1 c2048_i32_986
  let c1152_i32_987 : BitVec 32 := 1152#32
  let v2031 : BitVec 32 := Scalar.addi v2030 c1152_i32_987
  v2031
def k0_mult348 (i : grid0.Coords) : BitVec 32 :=
  let arg1 : BitVec 32 := BitVec.ofNat 32 (i 1).val
  let c2048_i32_1005 : BitVec 32 := 2048#32
  let v2063 : BitVec 32 := Scalar.muli arg1 c2048_i32_1005
  let c1024_i32_1006 : BitVec 32 := 1024#32
  let v2064 : BitVec 32 := Scalar.addi v2063 c1024_i32_1006
  v2064
def k0_mult349 (i : grid0.Coords) : BitVec 32 :=
  let arg1 : BitVec 32 := BitVec.ofNat 32 (i 1).val
  let c2048_i32_1014 : BitVec 32 := 2048#32
  let v2087 : BitVec 32 := Scalar.muli arg1 c2048_i32_1014
  let c1152_i32_1015 : BitVec 32 := 1152#32
  let v2088 : BitVec 32 := Scalar.addi v2087 c1152_i32_1015
  v2088
def k0_mult350 (i : grid0.Coords) : BitVec 32 :=
  let arg1 : BitVec 32 := BitVec.ofNat 32 (i 1).val
  let c2048_i32_1033 : BitVec 32 := 2048#32
  let v2120 : BitVec 32 := Scalar.muli arg1 c2048_i32_1033
  let c1024_i32_1034 : BitVec 32 := 1024#32
  let v2121 : BitVec 32 := Scalar.addi v2120 c1024_i32_1034
  v2121
def k0_mult351 (i : grid0.Coords) : BitVec 32 :=
  let arg1 : BitVec 32 := BitVec.ofNat 32 (i 1).val
  let c2048_i32_1042 : BitVec 32 := 2048#32
  let v2144 : BitVec 32 := Scalar.muli arg1 c2048_i32_1042
  let c1152_i32_1043 : BitVec 32 := 1152#32
  let v2145 : BitVec 32 := Scalar.addi v2144 c1152_i32_1043
  v2145
def k0_mult352 (i : grid0.Coords) : BitVec 32 :=
  let arg1 : BitVec 32 := BitVec.ofNat 32 (i 1).val
  let c2048_i32_1061 : BitVec 32 := 2048#32
  let v2177 : BitVec 32 := Scalar.muli arg1 c2048_i32_1061
  let c1024_i32_1062 : BitVec 32 := 1024#32
  let v2178 : BitVec 32 := Scalar.addi v2177 c1024_i32_1062
  v2178
def k0_mult353 (i : grid0.Coords) : BitVec 32 :=
  let arg1 : BitVec 32 := BitVec.ofNat 32 (i 1).val
  let c2048_i32_1070 : BitVec 32 := 2048#32
  let v2201 : BitVec 32 := Scalar.muli arg1 c2048_i32_1070
  let c1152_i32_1071 : BitVec 32 := 1152#32
  let v2202 : BitVec 32 := Scalar.addi v2201 c1152_i32_1071
  v2202
def k0_mult354 (i : grid0.Coords) : BitVec 32 :=
  let arg1 : BitVec 32 := BitVec.ofNat 32 (i 1).val
  let c2048_i32_1089 : BitVec 32 := 2048#32
  let v2234 : BitVec 32 := Scalar.muli arg1 c2048_i32_1089
  let c1024_i32_1090 : BitVec 32 := 1024#32
  let v2235 : BitVec 32 := Scalar.addi v2234 c1024_i32_1090
  v2235
def k0_mult355 (i : grid0.Coords) : BitVec 32 :=
  let arg1 : BitVec 32 := BitVec.ofNat 32 (i 1).val
  let c2048_i32_1098 : BitVec 32 := 2048#32
  let v2258 : BitVec 32 := Scalar.muli arg1 c2048_i32_1098
  let c1152_i32_1099 : BitVec 32 := 1152#32
  let v2259 : BitVec 32 := Scalar.addi v2258 c1152_i32_1099
  v2259
def k0_mult356 (i : grid0.Coords) : BitVec 32 :=
  let arg1 : BitVec 32 := BitVec.ofNat 32 (i 1).val
  let c2048_i32_1117 : BitVec 32 := 2048#32
  let v2291 : BitVec 32 := Scalar.muli arg1 c2048_i32_1117
  let c1024_i32_1118 : BitVec 32 := 1024#32
  let v2292 : BitVec 32 := Scalar.addi v2291 c1024_i32_1118
  v2292
def k0_mult357 (i : grid0.Coords) : BitVec 32 :=
  let arg1 : BitVec 32 := BitVec.ofNat 32 (i 1).val
  let c2048_i32_1126 : BitVec 32 := 2048#32
  let v2315 : BitVec 32 := Scalar.muli arg1 c2048_i32_1126
  let c1152_i32_1127 : BitVec 32 := 1152#32
  let v2316 : BitVec 32 := Scalar.addi v2315 c1152_i32_1127
  v2316
def k0_mult358 (i : grid0.Coords) : BitVec 32 :=
  let arg1 : BitVec 32 := BitVec.ofNat 32 (i 1).val
  let c2048_i32_1137 : BitVec 32 := 2048#32
  let v2338 : BitVec 32 := Scalar.muli arg1 c2048_i32_1137
  let c1280_i32 : BitVec 32 := 1280#32
  let v2339 : BitVec 32 := Scalar.addi v2338 c1280_i32
  v2339
def k0_mult359 (i : grid0.Coords) : BitVec 32 :=
  let arg1 : BitVec 32 := BitVec.ofNat 32 (i 1).val
  let c2048_i32_1149 : BitVec 32 := 2048#32
  let v2355 : BitVec 32 := Scalar.muli arg1 c2048_i32_1149
  let c1280_i32_1150 : BitVec 32 := 1280#32
  let v2356 : BitVec 32 := Scalar.addi v2355 c1280_i32_1150
  v2356
def k0_mult360 (i : grid0.Coords) : BitVec 32 :=
  let arg1 : BitVec 32 := BitVec.ofNat 32 (i 1).val
  let c2048_i32_1157 : BitVec 32 := 2048#32
  let v2379 : BitVec 32 := Scalar.muli arg1 c2048_i32_1157
  let c1408_i32 : BitVec 32 := 1408#32
  let v2380 : BitVec 32 := Scalar.addi v2379 c1408_i32
  v2380
def k0_mult361 (i : grid0.Coords) : BitVec 32 :=
  let arg1 : BitVec 32 := BitVec.ofNat 32 (i 1).val
  let c2048_i32_1175 : BitVec 32 := 2048#32
  let v2412 : BitVec 32 := Scalar.muli arg1 c2048_i32_1175
  let c1280_i32_1176 : BitVec 32 := 1280#32
  let v2413 : BitVec 32 := Scalar.addi v2412 c1280_i32_1176
  v2413
def k0_mult362 (i : grid0.Coords) : BitVec 32 :=
  let arg1 : BitVec 32 := BitVec.ofNat 32 (i 1).val
  let c2048_i32_1184 : BitVec 32 := 2048#32
  let v2436 : BitVec 32 := Scalar.muli arg1 c2048_i32_1184
  let c1408_i32_1185 : BitVec 32 := 1408#32
  let v2437 : BitVec 32 := Scalar.addi v2436 c1408_i32_1185
  v2437
def k0_mult363 (i : grid0.Coords) : BitVec 32 :=
  let arg1 : BitVec 32 := BitVec.ofNat 32 (i 1).val
  let c2048_i32_1203 : BitVec 32 := 2048#32
  let v2469 : BitVec 32 := Scalar.muli arg1 c2048_i32_1203
  let c1280_i32_1204 : BitVec 32 := 1280#32
  let v2470 : BitVec 32 := Scalar.addi v2469 c1280_i32_1204
  v2470
def k0_mult364 (i : grid0.Coords) : BitVec 32 :=
  let arg1 : BitVec 32 := BitVec.ofNat 32 (i 1).val
  let c2048_i32_1212 : BitVec 32 := 2048#32
  let v2493 : BitVec 32 := Scalar.muli arg1 c2048_i32_1212
  let c1408_i32_1213 : BitVec 32 := 1408#32
  let v2494 : BitVec 32 := Scalar.addi v2493 c1408_i32_1213
  v2494
def k0_mult365 (i : grid0.Coords) : BitVec 32 :=
  let arg1 : BitVec 32 := BitVec.ofNat 32 (i 1).val
  let c2048_i32_1231 : BitVec 32 := 2048#32
  let v2526 : BitVec 32 := Scalar.muli arg1 c2048_i32_1231
  let c1280_i32_1232 : BitVec 32 := 1280#32
  let v2527 : BitVec 32 := Scalar.addi v2526 c1280_i32_1232
  v2527
def k0_mult366 (i : grid0.Coords) : BitVec 32 :=
  let arg1 : BitVec 32 := BitVec.ofNat 32 (i 1).val
  let c2048_i32_1240 : BitVec 32 := 2048#32
  let v2550 : BitVec 32 := Scalar.muli arg1 c2048_i32_1240
  let c1408_i32_1241 : BitVec 32 := 1408#32
  let v2551 : BitVec 32 := Scalar.addi v2550 c1408_i32_1241
  v2551
def k0_mult367 (i : grid0.Coords) : BitVec 32 :=
  let arg1 : BitVec 32 := BitVec.ofNat 32 (i 1).val
  let c2048_i32_1259 : BitVec 32 := 2048#32
  let v2583 : BitVec 32 := Scalar.muli arg1 c2048_i32_1259
  let c1280_i32_1260 : BitVec 32 := 1280#32
  let v2584 : BitVec 32 := Scalar.addi v2583 c1280_i32_1260
  v2584
def k0_mult368 (i : grid0.Coords) : BitVec 32 :=
  let arg1 : BitVec 32 := BitVec.ofNat 32 (i 1).val
  let c2048_i32_1268 : BitVec 32 := 2048#32
  let v2607 : BitVec 32 := Scalar.muli arg1 c2048_i32_1268
  let c1408_i32_1269 : BitVec 32 := 1408#32
  let v2608 : BitVec 32 := Scalar.addi v2607 c1408_i32_1269
  v2608
def k0_mult369 (i : grid0.Coords) : BitVec 32 :=
  let arg1 : BitVec 32 := BitVec.ofNat 32 (i 1).val
  let c2048_i32_1287 : BitVec 32 := 2048#32
  let v2640 : BitVec 32 := Scalar.muli arg1 c2048_i32_1287
  let c1280_i32_1288 : BitVec 32 := 1280#32
  let v2641 : BitVec 32 := Scalar.addi v2640 c1280_i32_1288
  v2641
def k0_mult370 (i : grid0.Coords) : BitVec 32 :=
  let arg1 : BitVec 32 := BitVec.ofNat 32 (i 1).val
  let c2048_i32_1296 : BitVec 32 := 2048#32
  let v2664 : BitVec 32 := Scalar.muli arg1 c2048_i32_1296
  let c1408_i32_1297 : BitVec 32 := 1408#32
  let v2665 : BitVec 32 := Scalar.addi v2664 c1408_i32_1297
  v2665
def k0_mult371 (i : grid0.Coords) : BitVec 32 :=
  let arg1 : BitVec 32 := BitVec.ofNat 32 (i 1).val
  let c2048_i32_1315 : BitVec 32 := 2048#32
  let v2697 : BitVec 32 := Scalar.muli arg1 c2048_i32_1315
  let c1280_i32_1316 : BitVec 32 := 1280#32
  let v2698 : BitVec 32 := Scalar.addi v2697 c1280_i32_1316
  v2698
def k0_mult372 (i : grid0.Coords) : BitVec 32 :=
  let arg1 : BitVec 32 := BitVec.ofNat 32 (i 1).val
  let c2048_i32_1324 : BitVec 32 := 2048#32
  let v2721 : BitVec 32 := Scalar.muli arg1 c2048_i32_1324
  let c1408_i32_1325 : BitVec 32 := 1408#32
  let v2722 : BitVec 32 := Scalar.addi v2721 c1408_i32_1325
  v2722
def k0_mult373 (i : grid0.Coords) : BitVec 32 :=
  let arg1 : BitVec 32 := BitVec.ofNat 32 (i 1).val
  let c2048_i32_1343 : BitVec 32 := 2048#32
  let v2754 : BitVec 32 := Scalar.muli arg1 c2048_i32_1343
  let c1280_i32_1344 : BitVec 32 := 1280#32
  let v2755 : BitVec 32 := Scalar.addi v2754 c1280_i32_1344
  v2755
def k0_mult374 (i : grid0.Coords) : BitVec 32 :=
  let arg1 : BitVec 32 := BitVec.ofNat 32 (i 1).val
  let c2048_i32_1352 : BitVec 32 := 2048#32
  let v2778 : BitVec 32 := Scalar.muli arg1 c2048_i32_1352
  let c1408_i32_1353 : BitVec 32 := 1408#32
  let v2779 : BitVec 32 := Scalar.addi v2778 c1408_i32_1353
  v2779
def k0_mult375 (i : grid0.Coords) : BitVec 32 :=
  let arg1 : BitVec 32 := BitVec.ofNat 32 (i 1).val
  let c2048_i32_1363 : BitVec 32 := 2048#32
  let v2801 : BitVec 32 := Scalar.muli arg1 c2048_i32_1363
  let c1536_i32 : BitVec 32 := 1536#32
  let v2802 : BitVec 32 := Scalar.addi v2801 c1536_i32
  v2802
def k0_mult376 (i : grid0.Coords) : BitVec 32 :=
  let arg1 : BitVec 32 := BitVec.ofNat 32 (i 1).val
  let c2048_i32_1375 : BitVec 32 := 2048#32
  let v2818 : BitVec 32 := Scalar.muli arg1 c2048_i32_1375
  let c1536_i32_1376 : BitVec 32 := 1536#32
  let v2819 : BitVec 32 := Scalar.addi v2818 c1536_i32_1376
  v2819
def k0_mult377 (i : grid0.Coords) : BitVec 32 :=
  let arg1 : BitVec 32 := BitVec.ofNat 32 (i 1).val
  let c2048_i32_1383 : BitVec 32 := 2048#32
  let v2842 : BitVec 32 := Scalar.muli arg1 c2048_i32_1383
  let c1664_i32 : BitVec 32 := 1664#32
  let v2843 : BitVec 32 := Scalar.addi v2842 c1664_i32
  v2843
def k0_mult378 (i : grid0.Coords) : BitVec 32 :=
  let arg1 : BitVec 32 := BitVec.ofNat 32 (i 1).val
  let c2048_i32_1401 : BitVec 32 := 2048#32
  let v2875 : BitVec 32 := Scalar.muli arg1 c2048_i32_1401
  let c1536_i32_1402 : BitVec 32 := 1536#32
  let v2876 : BitVec 32 := Scalar.addi v2875 c1536_i32_1402
  v2876
def k0_mult379 (i : grid0.Coords) : BitVec 32 :=
  let arg1 : BitVec 32 := BitVec.ofNat 32 (i 1).val
  let c2048_i32_1410 : BitVec 32 := 2048#32
  let v2899 : BitVec 32 := Scalar.muli arg1 c2048_i32_1410
  let c1664_i32_1411 : BitVec 32 := 1664#32
  let v2900 : BitVec 32 := Scalar.addi v2899 c1664_i32_1411
  v2900
def k0_mult380 (i : grid0.Coords) : BitVec 32 :=
  let arg1 : BitVec 32 := BitVec.ofNat 32 (i 1).val
  let c2048_i32_1429 : BitVec 32 := 2048#32
  let v2932 : BitVec 32 := Scalar.muli arg1 c2048_i32_1429
  let c1536_i32_1430 : BitVec 32 := 1536#32
  let v2933 : BitVec 32 := Scalar.addi v2932 c1536_i32_1430
  v2933
def k0_mult381 (i : grid0.Coords) : BitVec 32 :=
  let arg1 : BitVec 32 := BitVec.ofNat 32 (i 1).val
  let c2048_i32_1438 : BitVec 32 := 2048#32
  let v2956 : BitVec 32 := Scalar.muli arg1 c2048_i32_1438
  let c1664_i32_1439 : BitVec 32 := 1664#32
  let v2957 : BitVec 32 := Scalar.addi v2956 c1664_i32_1439
  v2957
def k0_mult382 (i : grid0.Coords) : BitVec 32 :=
  let arg1 : BitVec 32 := BitVec.ofNat 32 (i 1).val
  let c2048_i32_1457 : BitVec 32 := 2048#32
  let v2989 : BitVec 32 := Scalar.muli arg1 c2048_i32_1457
  let c1536_i32_1458 : BitVec 32 := 1536#32
  let v2990 : BitVec 32 := Scalar.addi v2989 c1536_i32_1458
  v2990
def k0_mult383 (i : grid0.Coords) : BitVec 32 :=
  let arg1 : BitVec 32 := BitVec.ofNat 32 (i 1).val
  let c2048_i32_1466 : BitVec 32 := 2048#32
  let v3013 : BitVec 32 := Scalar.muli arg1 c2048_i32_1466
  let c1664_i32_1467 : BitVec 32 := 1664#32
  let v3014 : BitVec 32 := Scalar.addi v3013 c1664_i32_1467
  v3014
def k0_mult384 (i : grid0.Coords) : BitVec 32 :=
  let arg1 : BitVec 32 := BitVec.ofNat 32 (i 1).val
  let c2048_i32_1485 : BitVec 32 := 2048#32
  let v3046 : BitVec 32 := Scalar.muli arg1 c2048_i32_1485
  let c1536_i32_1486 : BitVec 32 := 1536#32
  let v3047 : BitVec 32 := Scalar.addi v3046 c1536_i32_1486
  v3047
def k0_mult385 (i : grid0.Coords) : BitVec 32 :=
  let arg1 : BitVec 32 := BitVec.ofNat 32 (i 1).val
  let c2048_i32_1494 : BitVec 32 := 2048#32
  let v3070 : BitVec 32 := Scalar.muli arg1 c2048_i32_1494
  let c1664_i32_1495 : BitVec 32 := 1664#32
  let v3071 : BitVec 32 := Scalar.addi v3070 c1664_i32_1495
  v3071
def k0_mult386 (i : grid0.Coords) : BitVec 32 :=
  let arg1 : BitVec 32 := BitVec.ofNat 32 (i 1).val
  let c2048_i32_1513 : BitVec 32 := 2048#32
  let v3103 : BitVec 32 := Scalar.muli arg1 c2048_i32_1513
  let c1536_i32_1514 : BitVec 32 := 1536#32
  let v3104 : BitVec 32 := Scalar.addi v3103 c1536_i32_1514
  v3104
def k0_mult387 (i : grid0.Coords) : BitVec 32 :=
  let arg1 : BitVec 32 := BitVec.ofNat 32 (i 1).val
  let c2048_i32_1522 : BitVec 32 := 2048#32
  let v3127 : BitVec 32 := Scalar.muli arg1 c2048_i32_1522
  let c1664_i32_1523 : BitVec 32 := 1664#32
  let v3128 : BitVec 32 := Scalar.addi v3127 c1664_i32_1523
  v3128
def k0_mult388 (i : grid0.Coords) : BitVec 32 :=
  let arg1 : BitVec 32 := BitVec.ofNat 32 (i 1).val
  let c2048_i32_1541 : BitVec 32 := 2048#32
  let v3160 : BitVec 32 := Scalar.muli arg1 c2048_i32_1541
  let c1536_i32_1542 : BitVec 32 := 1536#32
  let v3161 : BitVec 32 := Scalar.addi v3160 c1536_i32_1542
  v3161
def k0_mult389 (i : grid0.Coords) : BitVec 32 :=
  let arg1 : BitVec 32 := BitVec.ofNat 32 (i 1).val
  let c2048_i32_1550 : BitVec 32 := 2048#32
  let v3184 : BitVec 32 := Scalar.muli arg1 c2048_i32_1550
  let c1664_i32_1551 : BitVec 32 := 1664#32
  let v3185 : BitVec 32 := Scalar.addi v3184 c1664_i32_1551
  v3185
def k0_mult390 (i : grid0.Coords) : BitVec 32 :=
  let arg1 : BitVec 32 := BitVec.ofNat 32 (i 1).val
  let c2048_i32_1569 : BitVec 32 := 2048#32
  let v3217 : BitVec 32 := Scalar.muli arg1 c2048_i32_1569
  let c1536_i32_1570 : BitVec 32 := 1536#32
  let v3218 : BitVec 32 := Scalar.addi v3217 c1536_i32_1570
  v3218
def k0_mult391 (i : grid0.Coords) : BitVec 32 :=
  let arg1 : BitVec 32 := BitVec.ofNat 32 (i 1).val
  let c2048_i32_1578 : BitVec 32 := 2048#32
  let v3241 : BitVec 32 := Scalar.muli arg1 c2048_i32_1578
  let c1664_i32_1579 : BitVec 32 := 1664#32
  let v3242 : BitVec 32 := Scalar.addi v3241 c1664_i32_1579
  v3242
def k0_mult392 (i : grid0.Coords) : BitVec 32 :=
  let arg1 : BitVec 32 := BitVec.ofNat 32 (i 1).val
  let c2048_i32_1589 : BitVec 32 := 2048#32
  let v3264 : BitVec 32 := Scalar.muli arg1 c2048_i32_1589
  let c1792_i32 : BitVec 32 := 1792#32
  let v3265 : BitVec 32 := Scalar.addi v3264 c1792_i32
  v3265
def k0_mult393 (i : grid0.Coords) : BitVec 32 :=
  let arg1 : BitVec 32 := BitVec.ofNat 32 (i 1).val
  let c2048_i32_1601 : BitVec 32 := 2048#32
  let v3281 : BitVec 32 := Scalar.muli arg1 c2048_i32_1601
  let c1792_i32_1602 : BitVec 32 := 1792#32
  let v3282 : BitVec 32 := Scalar.addi v3281 c1792_i32_1602
  v3282
def k0_mult394 (i : grid0.Coords) : BitVec 32 :=
  let arg1 : BitVec 32 := BitVec.ofNat 32 (i 1).val
  let c2048_i32_1609 : BitVec 32 := 2048#32
  let v3305 : BitVec 32 := Scalar.muli arg1 c2048_i32_1609
  let c1920_i32 : BitVec 32 := 1920#32
  let v3306 : BitVec 32 := Scalar.addi v3305 c1920_i32
  v3306
def k0_mult395 (i : grid0.Coords) : BitVec 32 :=
  let arg1 : BitVec 32 := BitVec.ofNat 32 (i 1).val
  let c2048_i32_1627 : BitVec 32 := 2048#32
  let v3338 : BitVec 32 := Scalar.muli arg1 c2048_i32_1627
  let c1792_i32_1628 : BitVec 32 := 1792#32
  let v3339 : BitVec 32 := Scalar.addi v3338 c1792_i32_1628
  v3339
def k0_mult396 (i : grid0.Coords) : BitVec 32 :=
  let arg1 : BitVec 32 := BitVec.ofNat 32 (i 1).val
  let c2048_i32_1636 : BitVec 32 := 2048#32
  let v3362 : BitVec 32 := Scalar.muli arg1 c2048_i32_1636
  let c1920_i32_1637 : BitVec 32 := 1920#32
  let v3363 : BitVec 32 := Scalar.addi v3362 c1920_i32_1637
  v3363
def k0_mult397 (i : grid0.Coords) : BitVec 32 :=
  let arg1 : BitVec 32 := BitVec.ofNat 32 (i 1).val
  let c2048_i32_1655 : BitVec 32 := 2048#32
  let v3395 : BitVec 32 := Scalar.muli arg1 c2048_i32_1655
  let c1792_i32_1656 : BitVec 32 := 1792#32
  let v3396 : BitVec 32 := Scalar.addi v3395 c1792_i32_1656
  v3396
def k0_mult398 (i : grid0.Coords) : BitVec 32 :=
  let arg1 : BitVec 32 := BitVec.ofNat 32 (i 1).val
  let c2048_i32_1664 : BitVec 32 := 2048#32
  let v3419 : BitVec 32 := Scalar.muli arg1 c2048_i32_1664
  let c1920_i32_1665 : BitVec 32 := 1920#32
  let v3420 : BitVec 32 := Scalar.addi v3419 c1920_i32_1665
  v3420
def k0_mult399 (i : grid0.Coords) : BitVec 32 :=
  let arg1 : BitVec 32 := BitVec.ofNat 32 (i 1).val
  let c2048_i32_1683 : BitVec 32 := 2048#32
  let v3452 : BitVec 32 := Scalar.muli arg1 c2048_i32_1683
  let c1792_i32_1684 : BitVec 32 := 1792#32
  let v3453 : BitVec 32 := Scalar.addi v3452 c1792_i32_1684
  v3453
def k0_mult400 (i : grid0.Coords) : BitVec 32 :=
  let arg1 : BitVec 32 := BitVec.ofNat 32 (i 1).val
  let c2048_i32_1692 : BitVec 32 := 2048#32
  let v3476 : BitVec 32 := Scalar.muli arg1 c2048_i32_1692
  let c1920_i32_1693 : BitVec 32 := 1920#32
  let v3477 : BitVec 32 := Scalar.addi v3476 c1920_i32_1693
  v3477
def k0_mult401 (i : grid0.Coords) : BitVec 32 :=
  let arg1 : BitVec 32 := BitVec.ofNat 32 (i 1).val
  let c2048_i32_1711 : BitVec 32 := 2048#32
  let v3509 : BitVec 32 := Scalar.muli arg1 c2048_i32_1711
  let c1792_i32_1712 : BitVec 32 := 1792#32
  let v3510 : BitVec 32 := Scalar.addi v3509 c1792_i32_1712
  v3510
def k0_mult402 (i : grid0.Coords) : BitVec 32 :=
  let arg1 : BitVec 32 := BitVec.ofNat 32 (i 1).val
  let c2048_i32_1720 : BitVec 32 := 2048#32
  let v3533 : BitVec 32 := Scalar.muli arg1 c2048_i32_1720
  let c1920_i32_1721 : BitVec 32 := 1920#32
  let v3534 : BitVec 32 := Scalar.addi v3533 c1920_i32_1721
  v3534
def k0_mult403 (i : grid0.Coords) : BitVec 32 :=
  let arg1 : BitVec 32 := BitVec.ofNat 32 (i 1).val
  let c2048_i32_1739 : BitVec 32 := 2048#32
  let v3566 : BitVec 32 := Scalar.muli arg1 c2048_i32_1739
  let c1792_i32_1740 : BitVec 32 := 1792#32
  let v3567 : BitVec 32 := Scalar.addi v3566 c1792_i32_1740
  v3567
def k0_mult404 (i : grid0.Coords) : BitVec 32 :=
  let arg1 : BitVec 32 := BitVec.ofNat 32 (i 1).val
  let c2048_i32_1748 : BitVec 32 := 2048#32
  let v3590 : BitVec 32 := Scalar.muli arg1 c2048_i32_1748
  let c1920_i32_1749 : BitVec 32 := 1920#32
  let v3591 : BitVec 32 := Scalar.addi v3590 c1920_i32_1749
  v3591
def k0_mult405 (i : grid0.Coords) : BitVec 32 :=
  let arg1 : BitVec 32 := BitVec.ofNat 32 (i 1).val
  let c2048_i32_1767 : BitVec 32 := 2048#32
  let v3623 : BitVec 32 := Scalar.muli arg1 c2048_i32_1767
  let c1792_i32_1768 : BitVec 32 := 1792#32
  let v3624 : BitVec 32 := Scalar.addi v3623 c1792_i32_1768
  v3624
def k0_mult406 (i : grid0.Coords) : BitVec 32 :=
  let arg1 : BitVec 32 := BitVec.ofNat 32 (i 1).val
  let c2048_i32_1776 : BitVec 32 := 2048#32
  let v3647 : BitVec 32 := Scalar.muli arg1 c2048_i32_1776
  let c1920_i32_1777 : BitVec 32 := 1920#32
  let v3648 : BitVec 32 := Scalar.addi v3647 c1920_i32_1777
  v3648
def k0_mult407 (i : grid0.Coords) : BitVec 32 :=
  let arg1 : BitVec 32 := BitVec.ofNat 32 (i 1).val
  let c2048_i32_1795 : BitVec 32 := 2048#32
  let v3680 : BitVec 32 := Scalar.muli arg1 c2048_i32_1795
  let c1792_i32_1796 : BitVec 32 := 1792#32
  let v3681 : BitVec 32 := Scalar.addi v3680 c1792_i32_1796
  v3681
def k0_mult408 (i : grid0.Coords) : BitVec 32 :=
  let arg1 : BitVec 32 := BitVec.ofNat 32 (i 1).val
  let c2048_i32_1804 : BitVec 32 := 2048#32
  let v3704 : BitVec 32 := Scalar.muli arg1 c2048_i32_1804
  let c1920_i32_1805 : BitVec 32 := 1920#32
  let v3705 : BitVec 32 := Scalar.addi v3704 c1920_i32_1805
  v3705
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .sgt arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![c0_i32_0.toNat, c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c7_i32 : BitVec 32 := 7#32
  let v2 : BitVec 32 := Scalar.select v1 arg1 c7_i32
  let c0_i32 : BitVec 32 := 0#32
  ![v0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c32_i32 : BitVec 32 := 32#32
  let v1 : BitVec 1 := Scalar.cmpi .slt arg0 c32_i32
  let c7_i32 : BitVec 32 := 7#32
  let v2 : BitVec 32 := Scalar.select v1 arg1 c7_i32
  let c0_i32 : BitVec 32 := 0#32
  ![v0.toNat, v2.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S256x1152 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1152x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x9x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8x1024x1152 : Shape := ⟨3, ![8, 1024, 1152]⟩
abbrev S8x1024x1 : Shape := ⟨3, ![8, 1024, 1]⟩
abbrev S1152x16384 : Shape := ⟨2, ![1152, 16384]⟩
abbrev S9x128 : Shape := ⟨2, ![9, 128]⟩
abbrev S8x1024x16384 : Shape := ⟨3, ![8, 1024, 16384]⟩
abbrev S16384 : Shape := ⟨1, ![16384]⟩
abbrev S9x1x128x1 : Shape := ⟨4, ![9, 1, 128, 1]⟩
abbrev S9x128x128x128 : Shape := ⟨4, ![9, 128, 128, 128]⟩
abbrev S8192x1152 : Shape := ⟨2, ![8192, 1152]⟩
abbrev S8192x1 : Shape := ⟨2, ![8192, 1]⟩
abbrev S8192x16384 : Shape := ⟨2, ![8192, 16384]⟩
abbrev S1x16384 : Shape := ⟨2, ![1, 16384]⟩
abbrev S32x2x128 : Shape := ⟨3, ![32, 2, 128]⟩
abbrev S8192 : Shape := ⟨1, ![8192]⟩
abbrev S8192x254 : Shape := ⟨2, ![8192, 254]⟩

abbrev nBuf : Space → Nat
  | .hbm => 17
  | .vmem => 9
  | .smem => 0
  | _ => 0

abbrev bufTy : (tb : Table) → Fin (tcTables nBuf tb) → BufTy
  | .hbm, ⟨0, _⟩ => ⟨S8x1024x1152, .fp8e4m3⟩
  | .hbm, ⟨1, _⟩ => ⟨S8x1024x1, .f32⟩
  | .hbm, ⟨2, _⟩ => ⟨S1152x16384, .fp8e4m3⟩
  | .hbm, ⟨3, _⟩ => ⟨S9x128, .f32⟩
  | .hbm, ⟨4, _⟩ => ⟨S8x1024x16384, .bf16⟩
  | .hbm, ⟨5, _⟩ => ⟨S16384, .bf16⟩
  | .hbm, ⟨6, _⟩ => ⟨S9x128, .bf16⟩
  | .hbm, ⟨7, _⟩ => ⟨S9x1x128x1, .bf16⟩
  | .hbm, ⟨8, _⟩ => ⟨S9x128x128x128, .bf16⟩
  | .hbm, ⟨9, _⟩ => ⟨S1152x16384, .bf16⟩
  | .hbm, ⟨10, _⟩ => ⟨S8192x1152, .fp8e4m3⟩
  | .hbm, ⟨11, _⟩ => ⟨S8192x1, .f32⟩
  | .hbm, ⟨12, _⟩ => ⟨S8192x16384, .bf16⟩
  | .hbm, ⟨13, _⟩ => ⟨S1x16384, .bf16⟩
  | .hbm, ⟨14, _⟩ => ⟨S8192x16384, .bf16⟩
  | .hbm, ⟨15, _⟩ => ⟨S8192x16384, .fp8e4m3⟩
  | .hbm, ⟨16, _⟩ => ⟨S32x2x128, .f32⟩
  | .local _ .vmem, ⟨0, _⟩ => ⟨S8192x1152, .fp8e4m3⟩
  | .local _ .vmem, ⟨1, _⟩ => ⟨S8192x1, .f32⟩
  | .local _ .vmem, ⟨2, _⟩ => ⟨S1152x16384, .fp8e4m3⟩
  | .local _ .vmem, ⟨3, _⟩ => ⟨S1152x16384, .bf16⟩
  | .local _ .vmem, ⟨4, _⟩ => ⟨S8192x16384, .bf16⟩
  | .local _ .vmem, ⟨5, _⟩ => ⟨S1x16384, .bf16⟩
  | .local _ .vmem, ⟨6, _⟩ => ⟨S8192x16384, .bf16⟩
  | .local _ .vmem, ⟨7, _⟩ => ⟨S8192x16384, .fp8e4m3⟩
  | .local _ .vmem, ⟨8, _⟩ => ⟨S32x2x128, .f32⟩
  | _, _ => ⟨S8x1024x1152, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8192x1152 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x16384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x16384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x16384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x16384 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Runs.lean ====
/- A judgement for straight-line programs over seventeen whole buffers.

   `Runs A c σ p a σ'` says: started with the seventeen buffers holding `σ`, the program `p` ends with
   the result `a` and the buffers holding `σ'`.  The rules below run loads, stores, sequences and counted
   loops, so that a program's effect on the buffers is a plain function of their contents. -/
module

public import Idealize.ShloMosaic.Lib.Pipeline
public import Idealize.ShloMosaic.Lib.Pipeline.FrameBody
public import Idealize.ShloMosaic.Lib.Memref
public import Idealize.ShloMosaic.Lib.Ring
public import Idealize.ShloMosaic.Lib.Claim
public import Idealize.ShloMosaic.Lib.Tactic
public import Idealize.ShloMosaic.PureOps

@[expose] public section

noncomputable section

namespace Cert.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The seventeen buffers: the six inputs, the three outputs, the eight scratch arrays. -/
inductive Slot
  | x | xs | w | ws | res | g | h | q | ns | wb | hbuf | xb | xsb | ss | mx | rs | inv
  deriving DecidableEq

/-- All seventeen, in order. -/
def Slot.all : List Slot :=
  [.x, .xs, .w, .ws, .res, .g, .h, .q, .ns, .wb, .hbuf, .xb, .xsb, .ss, .mx, .rs, .inv]

instance : Fintype Slot where
  elems := ⟨(Slot.all : Multiset Slot), by decide⟩
  complete b := by cases b <;> decide

/-- The shape of each buffer, -/
@[reducible] def shp : Slot → Shape
  | .x => ⟨2, ![256, 1152]⟩
  | .xs => ⟨3, ![1, 2, 128]⟩
  | .w => ⟨2, ![1152, 2048]⟩
  | .ws => ⟨3, ![1, 9, 2048]⟩
  | .res => ⟨2, ![256, 2048]⟩
  | .g => ⟨2, ![1, 2048]⟩
  | .h => ⟨2, ![256, 2048]⟩
  | .q => ⟨2, ![256, 2048]⟩
  | .ns => ⟨3, ![1, 2, 128]⟩
  | .wb => ⟨2, ![1152, 16384]⟩
  | .hbuf => ⟨2, ![256, 16384]⟩
  | .xb => ⟨2, ![256, 1152]⟩
  | .xsb => ⟨2, ![256, 128]⟩
  | .ss => ⟨2, ![256, 128]⟩
  | .mx => ⟨2, ![256, 128]⟩
  | .rs => ⟨2, ![256, 128]⟩
  | .inv => ⟨2, ![256, 128]⟩

/-- and its element type. -/
@[reducible] def elt : Slot → EltTy
  | .x => .fp8e4m3
  | .xs => .f32
  | .w => .fp8e4m3
  | .ws => .f32
  | .res => .bf16
  | .g => .f32
  | .h => .bf16
  | .q => .fp8e4m3
  | .ns => .f32
  | .wb => .bf16
  | .hbuf => .bf16
  | .xb => .bf16
  | .xsb => .f32
  | .ss => .f32
  | .mx => .f32
  | .rs => .f32
  | .inv => .f32

variable {nD : Nat} {τ : Topo} {sig : RefSig} {Λ : Labels} {F : FTy → Type}

/-- The buffers' contents. -/
abbrev St (F : FTy → Type) := (b : Slot) → (shp b).Idx → Elt F (elt b)

/-- The buffers themselves. -/
abbrev Bufs (sig : RefSig) := (b : Slot) → Memref sig .tc .vmem (shp b) (elt b)

local notation "𝕄" => MT nD τ sig Unit (Elt F) ℕ (UR sig nD τ) ℕ

/-- All seventeen buffers owned, at contents `σ`. -/
def own (A : Bufs sig) (c : Dev nD) (σ : St F) : sProp 𝕄 :=
  bigSep Finset.univ (fun b : Slot => owns (c : Thread nD τ) (A b) fullShare (σ b))

/-- From contents `σ`, `p` ends with the result `a` and contents `σ'`. -/
def Runs (defs : Defs nD τ sig (Elt F) Λ) (A : Bufs sig) (σ : St F) {α : Type} (p : Prog (TpuEff nD τ sig (Elt F) Λ .tc) α) (a : α) (σ' : St F) : Prop :=
  ∀ (c : Dev nD) (Q : α → sProp 𝕄),
    iprop(own A c σ ∗ (own A c σ' -∗ Q a))
      ⊢ wp frame (wpE defs Variants.none (c : Thread nD τ) none) Set.univ p Q

variable {defs : Defs nD τ sig (Elt F) Λ} {A : Bufs sig} {σ σ₁ σ₂ : St F} {α β : Type}

theorem Runs.pure (a : α) : Runs defs A σ (pure a : Prog (TpuEff nD τ sig (Elt F) Λ .tc) α) a σ := by
  intro c Q
  show _ ⊢ wp _ _ _ (.ret a) _
  iintro ⟨H, K⟩
  sl_step
  iapply K
  iexact H

theorem Runs.bind {p : Prog (TpuEff nD τ sig (Elt F) Λ .tc) α} {k : α → Prog (TpuEff nD τ sig (Elt F) Λ .tc) β} {a : α} {b : β}
    (hp : Runs defs A σ p a σ₁) (hk : Runs defs A σ₁ (k a) b σ₂) : Runs defs A σ (p >>= k) b σ₂ := by
  intro c Q
  rw [wp_bind]
  refine BIBase.Entails.trans ?_ (hp c _)
  iintro ⟨H, K⟩
  isplitl [H]
  · iexact H
  iintro H
  iapply (hk c Q)
  isplitl [H]
  · iexact H
  iexact K

theorem own_take (b : Slot) (c : Dev nD) (σ : St F) :
    own A c σ = iprop(owns (c : Thread nD τ) (A b) fullShare (σ b) ∗
      bigSep (Finset.univ.erase b) (fun b : Slot => owns (c : Thread nD τ) (A b) fullShare (σ b))) := by
  unfold own
  exact bigSep_erase (Finset.mem_univ b)

theorem own_put (b : Slot) (c : Dev nD) (σ : St F) (X : (shp b).Idx → Elt F (elt b)) :
    own A c (Function.update σ b X) = iprop(owns (c : Thread nD τ) (A b) fullShare X ∗
      bigSep (Finset.univ.erase b) (fun b : Slot => owns (c : Thread nD τ) (A b) fullShare (σ b))) := by
  rw [own_take b]
  congr 1
  · simp
  · refine bigSep_congr fun j hj => ?_
    rw [Function.update_of_ne (Finset.ne_of_mem_erase hj)]

theorem Runs.load (b : Slot) (r : Rect (shp b)) (hl : (A b).view.LoadsAt r.toLoadRect) :
    Runs defs A σ (Prog.lift (.load (A b) r.toLoadRect hl) : Prog (TpuEff nD τ sig (Elt F) Λ .tc) _)
      (fun i => σ b (r.emb i)) σ := by
  intro c Q
  rw [own_take b]
  generalize bigSep (Finset.univ.erase b)
    (fun b : Slot => (owns (c : Thread nD τ) (A b) fullShare (σ b) : sProp 𝕄)) = R
  unfold Prog.lift
  unfold owns
  iintro ⟨⟨⟨%f, %hf, H⟩, R⟩, K⟩
  have hread : ((A b).access r).read (Elt F) f = fun i => σ b (r.emb i) := by
    rw [← hf]; rfl
  iapply (wp_load_rect Variants.none (c : Thread nD τ) none Set.univ (m := A b) (r := r)
    (S := (A b).view.set) (q := fullShare) (f := f) (View.set_slice_subset _ r)) $$ H
  iintro H
  sl_step
  rw [hread]
  iapply K
  isplitl [H]
  · iexists f
    isplitr
    · ipureintro; exact hf
    iexact H
  iexact R

theorem Runs.store (b : Slot) (r : Rect (shp b)) (w : r.shape.Idx → Elt F (elt b))
    (hx : ((A b).access r).Stores Finset.univ) (hm : Finset.univ = Finset.univ ∨ ∀ a, r.stride a = 1) :
    Runs defs A σ (Prog.lift (.store (A b) r w Finset.univ hx hm) : Prog (TpuEff nD τ sig (Elt F) Λ .tc) _)
      ⟨⟩ (Function.update σ b (r.overlay (σ b) w)) := by
  intro c Q
  rw [own_put b, own_take b]
  generalize bigSep (Finset.univ.erase b)
    (fun b : Slot => (owns (c : Thread nD τ) (A b) fullShare (σ b) : sProp 𝕄)) = R
  unfold Prog.lift
  unfold owns
  iintro ⟨⟨⟨%f, %hf, H⟩, R⟩, K⟩
  have hread : (A b).view.read (Elt F) (((A b).access r).write (Elt F) f w Finset.univ) = r.overlay (σ b) w := by
    funext j
    by_cases hj : j ∈ Finset.univ.map r.emb
    · obtain ⟨i, hi, rfl⟩ := Finset.mem_map.mp hj
      rw [Rect.overlay_emb]
      exact View.read_slice_write_emb (v := (A b).view) r f w hi
    · rw [Rect.overlay_of_not_mem _ _ _ (by rwa [Rect.map_emb_univ] at hj), ← hf]
      exact View.read_slice_write_of_not_mem (v := (A b).view) r f w _ hj
  iapply (wp_store Variants.none (c : Thread nD τ) none Set.univ (m := A b) (r := r) (w := w) (hx := hx) (hm := hm)
    (S := (A b).view.set) (f := f) ((View.setOn_subset_set _ _).trans (View.set_slice_subset _ r))) $$ H
  iintro H
  sl_step
  iapply K
  isplitl [H]
  · iexists _
    isplitr
    swap
    · iexact H
    ipureintro; exact hread
  iexact R

/-- `f 0`, `f 1`, …, `f (n-1)` in order. -/
def seqN : (n : ℕ) → (Fin n → Prog (TpuEff nD τ sig (Elt F) Λ .tc) PUnit) → Prog (TpuEff nD τ sig (Elt F) Λ .tc) PUnit
  | 0, _ => Pure.pure ⟨⟩
  | n + 1, f => f 0 >>= fun _ => seqN n fun i => f i.succ

/-- The state after each of `n` steps, the first step first. -/
def foldN {S : Type} : (n : ℕ) → (Fin n → S → S) → S → S
  | 0, _, s => s
  | n + 1, f, s => foldN n (fun i => f i.succ) (f 0 s)

theorem Runs.seqN {n : ℕ} {f : Fin n → Prog (TpuEff nD τ sig (Elt F) Λ .tc) PUnit} {g : Fin n → St F → St F}
    (h : ∀ i σ, Runs defs A σ (f i) ⟨⟩ (g i σ)) : ∀ σ, Runs defs A σ (seqN n f) ⟨⟩ (foldN n g σ) := by
  induction n with
  | zero => exact fun σ => Runs.pure _
  | succ n ih => exact fun σ => Runs.bind (h 0 σ) (ih (fun i => h i.succ) _)

/-- What holds before the first step and is carried from each step to the next holds after the last. -/
theorem foldN_induct {S : Type} {n : ℕ} (f : Fin n → S → S) (P : ℕ → S → Prop)
    (hstep : ∀ (i : Fin n) s, P i.val s → P (i.val + 1) (f i s)) :
    ∀ s, P 0 s → P n (foldN n f s) := by
  induction n generalizing P with
  | zero => exact fun s h => h
  | succ n ih =>
    intro s h
    refine ih (fun i => f i.succ) (fun k => P (k + 1)) (fun i s hs => ?_) _ (hstep 0 s h)
    exact hstep i.succ s hs

/-- A branch on a decidable condition, the other side doing nothing. -/
theorem Runs.dite {c : Prop} [Decidable c] {p : c → Prog (TpuEff nD τ sig (Elt F) Λ .tc) PUnit} {g : St F → St F}
    (h : ∀ hc, Runs defs A σ (p hc) ⟨⟩ (g σ)) :
    Runs defs A σ (if hc : c then p hc else Pure.pure ⟨⟩) ⟨⟩ (if c then g σ else σ) := by
  by_cases hc : c
  · rw [dif_pos hc, if_pos hc]; exact h hc
  · rw [dif_neg hc, if_neg hc]; exact Runs.pure _

end Cert.Fused
-- ==== Proof.Prog.lean ====
/- The kernel's body, written with loops.

   The printed body spells out every tile; here each of its six guarded sections is a counted loop over
   one tile's statements.  `body` is the whole; `Printed` says the printed text is this program. -/
module

public import proofs.«01_k».proof.Proof.Runs

@[expose] public section

noncomputable section

namespace Cert.Fused

open Idealize.ShloMosaic Idealize.SL.Sem

abbrev S128x128 : Shape := ⟨2, ![128, 128]⟩
abbrev S1x1x128 : Shape := ⟨3, ![1, 1, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S32x128 : Shape := ⟨2, ![32, 128]⟩
abbrev S256x1152 : Shape := ⟨2, ![256, 1152]⟩
abbrev S1152x256 : Shape := ⟨2, ![1152, 256]⟩
abbrev S256x256 : Shape := ⟨2, ![256, 256]⟩

/-! ## Rectangles -/

/-- Rows `o … o+n`, columns `p … p+m` of an `N × M` array. -/
@[reducible] def rect2 (N M o p n m : ℕ) (h1 : o + n ≤ N) (h2 : p + m ≤ M) : Rect (⟨2, ![N, M]⟩ : Shape) :=
  Rect.unit (s := ⟨2, ![N, M]⟩) ![o, p] ![n, m] (by
    intro a
    match a with
    | ⟨0, _⟩ => exact h1
    | ⟨1, _⟩ => exact h2)

/-- Row `o`, columns `p … p+m` of a `1 × N × M` array. -/
@[reducible] def rect3 (N M o p m : ℕ) (h1 : o + 1 ≤ N) (h2 : p + m ≤ M) : Rect (⟨3, ![1, N, M]⟩ : Shape) :=
  Rect.unit (s := ⟨3, ![1, N, M]⟩) ![0, o, p] ![1, 1, m] (by
    intro a
    match a with
    | ⟨0, _⟩ => exact Nat.le_refl 1
    | ⟨1, _⟩ => exact h1
    | ⟨2, _⟩ => exact h2)

theorem packed2 {N M o p n m : ℕ} {h1 : o + n ≤ N} {h2 : p + m ≤ M} (k : ℕ) (ho : k ∣ o) (hn : k ∣ n) :
    (rect2 N M o p n m h1 h2).PackedRows k :=
  .inr ⟨Nat.le_refl 2, rfl, .inl ⟨ho, hn⟩⟩

/-- The first column of the `k`-th column of the `c`-th 2048-column panel, in 32-bit words. -/
@[reducible] def colw (c k : ℕ) : BitVec 32 :=
  Scalar.indexCast (Scalar.addi (Scalar.muli (BitVec.ofNat 32 c) 2048#32) (BitVec.ofNat 32 k))

theorem colw_toNat {c k : ℕ} (hc : c < 8) (hk : k < 2048) : (colw c k).toNat = 2048 * c + k := by
  show (BitVec.ofNat 32 c * 2048#32 + BitVec.ofNat 32 k).toNat = _
  rw [BitVec.toNat_add, BitVec.toNat_mul, BitVec.toNat_ofNat, BitVec.toNat_ofNat, BitVec.toNat_ofNat]
  omega

theorem colw_le {c k m : ℕ} (hc : c < 8) (hk : k + m ≤ 2048) (hm : 0 < m) : (colw c k).toNat + m ≤ 16384 := by
  rw [colw_toNat hc (by omega)]; omega

/-! ## The rectangles the sections use -/

abbrev rW (k : Fin 9) (l : Fin 16) := rect2 1152 2048 (128 * k.val) (128 * l.val) 128 128 (by omega) (by omega)
abbrev rWs (k : Fin 9) (l : Fin 16) := rect3 9 2048 k.val (128 * l.val) 128 (by omega) (by omega)
abbrev rWb (c : ℕ) (hc : c < 8) (k : Fin 9) (l : Fin 16) := rect2 1152 16384 (128 * k.val) (colw c (128 * l.val)).toNat 128 128 (by omega) (colw_le hc (by omega) (by omega))
abbrev rAll := rect2 256 128 0 0 256 128 (by omega) (by omega)
abbrev rHalf (b : Fin 2) := rect2 256 128 (128 * b.val) 0 128 128 (by omega) (by omega)
abbrev rRow (b : Fin 2) := rect3 2 128 b.val 0 128 (by omega) (by omega)
abbrev rX := rect2 256 1152 0 0 256 1152 (by omega) (by omega)
abbrev rStrip (s : Fin 8) := rect2 256 128 (32 * s.val) 0 32 128 (by omega) (by omega)
abbrev rT (s : Fin 8) (l : Fin 16) := rect2 256 2048 (32 * s.val) (128 * l.val) 32 128 (by omega) (by omega)
abbrev rG (l : Fin 16) := rect2 1 2048 0 (128 * l.val) 1 128 (by omega) (by omega)
abbrev rH (c : ℕ) (hc : c < 8) (s : Fin 8) (l : Fin 16) := rect2 256 16384 (32 * s.val) (colw c (128 * l.val)).toNat 32 128 (by omega) (colw_le hc (by omega) (by omega))
abbrev rWt (c : ℕ) (hc : c < 8) (t : Fin 8) := rect2 1152 16384 0 (colw c (256 * t.val)).toNat 1152 256 (by omega) (colw_le hc (by omega) (by omega))
/-- Lane tile `u` of 256-column block `t`. -/
@[reducible] def lane (t : Fin 8) (u : Fin 2) : Fin 16 := ⟨2 * t.val + u.val, by omega⟩

variable {nD : Nat} {τ : Topo} {sig : RefSig} {Λ : Labels} {F : FTy → Type} [FloatOps F]

/-! ## The six conditions, as the kernel computes them -/

abbrev w0 (n : ℕ) : BitVec 32 := BitVec.ofNat 32 n
abbrev asCond (b : BitVec 1) : BitVec 1 := Scalar.cmpi .ne (Scalar.extui b : BitVec 32) 0#32

section
variable (i c : ℕ)

abbrev cond1 : BitVec 1 := asCond (Scalar.cmpi .eq (w0 i) 0#32)
abbrev cond2 : BitVec 1 := asCond (Scalar.andi (Scalar.cmpi .eq (w0 c) 0#32) (Scalar.cmpi .sgt (w0 i) 0#32))
abbrev cond3 : BitVec 1 := asCond (Scalar.andi (Scalar.cmpi .eq (w0 c) 0#32) (Scalar.cmpi .slt (w0 i) 32#32))
abbrev cond4 : BitVec 1 := asCond (Scalar.cmpi .eq (w0 c) 0#32)
abbrev cond5 : BitVec 1 := asCond (Scalar.cmpi .sgt (w0 i) 0#32)
abbrev cond6 : BitVec 1 := asCond (Scalar.cmpi .slt (w0 i) 32#32)

end

/-! ## What each tile computes -/

theorem lt_bf16_f32 : FTy.bits .bf16 < FTy.bits .f32 := by decide
theorem lt_fp8_bf16 : FTy.bits .fp8e4m3 < FTy.bits .bf16 := by decide
theorem lt_fp8_f32 : FTy.bits .fp8e4m3 < FTy.bits .f32 := by decide
theorem pos_128x128 : 0 < S128x128.numel := by decide
theorem pos_1x1x128 : 0 < S1x1x128.numel := by decide
theorem pos_1x128 : 0 < S1x128.numel := by decide
theorem pos_256x128 : 0 < S256x128.numel := by decide
theorem pos_32x128 : 0 < S32x128.numel := by decide
theorem pos_256x1152 : 0 < S256x1152.numel := by decide
theorem pos_1152x256 : 0 < S1152x256.numel := by decide

/-- One 128 × 128 tile of the scaled weights. -/
def wTile (w : FVec F S128x128 .fp8e4m3) (ws : FVec F S1x1x128 .f32) : FVec F S128x128 .bf16 :=
  mulf (extf .bf16 w lt_fp8_bf16)
    (broadcastTo S128x128 (truncf .bf16 (shapeCast S1x128 ws (by decide)) lt_bf16_f32) (by decide))

/-- A row of 128 values, each replicated along its own row of a 128 × 128 tile. -/
def repTile (xs : FVec F S1x1x128 .f32) : FVec F S128x128 .f32 :=
  transpose S128x128 [1, 0] (broadcastTo S128x128 (shapeCast S1x128 (shapeCast S1x128 xs (by decide) : FVec F S1x128 .f32) (by decide)) (by decide)) (by decide)

/-- The reciprocal root of the mean square, replicated along the lanes. -/
def statR (s : FVec F S256x128 .f32) : FVec F S256x128 .f32 :=
  broadcastTo S256x128 (shapeCast S256x1 (rsqrt (addf (mulf
    (shapeCast S256x1 (multiReduction .add [1] S256 s 0x00000000#32 (by decide) (.inl rfl) rfl) (by decide))
    (broadcast S256x1 (Scalar.ofBits .f32 0x38800000#32))) (broadcast S256x1 (Scalar.ofBits .f32 0x3727C5AC#32)))) (by decide)) (by decide)

/-- The largest magnitude over 448, replicated along the lanes. -/
def statV (m r : FVec F S256x128 .f32) : FVec F S256x128 .f32 :=
  mulf (mulf (broadcastTo S256x128 (shapeCast S256x1
    (shapeCast S256x1 (multiReduction .maximumf [1] S256 m 0xFF800000#32 (by decide) (.inl rfl) rfl) (by decide) : FVec F S256x1 .f32) (by decide)) (by decide)) r)
    (broadcast S256x128 (Scalar.ofBits .f32 0x3B124925#32))

/-- The float whose bits are `b` moved to the exponent field. -/
def ofExp (b : IVec S256x128 32) : FVec F S256x128 .f32 :=
  bitcastToFloat .f32 (shli b (broadcast S256x128 23#32))

/-- One step of the exponent search: raise `b` by `step` unless that passes `v`. -/
def raise (v : FVec F S256x128 .f32) (step : BitVec 32) (b : IVec S256x128 32) : IVec S256x128 32 :=
  select (cmpf .olt v (ofExp (addi b (broadcast S256x128 step)))) b (addi b (broadcast S256x128 step))

/-- The exponent field of `v`. -/
def expField (v : FVec F S256x128 .f32) : IVec S256x128 32 :=
  raise v 1#32 (raise v 2#32 (raise v 4#32 (raise v 8#32 (raise v 16#32 (raise v 32#32 (raise v 64#32 (raise v 128#32
    (broadcast S256x128 0#32))))))))

/-- The scale's exponent: one above `v`'s, zero where `v` is zero or has the top exponent. -/
def scaleExp (v : FVec F S256x128 .f32) : IVec S256x128 32 :=
  select (ori (cmpf .oeq v (broadcast S256x128 (Scalar.ofBits .f32 0x00000000#32))) (cmpi .eq (expField v) (broadcast S256x128 255#32)))
    (broadcast S256x128 0#32) (subi (expField v) (broadcast S256x128 126#32))

/-- The scale, -/
def scaleOf (v : FVec F S256x128 .f32) : FVec F S256x128 .f32 :=
  ofExp (addi (scaleExp v) (broadcast S256x128 127#32))

/-- and what the kernel multiplies by to divide by it. -/
def invOf (v : FVec F S256x128 .f32) : FVec F S256x128 .f32 :=
  ofExp (maxsi (subi (broadcast S256x128 127#32) (scaleExp v)) (broadcast S256x128 0#32))

theorem slices_half (b : Fin 2) : S256x128.Slices ![128 * b.val, 0] S128x128 := by revert b; decide

/-- The scales of half `b`'s 128 rows, as one row. -/
def scaleRow (sc : FVec F S256x128 .f32) (b : Fin 2) : FVec F S1x1x128 .f32 :=
  shapeCast S1x1x128 (extractStridedSlice S1x128 ![0, 0]
    (transpose S128x128 [1, 0] (extractStridedSlice S128x128 ![128 * b.val, 0] sc (slices_half b)) (by decide) : FVec F S128x128 .f32) (by decide) : FVec F S1x128 .f32) (by decide)

/-- A row of weights over one strip. -/
def gStrip (g : FVec F S1x128 .f32) : FVec F S32x128 .f32 :=
  broadcastTo S32x128 (shapeCast S1x128 g (by decide)) (by decide)

/-- One tile of codes. -/
def qTile (h : FVec F S32x128 .bf16) (r iv : FVec F S32x128 .f32) (g : FVec F S1x128 .f32) : FVec F S32x128 .fp8e4m3 :=
  truncf .fp8e4m3 (minimumf (maximumf (mulf (mulf (mulf (extf .f32 h lt_bf16_f32) r) (gStrip g)) iv)
    (broadcast S32x128 (Scalar.ofBits .f32 0xC3E00000#32))) (broadcast S32x128 (Scalar.ofBits .f32 0x43E00000#32))) lt_fp8_f32

def dotXW : DotDims S256x1152 S1152x256 S256x256 where
  lhsContracting := [1]
  rhsContracting := [0]
  lhsNonContracting := [0]
  rhsNonContracting := [1]
  lhsBatch := []
  rhsBatch := []
  wf := by decide

/-- 256 columns of the product. -/
def accOf (x : FVec F S256x1152 .bf16) (w : FVec F S1152x256 .bf16) : FVec F S256x256 .f32 :=
  matmul dotXW none x w (constant S256x256 .f32 0x00000000#32)

theorem slices_acc (s : Fin 8) (u : Fin 2) : S256x256.Slices ![32 * s.val, 128 * u.val] S32x128 := by
  revert s u; decide

/-- One tile of the first result. -/
def hTile (acc : FVec F S256x256 .f32) (s : Fin 8) (u : Fin 2) (xs : FVec F S32x128 .f32) (res : FVec F S32x128 .bf16) :
    FVec F S32x128 .bf16 :=
  truncf .bf16 (addf (extf .f32 (shapeCast S32x128 res (by decide) : FVec F S32x128 .bf16) lt_bf16_f32)
    (mulf (extractStridedSlice S32x128 ![32 * s.val, 128 * u.val] acc (slices_acc s u)) xs)) lt_bf16_f32

/-- The squares' running sum after a tile, -/
def ssStep (h : FVec F S32x128 .bf16) (s : FVec F S32x128 .f32) : FVec F S32x128 .f32 :=
  addf s (mulf (extf .f32 h lt_bf16_f32) (extf .f32 h lt_bf16_f32))

/-- and the magnitudes' running maximum. -/
def mxStep (h : FVec F S32x128 .bf16) (g : FVec F S1x128 .f32) (m : FVec F S32x128 .f32) : FVec F S32x128 .f32 :=
  maximumf m (absf (mulf (extf .f32 h lt_bf16_f32) (gStrip g)))

/-! ## The sections -/

variable (A : Bufs sig) (hA : ∀ b, (A b).IsWhole) (i c : ℕ) (hc : c < 8)

local notation "P" => Prog (TpuEff nD τ sig (Elt F) Λ Proc.tc)

def prepTile (k : Fin 9) (l : Fin 16) : P PUnit := do
  let w : Vec F S128x128 .fp8e4m3 ← Prog.lift (.load (A .w) (rW k l).toLoadRect (View.loadsAt_vmem pos_128x128))
  let ws : Vec F S1x1x128 .f32 ← Prog.lift (.load (A .ws) (rWs k l).toLoadRect (View.loadsAt_vmem pos_1x1x128))
  let _ ← Prog.lift (.load (A .wb) (rWb c hc k l).toLoadRect (View.loadsAt_vmem pos_128x128))
  Prog.lift (.store (A .wb) (rWb c hc k l) (shapeCast S128x128 (wTile w ws) (by decide)) Finset.univ
    (View.stores_vmem pos_128x128 ((hA .wb).storeExact_slice rfl _ (packed2 _ ⟨64 * k.val, by show _ = 2 * _; omega⟩ ⟨64, rfl⟩)) (fun _ => rfl)) (.inl rfl))

def prep : P PUnit := seqN 9 fun k => seqN 16 fun l => prepTile A hA c hc k l

def nsHalf (sc : FVec F S256x128 .f32) (b : Fin 2) : P PUnit := do
  let _ ← Prog.lift (.load (A .ns) (rRow b).toLoadRect (View.loadsAt_vmem pos_1x1x128))
  Prog.lift (.store (A .ns) (rRow b) (scaleRow sc b) Finset.univ (View.stores_vmem_bits_univ pos_1x1x128 rfl) (.inl rfl))

def stats : P PUnit := do
  let s : Vec F S256x128 .f32 ← Prog.lift (.load (A .ss) rAll.toLoadRect (View.loadsAt_vmem pos_256x128))
  let m : Vec F S256x128 .f32 ← Prog.lift (.load (A .mx) rAll.toLoadRect (View.loadsAt_vmem pos_256x128))
  let _ ← Prog.lift (.load (A .rs) rAll.toLoadRect (View.loadsAt_vmem pos_256x128))
  Prog.lift (.store (A .rs) rAll (shapeCast S256x128 (statR s) (by decide)) Finset.univ (View.stores_vmem_bits_univ pos_256x128 rfl) (.inl rfl))
  let _ ← Prog.lift (.load (A .inv) rAll.toLoadRect (View.loadsAt_vmem pos_256x128))
  Prog.lift (.store (A .inv) rAll (shapeCast S256x128 (invOf (statV m (statR s))) (by decide)) Finset.univ (View.stores_vmem_bits_univ pos_256x128 rfl) (.inl rfl))
  seqN 2 fun b => nsHalf A (scaleOf (statV m (statR s))) b

def xsHalf (b : Fin 2) : P PUnit := do
  let xs : Vec F S1x1x128 .f32 ← Prog.lift (.load (A .xs) (rRow b).toLoadRect (View.loadsAt_vmem pos_1x1x128))
  let _ ← Prog.lift (.load (A .xsb) (rHalf b).toLoadRect (View.loadsAt_vmem pos_128x128))
  Prog.lift (.store (A .xsb) (rHalf b) (shapeCast S128x128 (repTile xs) (by decide)) Finset.univ (View.stores_vmem_bits_univ pos_128x128 rfl) (.inl rfl))

def rows : P PUnit := do
  let x : Vec F S256x1152 .fp8e4m3 ← Prog.lift (.load (A .x) rX.toLoadRect (View.loadsAt_vmem pos_256x1152))
  let _ ← Prog.lift (.load (A .xb) rX.toLoadRect (View.loadsAt_vmem pos_256x1152))
  Prog.lift (.store (A .xb) rX (shapeCast S256x1152 (extf .bf16 (shapeCast S256x1152 x (by decide) : FVec F S256x1152 .fp8e4m3) lt_fp8_bf16 : FVec F S256x1152 .bf16) (by decide)) Finset.univ
    (View.stores_vmem pos_256x1152 ((hA .xb).storeExact_slice rfl _ (packed2 _ ⟨0, rfl⟩ ⟨128, rfl⟩)) (fun _ => rfl)) (.inl rfl))
  seqN 2 fun b => xsHalf A b

def zeros : FVec F S256x128 .f32 := broadcast S256x128 (Scalar.ofBits .f32 0x00000000#32)

def zero : P PUnit := do
  let _ ← Prog.lift (.load (A .ss) rAll.toLoadRect (View.loadsAt_vmem pos_256x128))
  Prog.lift (.store (A .ss) rAll (shapeCast S256x128 (zeros : FVec F S256x128 .f32) (by decide)) Finset.univ (View.stores_vmem_bits_univ pos_256x128 rfl) (.inl rfl))
  let _ ← Prog.lift (.load (A .mx) rAll.toLoadRect (View.loadsAt_vmem pos_256x128))
  Prog.lift (.store (A .mx) rAll (shapeCast S256x128 (zeros : FVec F S256x128 .f32) (by decide)) Finset.univ (View.stores_vmem_bits_univ pos_256x128 rfl) (.inl rfl))

def quantTile (s : Fin 8) (r iv : FVec F S32x128 .f32) (l : Fin 16) : P PUnit := do
  let h : Vec F S32x128 .bf16 ← Prog.lift (.load (A .hbuf) (rH c hc s l).toLoadRect (View.loadsAt_vmem pos_32x128))
  let g : Vec F S1x128 .f32 ← Prog.lift (.load (A .g) (rG l).toLoadRect (View.loadsAt_vmem pos_1x128))
  let _ ← Prog.lift (.load (A .q) (rT s l).toLoadRect (View.loadsAt_vmem pos_32x128))
  Prog.lift (.store (A .q) (rT s l) (qTile h r iv g) Finset.univ
    (View.stores_vmem pos_32x128 ((hA .q).storeExact_slice rfl _ (packed2 _ ⟨8 * s.val, by show _ = 4 * _; omega⟩ ⟨8, rfl⟩)) (fun _ => rfl)) (.inl rfl))

def quant : P PUnit := seqN 8 fun s => do
  let r : Vec F S32x128 .f32 ← Prog.lift (.load (A .rs) (rStrip s).toLoadRect (View.loadsAt_vmem pos_32x128))
  let iv : Vec F S32x128 .f32 ← Prog.lift (.load (A .inv) (rStrip s).toLoadRect (View.loadsAt_vmem pos_32x128))
  seqN 16 fun l => quantTile A hA c hc s r iv l

def projTile (acc : FVec F S256x256 .f32) (t s : Fin 8) (xs : FVec F S32x128 .f32) (u : Fin 2)
    (sm : FVec F S32x128 .f32 × FVec F S32x128 .f32) : P (FVec F S32x128 .f32 × FVec F S32x128 .f32) := do
  let res : Vec F S32x128 .bf16 ← Prog.lift (.load (A .res) (rT s (lane t u)).toLoadRect (View.loadsAt_vmem pos_32x128))
  let _ ← Prog.lift (.load (A .h) (rT s (lane t u)).toLoadRect (View.loadsAt_vmem pos_32x128))
  Prog.lift (.store (A .h) (rT s (lane t u)) (hTile acc s u xs res) Finset.univ
    (View.stores_vmem pos_32x128 ((hA .h).storeExact_slice rfl _ (packed2 _ ⟨16 * s.val, by show _ = 2 * _; omega⟩ ⟨16, rfl⟩)) (fun _ => rfl)) (.inl rfl))
  let _ ← Prog.lift (.load (A .hbuf) (rH c hc s (lane t u)).toLoadRect (View.loadsAt_vmem pos_32x128))
  Prog.lift (.store (A .hbuf) (rH c hc s (lane t u)) (shapeCast S32x128 (hTile acc s u xs res) (by decide)) Finset.univ
    (View.stores_vmem pos_32x128 ((hA .hbuf).storeExact_slice rfl _ (packed2 _ ⟨16 * s.val, by show _ = 2 * _; omega⟩ ⟨16, rfl⟩)) (fun _ => rfl)) (.inl rfl))
  let g : Vec F S1x128 .f32 ← Prog.lift (.load (A .g) (rG (lane t u)).toLoadRect (View.loadsAt_vmem pos_1x128))
  pure (ssStep (hTile acc s u xs res) sm.1, mxStep (hTile acc s u xs res) g sm.2)

def projStrip (acc : FVec F S256x256 .f32) (t s : Fin 8) : P PUnit := do
  let xs : Vec F S32x128 .f32 ← Prog.lift (.load (A .xsb) (rStrip s).toLoadRect (View.loadsAt_vmem pos_32x128))
  let ss : Vec F S32x128 .f32 ← Prog.lift (.load (A .ss) (rStrip s).toLoadRect (View.loadsAt_vmem pos_32x128))
  let mx : Vec F S32x128 .f32 ← Prog.lift (.load (A .mx) (rStrip s).toLoadRect (View.loadsAt_vmem pos_32x128))
  let sm ← projTile A hA c hc acc t s xs 0 (ss, mx)
  let sm ← projTile A hA c hc acc t s xs 1 sm
  let _ ← Prog.lift (.load (A .ss) (rStrip s).toLoadRect (View.loadsAt_vmem pos_32x128))
  Prog.lift (.store (A .ss) (rStrip s) (shapeCast S32x128 sm.1 (by decide)) Finset.univ (View.stores_vmem_bits_univ pos_32x128 rfl) (.inl rfl))
  let _ ← Prog.lift (.load (A .mx) (rStrip s).toLoadRect (View.loadsAt_vmem pos_32x128))
  Prog.lift (.store (A .mx) (rStrip s) (shapeCast S32x128 sm.2 (by decide)) Finset.univ (View.stores_vmem_bits_univ pos_32x128 rfl) (.inl rfl))

def proj : P PUnit := seqN 8 fun t => do
  let x : Vec F S256x1152 .bf16 ← Prog.lift (.load (A .xb) rX.toLoadRect (View.loadsAt_vmem pos_256x1152))
  let w : Vec F S1152x256 .bf16 ← Prog.lift (.load (A .wb) (rWt c hc t).toLoadRect (View.loadsAt_vmem pos_1152x256))
  seqN 8 fun s => projStrip A hA c hc (accOf x w) t s

/-- A guarded section, then the rest. -/
def guarded (cc : BitVec 1) (p k : P PUnit) : P PUnit := if h : cc = 1#1 then p >>= fun _ => k else k

/-- The body at grid point `(i, c)`. -/
def body : P PUnit :=
  guarded (cond1 i) (prep A hA c hc) <| guarded (cond2 i c) (stats A) <| guarded (cond3 i c) (rows A hA) <|
    guarded (cond4 c) (zero A) <| guarded (cond5 i) (quant A hA c hc) <| guarded (cond6 i) (proj A hA c hc) <| pure ⟨⟩

end Cert.Fused
-- ==== Proof.PrintedKernel.lean ====
/- The program's printed body is the looped one. -/
module

public import proofs.«01_k».proof.Proof.Prog
public import proofs.«01_k».proof.Proof.Gen.Kernel.Frame

@[expose] public section

noncomputable section

namespace Cert.Kernel.Own

open Idealize.ShloMosaic Idealize.SL.Sem Cert.Fused

variable {F : FTy → Type} [FloatOps F]

set_option maxRecDepth 100000 in
theorem printed (i : grid0.Coords) (A : Bufs sig) (hA : ∀ b, (A b).IsWhole) :
    (cc0_fused_proj_norm_quant i (A .x) (hA _) (A .xs) (hA _) (A .w) (hA _) (A .ws) (hA _) (A .res) (hA _) (A .g) (hA _)
      (A .h) (hA _) (A .q) (hA _) (A .ns) (hA _) (A .wb) (hA _) (A .hbuf) (hA _) (A .xb) (hA _) (A .xsb) (hA _)
      (A .ss) (hA _) (A .mx) (hA _) (A .rs) (hA _) (A .inv) (hA _) : Prog (TpuEff nD τ sig (Elt F) Λ₀ .tc) PUnit)
    = body A hA (i 0).val (i 1).val (i 1).isLt := by
  chain_rfl

end Cert.Kernel.Own
-- ==== Proof.SchedKernel.lean ====
/- The schedule of the program's grid of 33 rows of 8 points: the coordinates of a point, the block
   each window is on, the points at which the outputs are written back or left alone. -/
module

public import proofs.«01_k».proof.Proof.PrintedKernel
public import Idealize.ShloMosaic.Lib.Pipeline.ValueKit.Geometry

@[expose] public section

noncomputable section

namespace Cert.Kernel.Own

open Idealize.ShloMosaic Idealize.SL.Sem Cert.Kernel.Gen

/-- The coordinates of point `t`. -/
theorem coords0 : ∀ t : Fin cfg0.N, (grid0.coords t 0).val = t.val / 8 := (by decide +kernel : ∀ t : Fin grid0.N, _)
theorem coords1 : ∀ t : Fin cfg0.N, (grid0.coords t 1).val = t.val % 8 := (by decide +kernel : ∀ t : Fin grid0.N, _)

/-- The block each window is on at point `t`. -/
theorem index0 : ∀ t : Fin cfg0.N, win0_0.index t = ![min (t.val / 8) 31, 0] := (by decide +kernel : ∀ t : Fin grid0.N, _)
theorem index1 : ∀ t : Fin cfg0.N, win0_1.index t = ![min (t.val / 8) 31, 0, 0] := (by decide +kernel : ∀ t : Fin grid0.N, _)
theorem index2 : ∀ t : Fin cfg0.N, win0_2.index t = ![0, if t.val / 8 = 0 then t.val % 8 else 7] := (by decide +kernel : ∀ t : Fin grid0.N, _)
theorem index3 : ∀ t : Fin cfg0.N, win0_3.index t = ![0, 0, if t.val / 8 = 0 then t.val % 8 else 7] := (by decide +kernel : ∀ t : Fin grid0.N, _)
theorem index4 : ∀ t : Fin cfg0.N, win0_4.index t = ![min (t.val / 8) 31, if t.val / 8 < 32 then t.val % 8 else 7] := (by decide +kernel : ∀ t : Fin grid0.N, _)
theorem index5 : ∀ t : Fin cfg0.N, win0_5.index t = ![0, t.val % 8] := (by decide +kernel : ∀ t : Fin grid0.N, _)
theorem index6 : ∀ t : Fin cfg0.N, win0_6.index t = ![min (t.val / 8) 31, if t.val / 8 < 32 then t.val % 8 else 7] := (by decide +kernel : ∀ t : Fin grid0.N, _)
theorem index7 : ∀ t : Fin cfg0.N, win0_7.index t = ![t.val / 8 - 1, if 1 ≤ t.val / 8 then t.val % 8 else 0] := (by decide +kernel : ∀ t : Fin grid0.N, _)
theorem index8 : ∀ t : Fin cfg0.N, win0_8.index t = ![t.val / 8 - 1, 0, 0] := (by decide +kernel : ∀ t : Fin grid0.N, _)

/-- The points at which the body leaves an output alone, -/
theorem idle6 : ∀ t : Fin cfg0.N, cfg0.idle 6 (grid0.coords t) = !decide (t.val / 8 < 32) := (by decide +kernel : ∀ t : Fin grid0.N, _)
theorem idle7 : ∀ t : Fin cfg0.N, cfg0.idle 7 (grid0.coords t) = !decide (1 ≤ t.val / 8) := (by decide +kernel : ∀ t : Fin grid0.N, _)
theorem idle8 : ∀ t : Fin cfg0.N, cfg0.idle 8 (grid0.coords t) = !decide (t.val % 8 = 0 ∧ 1 ≤ t.val / 8) := (by decide +kernel : ∀ t : Fin grid0.N, _)

/-- and those after which it is written back. -/
theorem flush6 : ∀ t : Fin cfg0.N, (cfg0.win 6).flush t = decide (t.val < 255 ∨ t.val = 263) := (by decide +kernel : ∀ t : Fin grid0.N, _)
theorem flush7 : ∀ t : Fin cfg0.N, (cfg0.win 7).flush t = decide (1 ≤ t.val / 8) := (by decide +kernel : ∀ t : Fin grid0.N, _)
theorem flush8 : ∀ t : Fin cfg0.N, (cfg0.win 8).flush t = decide (t.val % 8 = 7 ∧ 1 ≤ t.val / 8) := (by decide +kernel : ∀ t : Fin grid0.N, _)

theorem fetch6 (t : Fin cfg0.N) : (cfg0.win 6).fetch t = false := rfl
theorem fetch7 (t : Fin cfg0.N) : (cfg0.win 7).fetch t = false := rfl
theorem fetch8 (t : Fin cfg0.N) : (cfg0.win 8).fetch t = false := rfl

end Cert.Kernel.Own

end
-- ==== Proof.Denote.lean ====
/- What each section of the body does to the buffers' contents, as plain functions. -/
module

public import proofs.«01_k».proof.Proof.Prog

@[expose] public section

noncomputable section

namespace Cert.Fused

open Idealize.ShloMosaic Idealize.SL.Sem

variable {F : FTy → Type} [FloatOps F] (c : ℕ) (hc : c < 8)

/-- The contents with one rectangle of buffer `b` replaced. -/
def put (σ : St F) (b : Slot) (r : Rect (shp b)) (v : r.shape.Idx → Elt F (elt b)) : St F :=
  Function.update σ b (r.overlay (σ b) v)

/-- What a load through `r` reads. -/
abbrev get (σ : St F) (b : Slot) (r : Rect (shp b)) : r.shape.Idx → Elt F (elt b) := fun i => σ b (r.emb i)

theorem get_congr {σ σ' : St F} {b : Slot} (h : σ b = σ' b) (r : Rect (shp b)) : get σ b r = get σ' b r := by
  funext i; exact congrFun h _

theorem put_same (σ : St F) (b : Slot) (r : Rect (shp b)) (v : r.shape.Idx → Elt F (elt b)) :
    put σ b r v b = r.overlay (σ b) v := Function.update_self ..

theorem put_other (σ : St F) (b : Slot) (r : Rect (shp b)) (v : r.shape.Idx → Elt F (elt b)) {b' : Slot} (h : b' ≠ b) :
    put σ b r v b' = σ b' := Function.update_of_ne h ..

def prepTileD (k : Fin 9) (l : Fin 16) (σ : St F) : St F :=
  put σ .wb (rWb c hc k l) (shapeCast S128x128 (wTile (get σ .w (rW k l)) (get σ .ws (rWs k l))) (by decide))

def prepD (σ : St F) : St F := foldN 9 (fun k => foldN 16 fun l => prepTileD c hc k l) σ

def nsHalfD (sc : FVec F S256x128 .f32) (b : Fin 2) (σ : St F) : St F := put σ .ns (rRow b) (scaleRow sc b)

def statsD (σ : St F) : St F :=
  foldN 2 (fun b => nsHalfD (scaleOf (statV (get σ .mx rAll) (statR (get σ .ss rAll)))) b)
    (put (put σ .rs rAll (shapeCast S256x128 (statR (get σ .ss rAll)) (by decide)))
      .inv rAll (shapeCast S256x128 (invOf (statV (get σ .mx rAll) (statR (get σ .ss rAll)))) (by decide)))

def xsHalfD (b : Fin 2) (σ : St F) : St F :=
  put σ .xsb (rHalf b) (shapeCast S128x128 (repTile (get σ .xs (rRow b))) (by decide))

def rowsD (σ : St F) : St F :=
  foldN 2 (fun b => xsHalfD b) (put σ .xb rX (shapeCast S256x1152 (extf .bf16
    (shapeCast S256x1152 (get σ .x rX) (by decide) : FVec F S256x1152 .fp8e4m3) lt_fp8_bf16 : FVec F S256x1152 .bf16) (by decide)))

def zeroD (σ : St F) : St F :=
  put (put σ .ss rAll (shapeCast S256x128 (zeros : FVec F S256x128 .f32) (by decide))) .mx rAll
    (shapeCast S256x128 (zeros : FVec F S256x128 .f32) (by decide))

def quantTileD (s : Fin 8) (l : Fin 16) (σ : St F) : St F :=
  put σ .q (rT s l) (qTile (get σ .hbuf (rH c hc s l)) (get σ .rs (rStrip s)) (get σ .inv (rStrip s)) (get σ .g (rG l)))

def quantD (σ : St F) : St F := foldN 8 (fun s => foldN 16 fun l => quantTileD c hc s l) σ

def hOf (acc : FVec F S256x256 .f32) (t s : Fin 8) (u : Fin 2) (σ : St F) : FVec F S32x128 .bf16 :=
  hTile acc s u (get σ .xsb (rStrip s)) (get σ .res (rT s (lane t u)))

/-- One tile: `h` to the result and to the row buffer. -/
def projTileD (acc : FVec F S256x256 .f32) (t s : Fin 8) (u : Fin 2) (σ : St F) : St F :=
  put (put σ .h (rT s (lane t u)) (hOf acc t s u σ)) .hbuf (rH c hc s (lane t u))
    (shapeCast S32x128 (hOf acc t s u σ) (by decide))

def projStripD (acc : FVec F S256x256 .f32) (t s : Fin 8) (σ : St F) : St F :=
  put (put (projTileD c hc acc t s 1 (projTileD c hc acc t s 0 σ))
    .ss (rStrip s) (shapeCast S32x128 (ssStep (hOf acc t s 1 σ) (ssStep (hOf acc t s 0 σ) (get σ .ss (rStrip s)))) (by decide)))
    .mx (rStrip s) (shapeCast S32x128 (mxStep (hOf acc t s 1 σ) (get σ .g (rG (lane t 1)))
      (mxStep (hOf acc t s 0 σ) (get σ .g (rG (lane t 0))) (get σ .mx (rStrip s)))) (by decide))

def projBlockD (t : Fin 8) (σ : St F) : St F :=
  foldN 8 (fun s => projStripD c hc (accOf (get σ .xb rX) (get σ .wb (rWt c hc t))) t s) σ

def projD (σ : St F) : St F := foldN 8 (fun t => projBlockD c hc t) σ

def bodyD (i : ℕ) (σ : St F) : St F :=
  let σ := if cond1 i = 1#1 then prepD c hc σ else σ
  let σ := if cond2 i c = 1#1 then statsD σ else σ
  let σ := if cond3 i c = 1#1 then rowsD σ else σ
  let σ := if cond4 c = 1#1 then zeroD σ else σ
  let σ := if cond5 i = 1#1 then quantD c hc σ else σ
  if cond6 i = 1#1 then projD c hc σ else σ

/-! ## The sections run so -/

variable {nD : Nat} {τ : Topo} {sig : RefSig} {Λ : Labels} {defs : Defs nD τ sig (Elt F) Λ}
variable {A : Bufs sig} {hA : ∀ b, (A b).IsWhole}

theorem runs_prep (σ : St F) : Runs defs A σ (prep A hA c hc) ⟨⟩ (prepD c hc σ) :=
  Runs.seqN (fun k σ => Runs.seqN (fun l σ =>
    .bind (.load .w _ _) (.bind (.load .ws _ _) (.bind (.load .wb _ _) (.store .wb _ _ _ _)))) σ) σ

theorem runs_stats (σ : St F) : Runs defs A σ (stats A) ⟨⟩ (statsD σ) :=
  .bind (.load .ss _ _) (.bind (.load .mx _ _) (.bind (.load .rs _ _) (.bind (.store .rs _ _ _ _)
    (.bind (.load .inv _ _) (.bind (.store .inv _ _ _ _)
      (Runs.seqN (fun b σ => .bind (.load .ns _ _) (.store .ns _ _ _ _)) _))))))

theorem runs_rows (σ : St F) : Runs defs A σ (rows A hA) ⟨⟩ (rowsD σ) :=
  .bind (.load .x _ _) (.bind (.load .xb _ _) (.bind (.store .xb _ _ _ _)
    (Runs.seqN (fun b σ => .bind (.load .xs _ _) (.bind (.load .xsb _ _) (.store .xsb _ _ _ _))) _)))

theorem runs_zero (σ : St F) : Runs defs A σ (zero A) ⟨⟩ (zeroD σ) :=
  .bind (.load .ss _ _) (.bind (.store .ss _ _ _ _) (.bind (.load .mx _ _) (.store .mx _ _ _ _)))

theorem quantTileD_other (s : Fin 8) (l : Fin 16) (σ : St F) {b : Slot} (h : b ≠ .q) : quantTileD c hc s l σ b = σ b :=
  put_other _ _ _ _ h

/-- What a loop's steps all leave alone the loop leaves alone. -/
theorem foldN_keep {n : ℕ} (f : Fin n → St F → St F) (b : Slot) (h : ∀ i σ, f i σ b = σ b) : ∀ σ, foldN n f σ b = σ b := by
  induction n with
  | zero => exact fun _ => rfl
  | succ n ih => exact fun σ => (ih _ (fun i σ => h i.succ σ) _).trans (h 0 σ)

/-- A loop whose steps read something the steps before leave alone, as it was at the start. -/
theorem Runs.seqN_keep {n : ℕ} {f : Fin n → Prog (TpuEff nD τ sig (Elt F) Λ .tc) PUnit} {g : Fin n → St F → St F} (I : St F → Prop)
    (h : ∀ i σ, I σ → Runs defs A σ (f i) ⟨⟩ (g i σ) ∧ I (g i σ)) : ∀ σ, I σ → Runs defs A σ (Cert.Fused.seqN n f) ⟨⟩ (foldN n g σ) := by
  induction n with
  | zero => exact fun σ _ => Runs.pure _
  | succ n ih => exact fun σ hσ => Runs.bind (h 0 σ hσ).1 (ih (fun i => h i.succ) _ (h 0 σ hσ).2)

theorem runs_quant (σ : St F) : Runs defs A σ (quant A hA c hc) ⟨⟩ (quantD c hc σ) := by
  refine Runs.seqN (fun s σ => .bind (.load .rs _ _) (.bind (.load .inv _ _) ?_)) σ
  refine Runs.seqN_keep (fun σ' => σ' .rs = σ .rs ∧ σ' .inv = σ .inv) (fun l σ' hσ' => ⟨?_, ?_⟩) σ ⟨rfl, rfl⟩
  · rw [show (fun i => σ .rs ((rStrip s).emb i)) = get σ' .rs (rStrip s) from get_congr hσ'.1.symm _,
      show (fun i => σ .inv ((rStrip s).emb i)) = get σ' .inv (rStrip s) from get_congr hσ'.2.symm _]
    exact .bind (.load .hbuf _ _) (.bind (.load .g _ _) (.bind (.load .q _ _) (.store .q _ _ _ _)))
  · exact ⟨(quantTileD_other c hc s l σ' (by decide)).trans hσ'.1, (quantTileD_other c hc s l σ' (by decide)).trans hσ'.2⟩

theorem projTileD_other (acc : FVec F S256x256 .f32) (t s : Fin 8) (u : Fin 2) (σ : St F) {b : Slot} (h : b ≠ .h) (h' : b ≠ .hbuf) :
    projTileD c hc acc t s u σ b = σ b := by
  rw [projTileD, put_other _ _ _ _ h', put_other _ _ _ _ h]

theorem runs_projTile (acc : FVec F S256x256 .f32) (t s : Fin 8) (u : Fin 2) (sm : FVec F S32x128 .f32 × FVec F S32x128 .f32) (σ : St F) :
    Runs defs A σ (projTile A hA c hc acc t s (get σ .xsb (rStrip s)) u sm)
      (ssStep (hOf acc t s u σ) sm.1, mxStep (hOf acc t s u σ) (get σ .g (rG (lane t u))) sm.2) (projTileD c hc acc t s u σ) := by
  refine .bind (.load .res _ _) (.bind (.load .h _ _) (.bind (.store .h _ _ _ _) (.bind (.load .hbuf _ _)
    (.bind (.store .hbuf _ _ _ _) (.bind (.load .g _ _) ?_)))))
  have e : (fun i => projTileD c hc acc t s u σ .g ((rG (lane t u)).emb i)) = get σ .g (rG (lane t u)) := by
    rw [projTileD_other c hc acc t s u σ (by decide) (by decide)]
  have := Runs.pure (defs := defs) (A := A) (σ := projTileD c hc acc t s u σ)
    (ssStep (hOf acc t s u σ) sm.1, mxStep (hOf acc t s u σ) (get σ .g (rG (lane t u))) sm.2)
  rw [← e] at this ⊢
  exact this

theorem runs_projStrip (acc : FVec F S256x256 .f32) (t s : Fin 8) (σ : St F) :
    Runs defs A σ (projStrip A hA c hc acc t s) ⟨⟩ (projStripD c hc acc t s σ) := by
  have e0 : ∀ {b : Slot}, b ≠ .h → b ≠ .hbuf → projTileD c hc acc t s 0 σ b = σ b := fun h h' => projTileD_other c hc acc t s 0 σ h h'
  have hh : hOf acc t s 1 (projTileD c hc acc t s 0 σ) = hOf acc t s 1 σ := by
    unfold hOf
    rw [get_congr (e0 (b := .xsb) (by decide) (by decide)), get_congr (e0 (b := .res) (by decide) (by decide))]
  have h1 := runs_projTile (defs := defs) (A := A) (hA := hA) c hc acc t s 1
    (ssStep (hOf acc t s 0 σ) (get σ .ss (rStrip s)), mxStep (hOf acc t s 0 σ) (get σ .g (rG (lane t 0))) (get σ .mx (rStrip s)))
    (projTileD c hc acc t s 0 σ)
  rw [hh, show get (projTileD c hc acc t s 0 σ) .xsb (rStrip s) = get σ .xsb (rStrip s) from get_congr (e0 (by decide) (by decide)) _,
    show get (projTileD c hc acc t s 0 σ) .g (rG (lane t 1)) = get σ .g (rG (lane t 1)) from get_congr (e0 (by decide) (by decide)) _] at h1
  exact .bind (.load .xsb _ _) (.bind (.load .ss _ _) (.bind (.load .mx _ _)
    (.bind (runs_projTile c hc acc t s 0 _ σ) (.bind h1 (.bind (.load .ss _ _) (.bind (.store .ss _ _ _ _)
      (.bind (.load .mx _ _) (.store .mx _ _ _ _))))))))

theorem runs_proj (σ : St F) : Runs defs A σ (proj A hA c hc) ⟨⟩ (projD c hc σ) :=
  Runs.seqN (fun t σ => .bind (.load .xb _ _) (.bind (.load .wb _ _) (Runs.seqN (fun s σ => runs_projStrip c hc _ t s σ) σ))) σ

theorem runs_guarded {cc : BitVec 1} {p k : Prog (TpuEff nD τ sig (Elt F) Λ .tc) PUnit} {g g' : St F → St F}
    (h : ∀ σ, Runs defs A σ p ⟨⟩ (g σ)) (h' : ∀ σ, Runs defs A σ k ⟨⟩ (g' σ)) (σ : St F) :
    Runs defs A σ (guarded cc p k) ⟨⟩ (g' (if cc = 1#1 then g σ else σ)) := by
  unfold guarded
  by_cases hcc : cc = 1#1
  · rw [dif_pos hcc, if_pos hcc]; exact .bind (h σ) (h' _)
  · rw [dif_neg hcc, if_neg hcc]; exact h' _

/-- The body's effect. -/
theorem runs_body (i : ℕ) (σ : St F) : Runs defs A σ (body A hA i c hc) ⟨⟩ (bodyD c hc i σ) := by
  unfold body bodyD
  exact runs_guarded (fun σ => runs_prep c hc σ) (fun σ => runs_guarded (fun σ => runs_stats σ) (fun σ => runs_guarded (fun σ => runs_rows σ)
    (fun σ => runs_guarded (fun σ => runs_zero σ) (fun σ => runs_guarded (fun σ => runs_quant c hc σ) (fun σ =>
      runs_guarded (g' := fun σ => σ) (fun σ => runs_proj c hc σ) (fun σ => Runs.pure _) σ) σ) σ) σ) σ) σ

end Cert.Fused
-- ==== Proof.Tiles.lean ====
/- Indices by natural coordinates, rectangles by coordinates, and each tile's values pointwise. -/
module

public import proofs.«01_k».proof.Proof.Denote
public import Idealize.ShloMosaic.Lib.Pipeline.Value

@[expose] public section

noncomputable section

namespace Cert.Fused

open Idealize.ShloMosaic

/-! ## Indices -/

/-- Row `a`, column `b`, each taken modulo its extent. -/
def at2 (N M : ℕ) [NeZero N] [NeZero M] (a b : ℕ) : (⟨2, ![N, M]⟩ : Shape).Idx
  | ⟨0, _⟩ => (Fin.ofNat N a : Fin N)
  | ⟨1, _⟩ => (Fin.ofNat M b : Fin M)

/-- The same with three coordinates. -/
def at3 (N M K : ℕ) [NeZero N] [NeZero M] [NeZero K] (a b c : ℕ) : (⟨3, ![N, M, K]⟩ : Shape).Idx
  | ⟨0, _⟩ => (Fin.ofNat N a : Fin N)
  | ⟨1, _⟩ => (Fin.ofNat M b : Fin M)
  | ⟨2, _⟩ => (Fin.ofNat K c : Fin K)

section
variable (N M K : ℕ) [NeZero N] [NeZero M] [NeZero K] (a b c : ℕ)

theorem at2_0 : (at2 N M a b 0).val = a % N := rfl
theorem at2_1 : (at2 N M a b 1).val = b % M := rfl
theorem at3_0 : (at3 N M K a b c 0).val = a % N := rfl
theorem at3_1 : (at3 N M K a b c 1).val = b % M := rfl
theorem at3_2 : (at3 N M K a b c 2).val = c % K := rfl
end

theorem lt0 {N M : ℕ} (j : (⟨2, ![N, M]⟩ : Shape).Idx) : (j 0).val < N := (j 0).isLt
theorem lt1 {N M : ℕ} (j : (⟨2, ![N, M]⟩ : Shape).Idx) : (j 1).val < M := (j 1).isLt
theorem lt3_0 {N M K : ℕ} (j : (⟨3, ![N, M, K]⟩ : Shape).Idx) : (j 0).val < N := (j 0).isLt
theorem lt3_1 {N M K : ℕ} (j : (⟨3, ![N, M, K]⟩ : Shape).Idx) : (j 1).val < M := (j 1).isLt
theorem lt3_2 {N M K : ℕ} (j : (⟨3, ![N, M, K]⟩ : Shape).Idx) : (j 2).val < K := (j 2).isLt

theorem ext2 {N M : ℕ} {i j : (⟨2, ![N, M]⟩ : Shape).Idx} (h0 : (i 0).val = (j 0).val) (h1 : (i 1).val = (j 1).val) : i = j := by
  funext a
  match a with
  | ⟨0, _⟩ => exact Fin.ext h0
  | ⟨1, _⟩ => exact Fin.ext h1

theorem ext3 {N M K : ℕ} {i j : (⟨3, ![N, M, K]⟩ : Shape).Idx} (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

theorem at2_eq {N M : ℕ} [NeZero N] [NeZero M] {a b : ℕ} {j : (⟨2, ![N, M]⟩ : Shape).Idx} (h0 : a = (j 0).val) (h1 : b = (j 1).val) :
    at2 N M a b = j :=
  ext2 (by rw [at2_0, h0, Nat.mod_eq_of_lt (lt0 j)]) (by rw [at2_1, h1, Nat.mod_eq_of_lt (lt1 j)])

theorem at3_eq {N M K : ℕ} [NeZero N] [NeZero M] [NeZero K] {a b c : ℕ} {j : (⟨3, ![N, M, K]⟩ : Shape).Idx}
    (h0 : a = (j 0).val) (h1 : b = (j 1).val) (h2 : c = (j 2).val) : at3 N M K a b c = j :=
  ext3 (by rw [at3_0, h0, Nat.mod_eq_of_lt (lt3_0 j)]) (by rw [at3_1, h1, Nat.mod_eq_of_lt (lt3_1 j)]) (by rw [at3_2, h2, Nat.mod_eq_of_lt (lt3_2 j)])

theorem at2_self {N M : ℕ} [NeZero N] [NeZero M] (j : (⟨2, ![N, M]⟩ : Shape).Idx) : at2 N M (j 0).val (j 1).val = j := at2_eq rfl rfl

/-! ## Rectangles -/

section
variable {N M o p n m : ℕ} {h1 : o + n ≤ N} {h2 : p + m ≤ M}

theorem rect2_emb [NeZero N] [NeZero M] (i : (⟨2, ![n, m]⟩ : Shape).Idx) :
    (rect2 N M o p n m h1 h2).emb i = at2 N M (o + (i 0).val) (p + (i 1).val) := by
  have e0 := lt0 i
  have e1 := lt1 i
  refine ext2 ?_ ?_
  · show o + 1 * (i 0).val = _
    rw [at2_0, Nat.mod_eq_of_lt (by omega)]; omega
  · show p + 1 * (i 1).val = _
    rw [at2_1, Nat.mod_eq_of_lt (by omega)]; omega

theorem mem_rect2 {j : (⟨2, ![N, M]⟩ : Shape).Idx} :
    j ∈ (rect2 N M o p n m h1 h2).set ↔ (o ≤ (j 0).val ∧ (j 0).val < o + n) ∧ (p ≤ (j 1).val ∧ (j 1).val < p + m) := by
  refine Rect.mem_set_unit.trans ⟨fun h => ⟨h 0, h 1⟩, fun h a => ?_⟩
  match a with
  | ⟨0, _⟩ => exact h.1
  | ⟨1, _⟩ => exact h.2

variable {α : Type}

theorem overlay2_in [NeZero n] [NeZero m] (X : (⟨2, ![N, M]⟩ : Shape).Idx → α) (G : (⟨2, ![n, m]⟩ : Shape).Idx → α)
    {j : (⟨2, ![N, M]⟩ : Shape).Idx} (h : (o ≤ (j 0).val ∧ (j 0).val < o + n) ∧ (p ≤ (j 1).val ∧ (j 1).val < p + m)) :
    (rect2 N M o p n m h1 h2).overlay X G j = G (at2 n m ((j 0).val - o) ((j 1).val - p)) := by
  have : j = (rect2 N M o p n m h1 h2).emb (at2 n m ((j 0).val - o) ((j 1).val - p)) := by
    refine ext2 ?_ ?_
    · show _ = o + 1 * (((j 0).val - o) % n)
      rw [Nat.mod_eq_of_lt (by omega)]; omega
    · show _ = p + 1 * (((j 1).val - p) % m)
      rw [Nat.mod_eq_of_lt (by omega)]; omega
  conv_lhs => rw [this]
  exact Rect.overlay_emb _ _ _ _

theorem overlay2_out (X : (⟨2, ![N, M]⟩ : Shape).Idx → α) (G : (⟨2, ![n, m]⟩ : Shape).Idx → α)
    {j : (⟨2, ![N, M]⟩ : Shape).Idx} (h : ¬((o ≤ (j 0).val ∧ (j 0).val < o + n) ∧ (p ≤ (j 1).val ∧ (j 1).val < p + m))) :
    (rect2 N M o p n m h1 h2).overlay X G j = X j :=
  Rect.overlay_of_not_mem _ _ _ (mt mem_rect2.mp h)
end

section
variable {N M o p m : ℕ} {h1 : o + 1 ≤ N} {h2 : p + m ≤ M}

theorem rect3_emb [NeZero N] [NeZero M] (i : (⟨3, ![1, 1, m]⟩ : Shape).Idx) :
    (rect3 N M o p m h1 h2).emb i = at3 1 N M 0 o (p + (i 2).val) := by
  have e0 := lt3_0 i
  have e1 := lt3_1 i
  have e2 := lt3_2 i
  refine ext3 ?_ ?_ ?_
  · show 0 + 1 * (i 0).val = _
    rw [at3_0, Nat.mod_eq_of_lt (by omega)]; omega
  · show o + 1 * (i 1).val = _
    rw [at3_1, Nat.mod_eq_of_lt (by omega)]; omega
  · show p + 1 * (i 2).val = _
    rw [at3_2, Nat.mod_eq_of_lt (by omega)]; omega

theorem mem_rect3 {j : (⟨3, ![1, N, M]⟩ : Shape).Idx} :
    j ∈ (rect3 N M o p m h1 h2).set ↔ (j 1).val = o ∧ (p ≤ (j 2).val ∧ (j 2).val < p + m) := by
  have e0 := lt3_0 j
  refine Rect.mem_set_unit.trans ⟨fun h => ⟨?_, h 2⟩, fun h a => ?_⟩
  · have : o ≤ (j 1).val ∧ (j 1).val < o + 1 := h 1
    omega
  match a with
  | ⟨0, _⟩ => exact ⟨Nat.zero_le _, e0⟩
  | ⟨1, _⟩ => exact ⟨Nat.le_of_eq h.1.symm, by show (j 1).val < o + 1; omega⟩
  | ⟨2, _⟩ => exact h.2
end

/-! ## Tiles -/

variable {F : FTy → Type} [FloatOps F]

theorem row1x128 (v : FVec F S1x128 .f32) (h : S1x128.Broadcasts S32x128) (j : S32x128.Idx) :
    broadcastTo S32x128 v h j = v (at2 1 128 0 (j 1).val) := by
  refine broadcastTo_apply v h j _ fun a => ?_
  match a with
  | ⟨0, _⟩ => rfl
  | ⟨1, _⟩ => exact Nat.mod_eq_of_lt (lt1 j)

theorem rowWide {φ : FTy} (v : FVec F S1x128 φ) (h : S1x128.Broadcasts S128x128) (j : S128x128.Idx) :
    broadcastTo S128x128 v h j = v (at2 1 128 0 (j 1).val) := by
  refine broadcastTo_apply v h j _ fun a => ?_
  match a with
  | ⟨0, _⟩ => rfl
  | ⟨1, _⟩ => exact Nat.mod_eq_of_lt (lt1 j)

theorem cast3to2 (v : FVec F S1x1x128 .f32) (h : S1x1x128.ShapeCasts S1x128) (j : S1x128.Idx) :
    shapeCast S1x128 v h j = v (at3 1 1 128 0 0 (j 1).val) := by
  refine shapeCast_apply v h j _ ?_
  rw [Shape.rowMajor_val_three, Shape.rowMajor_val_two]
  have e0 := lt0 j
  have e1 := lt1 j
  show (0 % 1 * 1 + 0 % 1) * 128 + (j 1).val % 128 = (j 0).val * 128 + (j 1).val
  omega

theorem cast2to3 (v : FVec F S1x128 .f32) (h : S1x128.ShapeCasts S1x1x128) (j : S1x1x128.Idx) :
    shapeCast S1x1x128 v h j = v (at2 1 128 0 (j 2).val) := by
  refine shapeCast_apply v h j _ ?_
  rw [Shape.rowMajor_val_three, Shape.rowMajor_val_two]
  have e0 := lt3_0 j
  have e1 := lt3_1 j
  have e2 := lt3_2 j
  show 0 % 1 * 128 + (j 2).val % 128 = ((j 0).val * 1 + (j 1).val) * 128 + (j 2).val
  omega

theorem gStrip_apply (g : FVec F S1x128 .f32) (j : S32x128.Idx) : gStrip g j = g (at2 1 128 0 (j 1).val) := by
  unfold gStrip
  rw [row1x128, shapeCast_self]

theorem wTile_apply (w : FVec F S128x128 .fp8e4m3) (ws : FVec F S1x1x128 .f32) (j : S128x128.Idx) :
    wTile w ws j = FloatOps.mulf (FloatOps.extf .bf16 lt_fp8_bf16 (w j)) (FloatOps.truncf .bf16 lt_bf16_f32 (ws (at3 1 1 128 0 0 (j 1).val))) := by
  unfold wTile
  show FloatOps.mulf _ _ = _
  rw [rowWide]
  show FloatOps.mulf _ (FloatOps.truncf _ _ _) = _
  rw [cast3to2, at2_1, Nat.mod_eq_of_lt (lt1 j)]
  rfl

theorem transpose128 (v : FVec F S128x128 .f32) (h : S128x128.Transposes [1, 0] S128x128) (j : S128x128.Idx) :
    transpose S128x128 [1, 0] v h j = v (at2 128 128 (j 1).val (j 0).val) := by
  refine transpose_apply _ v h j _ fun b => ?_
  match b with
  | ⟨0, _⟩ => exact Nat.mod_eq_of_lt (lt0 j)
  | ⟨1, _⟩ => exact Nat.mod_eq_of_lt (lt1 j)

theorem repTile_apply (xs : FVec F S1x1x128 .f32) (j : S128x128.Idx) : repTile xs j = xs (at3 1 1 128 0 0 (j 0).val) := by
  unfold repTile
  rw [transpose128, rowWide, shapeCast_self, cast3to2, at2_1, at2_1, Nat.mod_mod, Nat.mod_eq_of_lt (lt0 j)]

theorem scaleRow_apply (sc : FVec F S256x128 .f32) (b : Fin 2) (j : S1x1x128.Idx) :
    scaleRow sc b j = sc (at2 256 128 (128 * b.val + (j 2).val) 0) := by
  unfold scaleRow
  have e2 := lt3_2 j
  have hb := b.isLt
  rw [cast2to3, extractStridedSlice_apply _ _ _ _ (at2 128 128 0 (j 2).val) (by
    intro a
    match a with
    | ⟨0, _⟩ => rfl
    | ⟨1, _⟩ => show _ % 128 = 0 + _ % 128; omega), transpose128]
  refine extractStridedSlice_apply _ _ _ _ _ ?_
  intro a
  match a with
  | ⟨0, _⟩ => show _ % 256 = 128 * b.val + (_ % 128) % 128; omega
  | ⟨1, _⟩ => rfl

theorem slice_acc_apply (acc : FVec F S256x256 .f32) (s : Fin 8) (u : Fin 2) (j : S32x128.Idx) :
    extractStridedSlice S32x128 ![32 * s.val, 128 * u.val] acc (slices_acc s u) j
      = acc (at2 256 256 (32 * s.val + (j 0).val) (128 * u.val + (j 1).val)) := by
  refine extractStridedSlice_apply _ _ _ _ _ ?_
  have e0 := lt0 j
  have e1 := lt1 j
  intro a
  match a with
  | ⟨0, _⟩ => show _ % 256 = 32 * s.val + (j 0).val; omega
  | ⟨1, _⟩ => show _ % 256 = 128 * u.val + (j 1).val; omega

theorem hTile_apply (acc : FVec F S256x256 .f32) (s : Fin 8) (u : Fin 2) (xs : FVec F S32x128 .f32) (res : FVec F S32x128 .bf16) (j : S32x128.Idx) :
    hTile acc s u xs res j = FloatOps.truncf .bf16 lt_bf16_f32 (FloatOps.addf (FloatOps.extf .f32 lt_bf16_f32 (res j))
      (FloatOps.mulf (acc (at2 256 256 (32 * s.val + (j 0).val) (128 * u.val + (j 1).val))) (xs j))) := by
  unfold hTile
  show FloatOps.truncf _ _ (FloatOps.addf (FloatOps.extf _ _ _) (FloatOps.mulf _ _)) = _
  rw [slice_acc_apply, shapeCast_self]

end Cert.Fused
-- ==== Proof.Target.lean ====
/- What the buffers hold: closed forms in the six operands. -/
module

public import proofs.«01_k».proof.Proof.Tiles

@[expose] public section

noncomputable section

namespace Cert.Fused

open Idealize.ShloMosaic

/-- The kernel call's six operands. -/
structure In (F : FTy → Type) where
  X : FVec F ⟨2, ![8192, 1152]⟩ .fp8e4m3
  XS : FVec F ⟨3, ![32, 2, 128]⟩ .f32
  W : FVec F ⟨2, ![1152, 16384]⟩ .fp8e4m3
  WS : FVec F ⟨3, ![1, 9, 16384]⟩ .f32
  R : FVec F ⟨2, ![8192, 16384]⟩ .bf16
  G : FVec F ⟨2, ![1, 16384]⟩ .f32

variable {F : FTy → Type} [FloatOps F] (I : In F) (i : ℕ)

/-- The scaled weights. -/
def wbT : FVec F ⟨2, ![1152, 16384]⟩ .bf16 := fun j =>
  FloatOps.mulf (FloatOps.extf .bf16 lt_fp8_bf16 (I.W j)) (FloatOps.truncf .bf16 lt_bf16_f32 (I.WS (at3 1 9 16384 0 ((j 0).val / 128) (j 1).val)))

/-- Row block `i`'s codes, -/
def xbT : FVec F S256x1152 .bf16 := fun j => FloatOps.extf .bf16 lt_fp8_bf16 (I.X (at2 8192 1152 (256 * i + (j 0).val) (j 1).val))

/-- and their scales, replicated. -/
def xsbT : FVec F S256x128 .f32 := fun j => I.XS (at3 32 2 128 i ((j 0).val / 128) ((j 0).val % 128))

/-- The product of row block `i` with 256-column block `p`. -/
def accT (p : ℕ) : FVec F S256x256 .f32 := accOf (xbT I i) fun j => wbT I (at2 1152 16384 (j 0).val (256 * p + (j 1).val))

/-- The first result's row block `i`. -/
def hT : FVec F ⟨2, ![256, 16384]⟩ .bf16 := fun j =>
  FloatOps.truncf .bf16 lt_bf16_f32 (FloatOps.addf (FloatOps.extf .f32 lt_bf16_f32 (I.R (at2 8192 16384 (256 * i + (j 0).val) (j 1).val)))
    (FloatOps.mulf (accT I i ((j 1).val / 256) (at2 256 256 (j 0).val ((j 1).val % 256))) (xsbT I i (at2 256 128 (j 0).val ((j 1).val % 128)))))

/-- `hT` at lane tile `n`, widened. -/
def hL (n : ℕ) (j : S256x128.Idx) : F .f32 := FloatOps.extf .f32 lt_bf16_f32 (hT I i (at2 256 16384 (j 0).val (128 * n + (j 1).val)))

/-- The squares summed over the first `n` lane tiles, -/
def ssT : ℕ → FVec F S256x128 .f32
  | 0 => zeros
  | n + 1 => fun j => FloatOps.addf (ssT n j) (FloatOps.mulf (hL I i n j) (hL I i n j))

/-- and the weighted magnitudes' maximum. -/
def mxT : ℕ → FVec F S256x128 .f32
  | 0 => zeros
  | n + 1 => fun j => FloatOps.maximumf (mxT n j) (FloatOps.absf (FloatOps.mulf (hL I i n j) (I.G (at2 1 16384 0 (128 * n + (j 1).val)))))

def rsT : FVec F S256x128 .f32 := statR (ssT I i 128)
def vT : FVec F S256x128 .f32 := statV (mxT I i 128) (rsT I i)
def invT : FVec F S256x128 .f32 := invOf (vT I i)

/-- The second result's row block `i`, -/
def qT : FVec F ⟨2, ![256, 16384]⟩ .fp8e4m3 := fun j =>
  FloatOps.truncf .fp8e4m3 lt_fp8_f32 (FloatOps.minimumf (FloatOps.maximumf (FloatOps.mulf (FloatOps.mulf (FloatOps.mulf
    (FloatOps.extf .f32 lt_bf16_f32 (hT I i j)) (rsT I i (at2 256 128 (j 0).val ((j 1).val % 128)))) (I.G (at2 1 16384 0 (j 1).val)))
    (invT I i (at2 256 128 (j 0).val ((j 1).val % 128)))) (Scalar.ofBits .f32 0xC3E00000#32)) (Scalar.ofBits .f32 0x43E00000#32))

/-- and the third's. -/
def nsT : FVec F ⟨3, ![1, 2, 128]⟩ .f32 := fun j => scaleOf (vT I i) (at2 256 128 (128 * (j 1).val + (j 2).val) 0)

/-- The three results, whole. -/
def hArr : FVec F ⟨2, ![8192, 16384]⟩ .bf16 := fun i => hT I ((i 0).val / 256) (at2 256 16384 ((i 0).val % 256) (i 1).val)
def qArr : FVec F ⟨2, ![8192, 16384]⟩ .fp8e4m3 := fun i => qT I ((i 0).val / 256) (at2 256 16384 ((i 0).val % 256) (i 1).val)
def nsArr : FVec F ⟨3, ![32, 2, 128]⟩ .f32 := fun i => nsT I (i 0).val (at3 1 2 128 0 (i 1).val (i 2).val)

/-- What the input buffers hold at grid point `(i, c)`, as far as the body reads them. -/
structure Stage (c : ℕ) (σ : St F) : Prop where
  x : i < 32 → ∀ j, σ .x j = I.X (at2 8192 1152 (256 * i + (j 0).val) (j 1).val)
  xs : i < 32 → ∀ j, σ .xs j = I.XS (at3 32 2 128 i (j 1).val (j 2).val)
  w : i = 0 → ∀ j, σ .w j = I.W (at2 1152 16384 (j 0).val (2048 * c + (j 1).val))
  ws : i = 0 → ∀ j, σ .ws j = I.WS (at3 1 9 16384 0 (j 1).val (2048 * c + (j 2).val))
  res : i < 32 → ∀ j, σ .res j = I.R (at2 8192 16384 (256 * i + (j 0).val) (2048 * c + (j 1).val))
  g : ∀ j, σ .g j = I.G (at2 1 16384 0 (2048 * c + (j 1).val))

/-- What the scratch buffers hold before grid point `(i, c)`. -/
structure Inv (c : ℕ) (σ : St F) : Prop where
  wb : ∀ j, (j 1).val < 2048 * c ∨ 1 ≤ i → σ .wb j = wbT I j
  xb : 1 ≤ c → i < 32 → σ .xb = xbT I i
  xsb : 1 ≤ c → i < 32 → σ .xsb = xsbT I i
  ss : 1 ≤ c → i < 32 → σ .ss = ssT I i (16 * c)
  mx : 1 ≤ c → i < 32 → σ .mx = mxT I i (16 * c)
  new : ∀ j, i < 32 → (j 1).val < 2048 * c → σ .hbuf j = hT I i j
  old : ∀ j, 1 ≤ i → 2048 * c ≤ (j 1).val → σ .hbuf j = hT I (i - 1) j
  ss' : c = 0 → 1 ≤ i → σ .ss = ssT I (i - 1) 128
  mx' : c = 0 → 1 ≤ i → σ .mx = mxT I (i - 1) 128
  rs : 1 ≤ c → 1 ≤ i → σ .rs = rsT I (i - 1)
  inv : 1 ≤ c → 1 ≤ i → σ .inv = invT I (i - 1)

variable {I i}

/-- The end of a row block is the start of the next. -/
theorem Inv.next {σ : St F} (h : Inv I i 8 σ) (hi : i < 32) : Inv I (i + 1) 0 σ where
  wb j _ := h.wb j (.inl (lt1 j))
  xb h0 := absurd h0 (by decide)
  xsb h0 := absurd h0 (by decide)
  ss h0 := absurd h0 (by decide)
  mx h0 := absurd h0 (by decide)
  new j _ hj := absurd hj (Nat.not_lt_zero _)
  old j _ _ := h.new j hi (lt1 j)
  ss' _ _ := h.ss (by decide) hi
  mx' _ _ := h.mx (by decide) hi
  rs h0 := absurd h0 (by decide)
  inv h0 := absurd h0 (by decide)

/-- At the very start nothing is asked. -/
theorem Inv.start (σ : St F) : Inv I 0 0 σ where
  wb j h := absurd h (by omega)
  xb h0 := absurd h0 (by decide)
  xsb h0 := absurd h0 (by decide)
  ss h0 := absurd h0 (by decide)
  mx h0 := absurd h0 (by decide)
  new j _ hj := absurd hj (Nat.not_lt_zero _)
  old j h0 _ := absurd h0 (by decide)
  ss' _ h0 := absurd h0 (by decide)
  mx' _ h0 := absurd h0 (by decide)
  rs h0 := absurd h0 (by decide)
  inv h0 := absurd h0 (by decide)

end Cert.Fused
-- ==== Proof.Paint.lean ====
/- The sections that fill one buffer: what it holds afterwards. -/
module

public import proofs.«01_k».proof.Proof.Target

@[expose] public section

noncomputable section

namespace Cert.Fused

open Idealize.ShloMosaic

variable {F : FTy → Type} [FloatOps F]

/-- From `σ` to `σ'`, buffer `b` takes `T`'s values on `D`; nothing else changes. -/
structure Painted (b : Slot) (D : (shp b).Idx → Prop) (T : (shp b).Idx → Elt F (elt b)) (σ σ' : St F) : Prop where
  on : ∀ j, D j → σ' b j = T j
  off : ∀ j, ¬D j → σ' b j = σ b j
  other : ∀ b', b' ≠ b → σ' b' = σ b'

theorem Painted.put {b : Slot} {r : Rect (shp b)} {T : (shp b).Idx → Elt F (elt b)} {σ : St F} {v : r.shape.Idx → Elt F (elt b)}
    (h : ∀ k, v k = T (r.emb k)) : Painted b (· ∈ r.set) T σ (Cert.Fused.put σ b r v) where
  on j hj := by
    rw [put_same]
    rw [← Rect.map_emb_univ] at hj
    obtain ⟨k, -, rfl⟩ := Finset.mem_map.mp hj
    rw [Rect.overlay_emb, h]
  off j hj := by rw [put_same, Rect.overlay_of_not_mem _ _ _ hj]
  other b' h' := put_other _ _ _ _ h'

theorem Painted.mono {b : Slot} {D D' : (shp b).Idx → Prop} {T : (shp b).Idx → Elt F (elt b)} {σ σ' : St F} (h : Painted b D T σ σ')
    (hD : ∀ j, D j ↔ D' j) : Painted b D' T σ σ' where
  on j hj := h.on j ((hD j).mpr hj)
  off j hj := h.off j (mt (hD j).mp hj)
  other := h.other

theorem Painted.foldN {b : Slot} {n : ℕ} {f : Fin n → St F → St F} {D : Fin n → (shp b).Idx → Prop} {T : (shp b).Idx → Elt F (elt b)} (σ₀ : St F)
    (h : ∀ i σ, (∀ b', b' ≠ b → σ b' = σ₀ b') → Painted b (D i) T σ (f i σ)) :
    ∀ σ, (∀ b', b' ≠ b → σ b' = σ₀ b') → Painted b (fun j => ∃ i, D i j) T σ (Cert.Fused.foldN n f σ) := by
  induction n with
  | zero => exact fun σ _ => ⟨fun j ⟨i, _⟩ => i.elim0, fun _ _ => rfl, fun _ _ => rfl⟩
  | succ n ih =>
    intro σ hσ
    have h0 := h 0 σ hσ
    have h1 := ih (fun i => h i.succ) (f 0 σ) fun b' hb' => (h0.other b' hb').trans (hσ b' hb')
    refine ⟨fun j ⟨i, hi⟩ => ?_, fun j hj => ?_, fun b' hb' => (h1.other b' hb').trans (h0.other b' hb')⟩
    · by_cases hn : ∃ i : Fin n, D i.succ j
      · exact h1.on j hn
      · refine (h1.off j hn).trans (h0.on j ?_)
        obtain rfl | ⟨i, rfl⟩ := i.eq_zero_or_eq_succ
        · exact hi
        · exact absurd ⟨i, hi⟩ hn
    · exact (h1.off j fun ⟨i, hi⟩ => hj ⟨i.succ, hi⟩).trans (h0.off j fun hi => hj ⟨0, hi⟩)

variable {I : In F} {i c : ℕ} (hc : c < 8) {σ : St F}

/-! ## The weights -/

theorem prep_painted (hS : Stage I i c σ) (hi : i = 0) :
    Painted .wb (fun j => 2048 * c ≤ (j 1).val ∧ (j 1).val < 2048 * c + 2048) (wbT I) σ (prepD c hc σ) := by
  refine (Painted.foldN (b := .wb) (D := fun k j => ∃ l, j ∈ (rWb c hc k l).set) σ (fun k σ' h' =>
    Painted.foldN σ (fun l σ'' h'' => Painted.put fun y => ?_) σ' h') σ fun _ _ => rfl).mono fun j => ?_
  · have y0 := lt0 y
    have y1 := lt1 y
    rw [shapeCast_self, wTile_apply]
    show FloatOps.mulf (FloatOps.extf _ _ (σ'' .w ((rW k l).emb y))) (FloatOps.truncf _ _ (σ'' .ws ((rWs k l).emb _))) = _
    rw [h'' .w (by decide), h'' .ws (by decide), hS.w hi, hS.ws hi, rect2_emb, rect2_emb, rect3_emb, colw_toNat hc (by omega)]
    unfold wbT
    have hk := k.isLt
    have hl := l.isLt
    simp only [at2_0, at2_1, at3_1, at3_2]
    congr 3
    · exact ext2 (by simp only [at2_0]; omega) (by simp only [at2_1]; omega)
    · exact ext3 (by simp only [at3_0]) (by simp only [at3_1]; omega) (by simp only [at3_2]; omega)
  · have j0 := lt0 j
    have j1 := lt1 j
    constructor
    · rintro ⟨k, l, h⟩
      have := mem_rect2.mp h
      rw [colw_toNat hc (by omega)] at this
      omega
    · intro h
      refine ⟨⟨(j 0).val / 128, by omega⟩, ⟨((j 1).val - 2048 * c) / 128, by omega⟩, mem_rect2.mpr ?_⟩
      rw [colw_toNat hc (by show 128 * (((j 1).val - 2048 * c) / 128) < 2048; omega)]
      show (128 * ((j 0).val / 128) ≤ _ ∧ _ < 128 * ((j 0).val / 128) + _) ∧ (_ + 128 * (((j 1).val - 2048 * c) / 128) ≤ _ ∧ _ < _ + 128 * (((j 1).val - 2048 * c) / 128) + _)
      omega

/-! ## The row block's operands -/

theorem full2 {N M : ℕ} [NeZero N] [NeZero M] {α : Type} (f : (⟨2, ![N, M]⟩ : Shape).Idx → α) (h1 : 0 + N ≤ N) (h2 : 0 + M ≤ M)
    (j : (⟨2, ![N, M]⟩ : Shape).Idx) : f ((rect2 N M 0 0 N M h1 h2).emb j) = f j := by
  rw [rect2_emb, Nat.zero_add, Nat.zero_add, at2_self]

theorem overlay_full {N M : ℕ} [NeZero N] [NeZero M] {α : Type} (f v : (⟨2, ![N, M]⟩ : Shape).Idx → α) (h1 : 0 + N ≤ N) (h2 : 0 + M ≤ M) :
    (rect2 N M 0 0 N M h1 h2).overlay f v = v := by
  funext j
  have j0 := lt0 j
  have j1 := lt1 j
  rw [overlay2_in _ _ (by omega), Nat.sub_zero, Nat.sub_zero, at2_self]

theorem rows_effect (hS : Stage I i c σ) (hi : i < 32) :
    rowsD σ .xb = xbT I i ∧ rowsD σ .xsb = xsbT I i ∧ ∀ b, b ≠ .xb → b ≠ .xsb → rowsD σ b = σ b := by
  unfold rowsD
  generalize hτ : put σ .xb rX _ = τ
  have ho : ∀ b, b ≠ .xb → τ b = σ b := fun b hb => by rw [← hτ, put_other _ _ _ _ hb]
  have hp : Painted .xsb (fun j => True) (xsbT I i) τ (foldN 2 (fun b => xsHalfD b) τ) := by
    refine (Painted.foldN (b := .xsb) (D := fun b j => j ∈ (rHalf b).set) τ (fun b σ' h' => Painted.put fun y => ?_) τ fun _ _ => rfl).mono fun j => ?_
    · have y0 := lt0 y
      have y1 := lt1 y
      have hb := b.isLt
      rw [shapeCast_self, repTile_apply]
      show σ' .xs ((rRow b).emb _) = _
      rw [h' .xs (by decide), ho .xs (by decide), hS.xs hi, rect3_emb, rect2_emb]
      unfold xsbT
      simp only [at2_0, at2_1, at3_1, at3_2]
      congr 1
      exact ext3 rfl (by simp only [at3_1]; omega) (by simp only [at3_2]; omega)
    · have j0 := lt0 j
      have j1 := lt1 j
      refine ⟨fun _ => trivial, fun _ => ⟨⟨(j 0).val / 128, by omega⟩, mem_rect2.mpr ?_⟩⟩
      show (128 * ((j 0).val / 128) ≤ _ ∧ _ < 128 * ((j 0).val / 128) + _) ∧ _
      omega
  refine ⟨?_, funext fun j => hp.on j trivial, fun b h h' => (hp.other b h').trans (ho b h)⟩
  rw [hp.other .xb (by decide), ← hτ, put_same, overlay_full, shapeCast_self]
  funext j
  refine (congrArg (FloatOps.extf .bf16 lt_fp8_bf16) ((congrFun (shapeCast_self _ _) j).trans ((full2 (σ .x) _ _ j).trans (hS.x hi j)))).trans ?_
  rfl

/-! ## The accumulators' start -/

theorem zero_effect : zeroD σ .ss = zeros ∧ zeroD σ .mx = zeros ∧ ∀ b, b ≠ .ss → b ≠ .mx → zeroD σ b = σ b := by
  unfold zeroD
  refine ⟨?_, ?_, fun b h h' => by rw [put_other _ _ _ _ h', put_other _ _ _ _ h]⟩
  · rw [put_other _ _ _ _ (by decide), put_same, overlay_full, shapeCast_self]
  · rw [put_same, overlay_full, shapeCast_self]

/-! ## The statistics -/

theorem stats_effect (hss : σ .ss = ssT I i 128) (hmx : σ .mx = mxT I i 128) :
    statsD σ .rs = rsT I i ∧ statsD σ .inv = invT I i ∧ statsD σ .ns = nsT I i ∧
      ∀ b, b ≠ .rs → b ≠ .inv → b ≠ .ns → statsD σ b = σ b := by
  have es : get σ .ss rAll = ssT I i 128 := by funext j; exact (full2 (σ .ss) _ _ j).trans (congrFun hss j)
  have em : get σ .mx rAll = mxT I i 128 := by funext j; exact (full2 (σ .mx) _ _ j).trans (congrFun hmx j)
  unfold statsD
  rw [es, em]
  change foldN 2 (fun b => nsHalfD (scaleOf (vT I i)) b) (put (put σ .rs rAll (shapeCast S256x128 (rsT I i) _)) .inv rAll (shapeCast S256x128 (invT I i) _)) .rs = _ ∧
    foldN 2 (fun b => nsHalfD (scaleOf (vT I i)) b) (put (put σ .rs rAll (shapeCast S256x128 (rsT I i) _)) .inv rAll (shapeCast S256x128 (invT I i) _)) .inv = _ ∧
    foldN 2 (fun b => nsHalfD (scaleOf (vT I i)) b) (put (put σ .rs rAll (shapeCast S256x128 (rsT I i) _)) .inv rAll (shapeCast S256x128 (invT I i) _)) .ns = _ ∧
    ∀ b, b ≠ .rs → b ≠ .inv → b ≠ .ns → foldN 2 (fun b => nsHalfD (scaleOf (vT I i)) b) (put (put σ .rs rAll (shapeCast S256x128 (rsT I i) _)) .inv rAll (shapeCast S256x128 (invT I i) _)) b = _
  generalize hτ : put (put σ .rs rAll _) .inv rAll _ = τ
  have hp : Painted .ns (fun j => True) (nsT I i) τ (foldN 2 (fun b => nsHalfD (scaleOf (vT I i)) b) τ) := by
    refine (Painted.foldN (b := .ns) (D := fun b j => j ∈ (rRow b).set) τ (fun b σ' h' => Painted.put fun y => ?_) τ fun _ _ => rfl).mono fun j => ?_
    · have y2 := lt3_2 y
      have hb := b.isLt
      rw [scaleRow_apply, rect3_emb]
      unfold nsT
      simp only [at3_1, at3_2]
      congr 1
      exact ext2 (by simp only [at2_0]; omega) rfl
    · have j1 := lt3_1 j
      have j2 := lt3_2 j
      refine ⟨fun _ => trivial, fun _ => ⟨⟨(j 1).val, by omega⟩, mem_rect3.mpr ?_⟩⟩
      exact ⟨rfl, by omega, by omega⟩
  refine ⟨?_, ?_, funext fun j => hp.on j trivial, fun b h h' h'' => (hp.other b h'').trans ?_⟩
  · rw [hp.other .rs (by decide), ← hτ, put_other _ _ _ _ (by decide), put_same, overlay_full, shapeCast_self]
  · rw [hp.other .inv (by decide), ← hτ, put_same, overlay_full, shapeCast_self]
  · rw [← hτ, put_other _ _ _ _ h', put_other _ _ _ _ h]

/-! ## The codes -/

theorem quant_painted {n : ℕ} (hS : Stage I i c σ) (hrs : σ .rs = rsT I n) (hinv : σ .inv = invT I n)
    (hh : ∀ j, 2048 * c ≤ (j 1).val → σ .hbuf j = hT I n j) :
    Painted .q (fun j => True) (fun j => qT I n (at2 256 16384 (j 0).val (2048 * c + (j 1).val))) σ (quantD c hc σ) := by
  refine (Painted.foldN (b := .q) (D := fun s j => ∃ l, j ∈ (rT s l).set) σ (fun s σ' h' =>
    Painted.foldN σ (fun l σ'' h'' => Painted.put fun y => ?_) σ' h') σ fun _ _ => rfl).mono fun j => ?_
  · have y0 := lt0 y
    have y1 := lt1 y
    have hs := s.isLt
    have hl := l.isLt
    show FloatOps.truncf _ _ (FloatOps.minimumf (FloatOps.maximumf (FloatOps.mulf (FloatOps.mulf (FloatOps.mulf
      (FloatOps.extf _ _ (σ'' .hbuf ((rH c hc s l).emb y))) (σ'' .rs ((rStrip s).emb y))) (gStrip (fun i => σ'' .g ((rG l).emb i)) y)) (σ'' .inv ((rStrip s).emb y))) _) _) = _
    rw [gStrip_apply, h'' .rs (by decide), h'' .inv (by decide), h'' .g (by decide), h'' .hbuf (by decide), hrs, hinv, hS.g, rect2_emb, rect2_emb,
      rect2_emb, rect2_emb, colw_toNat hc (by omega), hh _ (by simp only [at2_1]; omega)]
    unfold qT
    simp only [at2_0, at2_1]
    have e1 : at2 256 16384 (32 * s.val + (y 0).val) (2048 * c + 128 * l.val + (y 1).val)
        = at2 256 16384 ((32 * s.val + (y 0).val) % 256) (2048 * c + (128 * l.val + (y 1).val) % 2048) :=
      ext2 (by simp only [at2_0]; omega) (by simp only [at2_1]; omega)
    have e2 : at2 256 128 (32 * s.val + (y 0).val) (0 + (y 1).val)
        = at2 256 128 ((32 * s.val + (y 0).val) % 256 % 256) ((2048 * c + (128 * l.val + (y 1).val) % 2048) % 16384 % 128) :=
      ext2 (by simp only [at2_0]; omega) (by simp only [at2_1]; omega)
    have e3 : at2 1 16384 0 (2048 * c + (128 * l.val + (y 1).val % 128) % 2048)
        = at2 1 16384 0 ((2048 * c + (128 * l.val + (y 1).val) % 2048) % 16384) :=
      ext2 rfl (by simp only [at2_1]; omega)
    rw [e1, e2, e3]
    rfl
  · have j0 := lt0 j
    have j1 := lt1 j
    refine ⟨fun _ => trivial, fun _ => ⟨⟨(j 0).val / 32, by omega⟩, ⟨(j 1).val / 128, by omega⟩, mem_rect2.mpr ?_⟩⟩
    show (32 * ((j 0).val / 32) ≤ _ ∧ _ < 32 * ((j 0).val / 32) + _) ∧ (128 * ((j 1).val / 128) ≤ _ ∧ _ < 128 * ((j 1).val / 128) + _)
    omega

end Cert.Fused
-- ==== Proof.Proj.lean ====
/- The projection section: what it leaves in the result block, the row buffer and the two accumulators. -/
module

public import proofs.«01_k».proof.Proof.Paint

@[expose] public section

noncomputable section

namespace Cert.Fused

open Idealize.ShloMosaic

variable {F : FTy → Type} [FloatOps F]

open Classical in
theorem overlay_paint {s : Shape} {α : Type} (r : Rect s) (X : s.Idx → α) (v : r.shape.Idx → α) (T : s.Idx → α) (h : ∀ k, v k = T (r.emb k)) (j : s.Idx) :
    r.overlay X v j = if j ∈ r.set then T j else X j := by
  by_cases hj : j ∈ r.set
  · rw [if_pos hj]
    rw [← Rect.map_emb_univ] at hj
    obtain ⟨k, -, rfl⟩ := Finset.mem_map.mp hj
    rw [Rect.overlay_emb, h]
  · rw [if_neg hj, Rect.overlay_of_not_mem _ _ _ hj]

variable (I : In F) (i c : ℕ) (hc : c < 8)

/-- Which rows and columns of a 256 × 2048 panel are done after `t` column blocks and `n` strips of the next. -/
def Done (t n a b : ℕ) : Prop := b < 256 * t ∨ (b < 256 * t + 256 ∧ a < 32 * n)

/-- What the section needs of the contents it starts from. -/
structure ProjPre (σ : St F) : Prop where
  stage : Stage I i c σ
  lt : i < 32
  wb : ∀ j, (j 1).val < 2048 * c + 2048 → σ .wb j = wbT I j
  xb : σ .xb = xbT I i
  xsb : σ .xsb = xsbT I i
  ss : σ .ss = ssT I i (16 * c)
  mx : σ .mx = mxT I i (16 * c)

/-- The contents part of the way through the section. -/
structure ProjInv (σ₀ : St F) (t n : ℕ) (σ : St F) : Prop where
  other : ∀ b, b ≠ .h → b ≠ .hbuf → b ≠ .ss → b ≠ .mx → σ b = σ₀ b
  hOn : ∀ j, Done t n (j 0).val (j 1).val → σ .h j = hT I i (at2 256 16384 (j 0).val (2048 * c + (j 1).val))
  hbOn : ∀ j, 2048 * c ≤ (j 1).val → (j 1).val < 2048 * c + 2048 → Done t n (j 0).val ((j 1).val - 2048 * c) → σ .hbuf j = hT I i j
  hbOff : ∀ j, ¬(2048 * c ≤ (j 1).val ∧ (j 1).val < 2048 * c + 2048) → σ .hbuf j = σ₀ .hbuf j
  ss : ∀ j, σ .ss j = ssT I i (16 * c + 2 * t + if (j 0).val < 32 * n then 2 else 0) j
  mx : ∀ j, σ .mx j = mxT I i (16 * c + 2 * t + if (j 0).val < 32 * n then 2 else 0) j

variable {I i c} {σ₀ σ : St F} (hp : ProjPre I i c σ₀)
include hp

theorem ProjInv.start : ProjInv I i c σ₀ 0 0 σ₀ where
  other b _ _ _ _ := rfl
  hOn j hj := by unfold Done at hj; omega
  hbOn j _ _ hj := by unfold Done at hj; omega
  hbOff j _ := rfl
  ss j := by rw [if_neg (by omega), hp.ss]; rfl
  mx j := by rw [if_neg (by omega), hp.mx]; rfl

omit hp in
theorem ProjInv.nextBlock {t : ℕ} (h : ProjInv I i c σ₀ t 8 σ) : ProjInv I i c σ₀ (t + 1) 0 σ where
  other := h.other
  hOn j hj := h.hOn j (by have := lt0 j; unfold Done at *; omega)
  hbOn j h1 h2 hj := h.hbOn j h1 h2 (by have := lt0 j; unfold Done at *; omega)
  hbOff := h.hbOff
  ss j := by
    have := lt0 j
    rw [h.ss j, if_pos (by omega), if_neg (by omega)]
    rfl
  mx j := by
    have := lt0 j
    rw [h.mx j, if_pos (by omega), if_neg (by omega)]
    rfl

/-- The product of the block the section takes up at step `t`. -/
theorem acc_eq (t : Fin 8) (h : ∀ b, b ≠ .h → b ≠ .hbuf → b ≠ .ss → b ≠ .mx → σ b = σ₀ b) :
    accOf (get σ .xb rX) (get σ .wb (rWt c hc t)) = accT I i (8 * c + t.val) := by
  have ht := t.isLt
  unfold accT
  congr 1
  · funext j
    exact (full2 (σ .xb) _ _ j).trans (by rw [h .xb (by decide) (by decide) (by decide) (by decide), hp.xb])
  · funext j
    have j0 := lt0 j
    have j1 := lt1 j
    show σ .wb ((rWt c hc t).emb j) = _
    rw [rect2_emb, colw_toNat hc (by omega), h .wb (by decide) (by decide) (by decide) (by decide), hp.wb _ (by simp only [at2_1]; omega)]
    congr 1
    exact ext2 (by simp only [at2_0]; omega) (by simp only [at2_1]; omega)

include hc in
/-- One tile of the first result. -/
theorem hOf_eq (t s : Fin 8) (u : Fin 2) (h : ∀ b, b ≠ .h → b ≠ .hbuf → b ≠ .ss → b ≠ .mx → σ b = σ₀ b) (y : S32x128.Idx) :
    hOf (accT I i (8 * c + t.val)) t s u σ y
      = hT I i (at2 256 16384 (32 * s.val + (y 0).val) (2048 * c + 256 * t.val + 128 * u.val + (y 1).val)) := by
  have ht := t.isLt
  have hs := s.isLt
  have hu := u.isLt
  have y0 := lt0 y
  have y1 := lt1 y
  unfold hOf
  rw [hTile_apply]
  show FloatOps.truncf _ _ (FloatOps.addf (FloatOps.extf _ _ (σ .res ((rT s (lane t u)).emb y))) (FloatOps.mulf _ (σ .xsb ((rStrip s).emb y)))) = _
  rw [h .res (by decide) (by decide) (by decide) (by decide), h .xsb (by decide) (by decide) (by decide) (by decide), hp.xsb, hp.stage.res hp.lt,
    rect2_emb, rect2_emb]
  unfold hT
  simp only [at2_0, at2_1]
  have e0 : (2048 * c + 256 * t.val + 128 * u.val + (y 1).val) % 16384 / 256 = 8 * c + t.val := by omega
  have e1 : at2 8192 16384 (256 * i + (32 * s.val + (y 0).val) % 256) (2048 * c + (128 * (lane t u).val + (y 1).val) % 2048)
      = at2 8192 16384 (256 * i + (32 * s.val + (y 0).val) % 256) ((2048 * c + 256 * t.val + 128 * u.val + (y 1).val) % 16384) :=
    ext2 rfl (by simp only [at2_1]; show (2048 * c + (128 * (2 * t.val + u.val) + (y 1).val) % 2048) % 16384 = _; omega)
  have e2 : at2 256 256 (32 * s.val + (y 0).val) (128 * u.val + (y 1).val)
      = at2 256 256 ((32 * s.val + (y 0).val) % 256) ((2048 * c + 256 * t.val + 128 * u.val + (y 1).val) % 16384 % 256) :=
    ext2 (by simp only [at2_0]; omega) (by simp only [at2_1]; omega)
  have e3 : at2 256 128 (32 * s.val + (y 0).val) (0 + (y 1).val)
      = at2 256 128 ((32 * s.val + (y 0).val) % 256) ((2048 * c + 256 * t.val + 128 * u.val + (y 1).val) % 16384 % 128) :=
    ext2 (by simp only [at2_0]; omega) (by simp only [at2_1]; omega)
  rw [e0, e1, e2, e3]

/-- A step of a strip's sum of squares, -/
theorem ss_step {t s : Fin 8} {n : ℕ} {u : Fin 2} {h : FVec F S32x128 .bf16} {sm : FVec F S32x128 .f32}
    (hn : n = 16 * c + 2 * t.val + u.val)
    (hh : ∀ y, h y = hT I i (at2 256 16384 (32 * s.val + (y 0).val) (2048 * c + 256 * t.val + 128 * u.val + (y 1).val)))
    (hs : ∀ y, sm y = ssT I i n ((rStrip s).emb y)) (y : S32x128.Idx) : ssStep h sm y = ssT I i (n + 1) ((rStrip s).emb y) := by
  have y0 := lt0 y
  have y1 := lt1 y
  have hs' := s.isLt
  show FloatOps.addf (sm y) (FloatOps.mulf (FloatOps.extf .f32 lt_bf16_f32 (h y)) (FloatOps.extf .f32 lt_bf16_f32 (h y))) = FloatOps.addf _ (FloatOps.mulf (hL I i n _) (hL I i n _))
  have e : hL I i n ((rStrip s).emb y) = FloatOps.extf .f32 lt_bf16_f32 (h y) := by
    unfold hL
    rw [hh, rect2_emb]
    simp only [at2_0, at2_1]
    congr 2
    exact ext2 (by simp only [at2_0]; omega) (by simp only [at2_1]; omega)
  rw [e, hs]

/-- and of its largest magnitude. -/
theorem mx_step {t s : Fin 8} {n : ℕ} {u : Fin 2} {h : FVec F S32x128 .bf16} {m : FVec F S32x128 .f32} {g : FVec F S1x128 .f32}
    (hn : n = 16 * c + 2 * t.val + u.val)
    (hh : ∀ y, h y = hT I i (at2 256 16384 (32 * s.val + (y 0).val) (2048 * c + 256 * t.val + 128 * u.val + (y 1).val)))
    (hg : g = get σ₀ .g (rG (lane t u)))
    (hm : ∀ y, m y = mxT I i n ((rStrip s).emb y)) (y : S32x128.Idx) : mxStep h g m y = mxT I i (n + 1) ((rStrip s).emb y) := by
  have y0 := lt0 y
  have y1 := lt1 y
  have hs' := s.isLt
  have ht := t.isLt
  have hu := u.isLt
  show FloatOps.maximumf (m y) (FloatOps.absf (FloatOps.mulf (FloatOps.extf .f32 lt_bf16_f32 (h y)) (gStrip g y)))
    = FloatOps.maximumf _ (FloatOps.absf (FloatOps.mulf (hL I i n _) _))
  have e : hL I i n ((rStrip s).emb y) = FloatOps.extf .f32 lt_bf16_f32 (h y) := by
    unfold hL
    rw [hh, rect2_emb]
    simp only [at2_0, at2_1]
    congr 2
    exact ext2 (by simp only [at2_0]; omega) (by simp only [at2_1]; omega)
  have e' : gStrip g y = I.G (at2 1 16384 0 (128 * n + (((rStrip s).emb y) 1).val)) := by
    rw [gStrip_apply, hg]
    show σ₀ .g ((rG (lane t u)).emb _) = _
    rw [hp.stage.g, rect2_emb, rect2_emb]
    simp only [at2_0, at2_1]
    congr 1
    refine ext2 rfl ?_
    simp only [at2_1]
    show (2048 * c + (128 * (2 * t.val + u.val) + (y 1).val % 128) % 2048) % 16384 = _
    omega
  rw [e, e', hm]

theorem ProjInv.strip (t s : Fin 8) (h : ProjInv I i c σ₀ t.val s.val σ) :
    ProjInv I i c σ₀ t.val (s.val + 1) (projStripD c hc (accT I i (8 * c + t.val)) t s σ) := by
  have ht := t.isLt
  have hs := s.isLt
  have h0 := hOf_eq hc hp t s 0 h.other
  have h1 := hOf_eq hc hp t s 1 h.other
  have hh1 : hOf (accT I i (8 * c + t.val)) t s 1 (projTileD c hc (accT I i (8 * c + t.val)) t s 0 σ) = hOf (accT I i (8 * c + t.val)) t s 1 σ := by
    unfold hOf
    rw [get_congr (projTileD_other c hc (accT I i (8 * c + t.val)) t s 0 σ (b := .xsb) (by decide) (by decide)),
      get_congr (projTileD_other c hc (accT I i (8 * c + t.val)) t s 0 σ (b := .res) (by decide) (by decide))]
  have hg : ∀ u, get σ .g (rG (lane t u)) = get σ₀ .g (rG (lane t u)) := fun u => get_congr (h.other .g (by decide) (by decide) (by decide) (by decide)) _
  have hT2 : ∀ y : S32x128.Idx, ((rStrip s).emb y 0).val < 32 * s.val + 32 := fun y => by
    have := lt0 y
    rw [rect2_emb, at2_0]; omega
  have hT3 : ∀ y : S32x128.Idx, ¬ ((rStrip s).emb y 0).val < 32 * s.val := fun y => by
    have := lt0 y
    rw [rect2_emb, at2_0]; omega
  unfold projStripD projTileD
  rw [show hOf (accT I i (8 * c + t.val)) t s 1 (put (put σ .h (rT s (lane t 0)) (hOf (accT I i (8 * c + t.val)) t s 0 σ)) .hbuf (rH c hc s (lane t 0))
    (shapeCast S32x128 (hOf (accT I i (8 * c + t.val)) t s 0 σ) (by decide))) = _ from hh1]
  generalize hOf (accT I i (8 * c + t.val)) t s 0 σ = v0 at *
  generalize hOf (accT I i (8 * c + t.val)) t s 1 σ = v1 at *
  refine ⟨fun b b1 b2 b3 b4 => ?_, fun j hj => ?_, fun j j1 j2 hj => ?_, fun j hj => ?_, fun j => ?_, fun j => ?_⟩
  · rw [put_other _ _ _ _ b4, put_other _ _ _ _ b3, put_other _ _ _ _ b2, put_other _ _ _ _ b1, put_other _ _ _ _ b2, put_other _ _ _ _ b1]
    exact h.other b b1 b2 b3 b4
  · rw [put_other _ _ _ _ (by decide), put_other _ _ _ _ (by decide), put_other _ _ _ _ (by decide), put_same, put_other _ _ _ _ (by decide), put_same]
    have j0 := lt0 j
    have j1 := lt1 j
    rw [overlay_paint _ _ _ (fun j => hT I i (at2 256 16384 (j 0).val (2048 * c + (j 1).val))) (fun k => ?_),
      overlay_paint _ _ _ (fun j => hT I i (at2 256 16384 (j 0).val (2048 * c + (j 1).val))) (fun k => ?_)]
    · split
      · rfl
      rename_i n1
      split
      · rfl
      rename_i n0
      refine h.hOn j ?_
      rw [mem_rect2] at n0 n1
      change ¬((32 * s.val ≤ _ ∧ _) ∧ 128 * (2 * t.val + 0) ≤ _ ∧ _ < 128 * (2 * t.val + 0) + _) at n0
      change ¬((32 * s.val ≤ _ ∧ _) ∧ 128 * (2 * t.val + 1) ≤ _ ∧ _ < 128 * (2 * t.val + 1) + _) at n1
      unfold Done at *
      omega
    · have k0 := lt0 k
      have k1 := lt1 k
      rw [h0, rect2_emb]
      simp only [at2_0, at2_1]
      congr 1
      refine ext2 ?_ ?_
      · simp only [at2_0]; omega
      · simp only [at2_1]
        show (2048 * c + 256 * t.val + 128 * 0 + (k 1).val) % 16384 = (2048 * c + (128 * (2 * t.val + 0) + (k 1).val) % 2048) % 16384
        omega
    · have k0 := lt0 k
      have k1 := lt1 k
      rw [h1, rect2_emb]
      simp only [at2_0, at2_1]
      congr 1
      refine ext2 ?_ ?_
      · simp only [at2_0]; omega
      · simp only [at2_1]
        show (2048 * c + 256 * t.val + 128 * 1 + (k 1).val) % 16384 = (2048 * c + (128 * (2 * t.val + 1) + (k 1).val) % 2048) % 16384
        omega
  · rw [put_other _ _ _ _ (by decide), put_other _ _ _ _ (by decide), put_same, put_other _ _ _ _ (by decide), put_same, put_other _ _ _ _ (by decide)]
    have j0 := lt0 j
    rw [overlay_paint _ _ _ (hT I i) (fun k => ?_), overlay_paint _ _ _ (hT I i) (fun k => ?_)]
    · split
      · rfl
      rename_i n1
      split
      · rfl
      rename_i n0
      refine h.hbOn j j1 j2 ?_
      rw [mem_rect2, colw_toNat hc (by omega)] at n0 n1
      change ¬((32 * s.val ≤ _ ∧ _) ∧ 2048 * c + 128 * (2 * t.val + 0) ≤ _ ∧ _ < 2048 * c + 128 * (2 * t.val + 0) + _) at n0
      change ¬((32 * s.val ≤ _ ∧ _) ∧ 2048 * c + 128 * (2 * t.val + 1) ≤ _ ∧ _ < 2048 * c + 128 * (2 * t.val + 1) + _) at n1
      unfold Done at *
      omega
    · have k0 := lt0 k
      have k1 := lt1 k
      rw [shapeCast_self, h0, rect2_emb, colw_toNat hc (by omega)]
      congr 1
      refine ext2 rfl ?_
      simp only [at2_1]
      show (2048 * c + 256 * t.val + 128 * 0 + (k 1).val) % 16384 = (2048 * c + (128 * (2 * t.val + 0)) + (k 1).val) % 16384
      omega
    · have k0 := lt0 k
      have k1 := lt1 k
      rw [shapeCast_self, h1, rect2_emb, colw_toNat hc (by omega)]
      congr 1
      refine ext2 rfl ?_
      simp only [at2_1]
      show (2048 * c + 256 * t.val + 128 * 1 + (k 1).val) % 16384 = (2048 * c + (128 * (2 * t.val + 1)) + (k 1).val) % 16384
      omega
  · rw [put_other _ _ _ _ (by decide), put_other _ _ _ _ (by decide), put_same, put_other _ _ _ _ (by decide), put_same, put_other _ _ _ _ (by decide)]
    have l0 : (lane t 0).val = 2 * t.val + 0 := rfl
    have l1 : (lane t 1).val = 2 * t.val + 1 := rfl
    rw [overlay2_out, overlay2_out]
    · exact h.hbOff j hj
    · rw [colw_toNat hc (by omega)]; omega
    · rw [colw_toNat hc (by omega)]; omega
  · rw [put_other _ _ _ _ (by decide), put_same, put_other _ _ _ _ (by decide), put_other _ _ _ _ (by decide), put_other _ _ _ _ (by decide), put_other _ _ _ _ (by decide)]
    have j0 := lt0 j
    have j1 := lt1 j
    rw [overlay_paint _ _ _ (ssT I i (16 * c + 2 * t.val + 2)) (fun k => ?_)]
    · split
      · rename_i hm
        rw [mem_rect2] at hm
        rw [if_pos (by omega)]
      · rename_i hm
        rw [mem_rect2] at hm
        rw [h.ss j]
        by_cases hj : (j 0).val < 32 * s.val
        · rw [if_pos hj, if_pos (by omega)]
        · rw [if_neg hj, if_neg (by omega)]
    · rw [shapeCast_self]
      refine ss_step hp (u := 1) rfl h1 (fun y => ?_) k
      refine ss_step hp (u := 0) rfl h0 (fun y => ?_) y
      refine (h.ss _).trans ?_
      rw [if_neg (hT3 y)]
      rfl
  · rw [put_same, put_other _ _ _ _ (by decide), put_other _ _ _ _ (by decide), put_other _ _ _ _ (by decide), put_other _ _ _ _ (by decide), put_other _ _ _ _ (by decide)]
    have j0 := lt0 j
    have j1 := lt1 j
    rw [overlay_paint _ _ _ (mxT I i (16 * c + 2 * t.val + 2)) (fun k => ?_)]
    · split
      · rename_i hm
        rw [mem_rect2] at hm
        rw [if_pos (by omega)]
      · rename_i hm
        rw [mem_rect2] at hm
        rw [h.mx j]
        by_cases hj : (j 0).val < 32 * s.val
        · rw [if_pos hj, if_pos (by omega)]
        · rw [if_neg hj, if_neg (by omega)]
    · rw [shapeCast_self]
      refine mx_step hp (u := 1) rfl h1 (hg 1) (fun y => ?_) k
      refine mx_step hp (u := 0) rfl h0 (hg 0) (fun y => ?_) y
      refine (h.mx _).trans ?_
      rw [if_neg (hT3 y)]
      rfl

/-- The whole section. -/
theorem proj_effect : ProjInv I i c σ₀ 8 0 (projD c hc σ₀) := by
  refine foldN_induct (fun t => projBlockD c hc t) (fun t σ => ProjInv I i c σ₀ t 0 σ) (fun t σ h => ?_) σ₀ (ProjInv.start hp)
  unfold projBlockD
  rw [acc_eq hc hp t h.other]
  exact ProjInv.nextBlock (foldN_induct _ (fun n σ => ProjInv I i c σ₀ t.val n σ) (fun s σ h => ProjInv.strip hc hp t s h) σ h)

end Cert.Fused
-- ==== Proof.Step.lean ====
/- One grid point: the invariant is carried, and the result blocks are filled. -/
module

public import proofs.«01_k».proof.Proof.Proj

@[expose] public section

noncomputable section

namespace Cert.Fused

open Idealize.ShloMosaic

theorem cond1_iff : ∀ i : Fin 33, cond1 i.val = 1#1 ↔ i.val = 0 := by decide
theorem cond2_iff : ∀ (i : Fin 33) (c : Fin 8), cond2 i.val c.val = 1#1 ↔ c.val = 0 ∧ 1 ≤ i.val := by decide
theorem cond3_iff : ∀ (i : Fin 33) (c : Fin 8), cond3 i.val c.val = 1#1 ↔ c.val = 0 ∧ i.val < 32 := by decide
theorem cond4_iff : ∀ c : Fin 8, cond4 c.val = 1#1 ↔ c.val = 0 := by decide
theorem cond5_iff : ∀ i : Fin 33, cond5 i.val = 1#1 ↔ 1 ≤ i.val := by decide
theorem cond6_iff : ∀ i : Fin 33, cond6 i.val = 1#1 ↔ i.val < 32 := by decide

variable {F : FTy → Type} [FloatOps F] {I : In F} {i c : ℕ} (hc : c < 8) {σ : St F}

theorem Stage.congr {σ' : St F} (h : Stage I i c σ) (e : ∀ b, b = .x ∨ b = .xs ∨ b = .w ∨ b = .ws ∨ b = .res ∨ b = .g → σ' b = σ b) :
    Stage I i c σ' where
  x hi j := (congrFun (e .x (by decide)) j).trans (h.x hi j)
  xs hi j := (congrFun (e .xs (by decide)) j).trans (h.xs hi j)
  w hi j := (congrFun (e .w (by decide)) j).trans (h.w hi j)
  ws hi j := (congrFun (e .ws (by decide)) j).trans (h.ws hi j)
  res hi j := (congrFun (e .res (by decide)) j).trans (h.res hi j)
  g j := (congrFun (e .g (by decide)) j).trans (h.g j)

/-- What grid point `(i, c)` does to the contents `σ`. -/
structure Stepped (I : In F) (i c : ℕ) (σ σ' : St F) : Prop where
  inv : Inv I i (c + 1) σ'
  input : ∀ b, b = .x ∨ b = .xs ∨ b = .w ∨ b = .ws ∨ b = .res ∨ b = .g → σ' b = σ b
  h : i < 32 → ∀ j, σ' .h j = hT I i (at2 256 16384 (j 0).val (2048 * c + (j 1).val))
  h' : ¬ i < 32 → σ' .h = σ .h
  q : 1 ≤ i → ∀ j, σ' .q j = qT I (i - 1) (at2 256 16384 (j 0).val (2048 * c + (j 1).val))
  q' : ¬ 1 ≤ i → σ' .q = σ .q
  ns : c = 0 → 1 ≤ i → σ' .ns = nsT I (i - 1)
  ns' : ¬(c = 0 ∧ 1 ≤ i) → σ' .ns = σ .ns

theorem stepped (hi : i < 33) (hS : Stage I i c σ) (hI : Inv I i c σ) : Stepped I i c σ (bodyD c hc i σ) := by
  have k1 := cond1_iff ⟨i, hi⟩
  have k2 := cond2_iff ⟨i, hi⟩ ⟨c, hc⟩
  have k3 := cond3_iff ⟨i, hi⟩ ⟨c, hc⟩
  have k4 := cond4_iff ⟨c, hc⟩
  have k5 := cond5_iff ⟨i, hi⟩
  have k6 := cond6_iff ⟨i, hi⟩
  dsimp only at k1 k2 k3 k4 k5 k6
  unfold bodyD
  simp only [k1, k2, k3, k4, k5, k6]
  -- the weights
  have a1 : (∀ j, (j 1).val < 2048 * c + 2048 ∨ 1 ≤ i → (if i = 0 then prepD c hc σ else σ) .wb j = wbT I j) ∧
      ∀ b, b ≠ .wb → (if i = 0 then prepD c hc σ else σ) b = σ b := by
    by_cases hi0 : i = 0
    · rw [if_pos hi0]
      have hp := prep_painted hc hS hi0
      refine ⟨fun j hj => ?_, hp.other⟩
      by_cases hj' : 2048 * c ≤ (j 1).val
      · exact hp.on j ⟨hj', by omega⟩
      · exact (hp.off j fun h => hj' h.1).trans (hI.wb j (.inl (by omega)))
    · rw [if_neg hi0]
      exact ⟨fun j hj => hI.wb j (.inr (by omega)), fun _ _ => rfl⟩
  generalize (if i = 0 then prepD c hc σ else σ) = σ1 at *
  obtain ⟨wb1, o1⟩ := a1
  -- the statistics
  have a2 : (1 ≤ i → (if c = 0 ∧ 1 ≤ i then statsD σ1 else σ1) .rs = rsT I (i - 1) ∧ (if c = 0 ∧ 1 ≤ i then statsD σ1 else σ1) .inv = invT I (i - 1)) ∧
      (c = 0 → 1 ≤ i → (if c = 0 ∧ 1 ≤ i then statsD σ1 else σ1) .ns = nsT I (i - 1)) ∧
      (¬(c = 0 ∧ 1 ≤ i) → (if c = 0 ∧ 1 ≤ i then statsD σ1 else σ1) .ns = σ1 .ns) ∧
      ∀ b, b ≠ .rs → b ≠ .inv → b ≠ .ns → (if c = 0 ∧ 1 ≤ i then statsD σ1 else σ1) b = σ1 b := by
    by_cases hc0 : c = 0 ∧ 1 ≤ i
    · rw [if_pos hc0]
      obtain ⟨e1, e2, e3, e4⟩ := stats_effect (σ := σ1) ((o1 .ss (by decide)).trans (hI.ss' hc0.1 hc0.2)) ((o1 .mx (by decide)).trans (hI.mx' hc0.1 hc0.2))
      exact ⟨fun _ => ⟨e1, e2⟩, fun _ _ => e3, fun h => absurd hc0 h, e4⟩
    · rw [if_neg hc0]
      exact ⟨fun h => ⟨(o1 .rs (by decide)).trans (hI.rs (by omega) h), (o1 .inv (by decide)).trans (hI.inv (by omega) h)⟩,
        fun h h' => absurd ⟨h, h'⟩ hc0, fun _ => rfl, fun _ _ _ _ => rfl⟩
  generalize (if c = 0 ∧ 1 ≤ i then statsD σ1 else σ1) = σ2 at *
  obtain ⟨st2, ns2, ns2', o2⟩ := a2
  -- the row block's operands
  have s2 : Stage I i c σ2 := hS.congr fun b hb => by
    rcases hb with rfl | rfl | rfl | rfl | rfl | rfl <;> exact (o2 _ (by decide) (by decide) (by decide)).trans (o1 _ (by decide))
  have a3 : (i < 32 → (if c = 0 ∧ i < 32 then rowsD σ2 else σ2) .xb = xbT I i ∧ (if c = 0 ∧ i < 32 then rowsD σ2 else σ2) .xsb = xsbT I i) ∧
      ∀ b, b ≠ .xb → b ≠ .xsb → (if c = 0 ∧ i < 32 then rowsD σ2 else σ2) b = σ2 b := by
    by_cases hc0 : c = 0 ∧ i < 32
    · rw [if_pos hc0]
      obtain ⟨e1, e2, e3⟩ := rows_effect s2 hc0.2
      exact ⟨fun _ => ⟨e1, e2⟩, e3⟩
    · rw [if_neg hc0]
      exact ⟨fun h => ⟨((o2 .xb (by decide) (by decide) (by decide)).trans (o1 .xb (by decide))).trans (hI.xb (by omega) h),
        ((o2 .xsb (by decide) (by decide) (by decide)).trans (o1 .xsb (by decide))).trans (hI.xsb (by omega) h)⟩, fun _ _ _ => rfl⟩
  generalize (if c = 0 ∧ i < 32 then rowsD σ2 else σ2) = σ3 at *
  obtain ⟨xx3, o3⟩ := a3
  -- the accumulators' start
  have a4 : (i < 32 → (if c = 0 then zeroD σ3 else σ3) .ss = ssT I i (16 * c) ∧ (if c = 0 then zeroD σ3 else σ3) .mx = mxT I i (16 * c)) ∧
      ∀ b, b ≠ .ss → b ≠ .mx → (if c = 0 then zeroD σ3 else σ3) b = σ3 b := by
    by_cases hc0 : c = 0
    · rw [if_pos hc0]
      obtain ⟨e1, e2, e3⟩ := zero_effect (σ := σ3)
      subst hc0
      exact ⟨fun _ => ⟨e1, e2⟩, e3⟩
    · rw [if_neg hc0]
      exact ⟨fun h => ⟨((o3 .ss (by decide) (by decide)).trans ((o2 .ss (by decide) (by decide) (by decide)).trans (o1 .ss (by decide)))).trans (hI.ss (by omega) h),
        ((o3 .mx (by decide) (by decide)).trans ((o2 .mx (by decide) (by decide) (by decide)).trans (o1 .mx (by decide)))).trans (hI.mx (by omega) h)⟩,
        fun _ _ _ => rfl⟩
  generalize (if c = 0 then zeroD σ3 else σ3) = σ4 at *
  obtain ⟨acc4, o4⟩ := a4
  have o14 : ∀ b, b ≠ .wb → b ≠ .rs → b ≠ .inv → b ≠ .ns → b ≠ .xb → b ≠ .xsb → b ≠ .ss → b ≠ .mx → σ4 b = σ b :=
    fun b h1 h2 h3 h4 h5 h6 h7 h8 => (o4 b h7 h8).trans ((o3 b h5 h6).trans ((o2 b h2 h3 h4).trans (o1 b h1)))
  have wb4 : σ4 .wb = σ1 .wb := (o4 .wb (by decide) (by decide)).trans ((o3 .wb (by decide) (by decide)).trans (o2 .wb (by decide) (by decide) (by decide)))
  have rs4 : σ4 .rs = σ2 .rs := (o4 .rs (by decide) (by decide)).trans (o3 .rs (by decide) (by decide))
  have inv4 : σ4 .inv = σ2 .inv := (o4 .inv (by decide) (by decide)).trans (o3 .inv (by decide) (by decide))
  have ns4 : σ4 .ns = σ2 .ns := (o4 .ns (by decide) (by decide)).trans (o3 .ns (by decide) (by decide))
  have xb4 : σ4 .xb = σ3 .xb := o4 .xb (by decide) (by decide)
  have xsb4 : σ4 .xsb = σ3 .xsb := o4 .xsb (by decide) (by decide)
  have hb4 : σ4 .hbuf = σ .hbuf := o14 .hbuf (by decide) (by decide) (by decide) (by decide) (by decide) (by decide) (by decide) (by decide)
  have i4 : ∀ b, b = .x ∨ b = .xs ∨ b = .w ∨ b = .ws ∨ b = .res ∨ b = .g → σ4 b = σ b := fun b hb => by
    rcases hb with rfl | rfl | rfl | rfl | rfl | rfl <;>
      exact o14 _ (by decide) (by decide) (by decide) (by decide) (by decide) (by decide) (by decide) (by decide)
  -- the codes
  have a5 : (1 ≤ i → ∀ j, (if 1 ≤ i then quantD c hc σ4 else σ4) .q j = qT I (i - 1) (at2 256 16384 (j 0).val (2048 * c + (j 1).val))) ∧
      (¬ 1 ≤ i → (if 1 ≤ i then quantD c hc σ4 else σ4) .q = σ4 .q) ∧ ∀ b, b ≠ .q → (if 1 ≤ i then quantD c hc σ4 else σ4) b = σ4 b := by
    by_cases h1 : 1 ≤ i
    · rw [if_pos h1]
      have hp := quant_painted hc (n := i - 1) (hS.congr i4) (rs4.trans (st2 h1).1) (inv4.trans (st2 h1).2)
        (fun j hj => (congrFun hb4 j).trans (hI.old j h1 hj))
      exact ⟨fun _ j => hp.on j trivial, fun h => absurd h1 h, hp.other⟩
    · rw [if_neg h1]
      exact ⟨fun h => absurd h h1, fun _ => rfl, fun _ _ => rfl⟩
  generalize (if 1 ≤ i then quantD c hc σ4 else σ4) = σ5 at *
  obtain ⟨q5, q5', o5⟩ := a5
  have i5 : ∀ b, b = .x ∨ b = .xs ∨ b = .w ∨ b = .ws ∨ b = .res ∨ b = .g → σ5 b = σ b := fun b hb =>
    (o5 b (by rcases hb with rfl | rfl | rfl | rfl | rfl | rfl <;> decide)).trans (i4 b hb)
  have hb5 : σ5 .hbuf = σ .hbuf := (o5 .hbuf (by decide)).trans hb4
  have q04 : σ4 .q = σ .q := o14 .q (by decide) (by decide) (by decide) (by decide) (by decide) (by decide) (by decide) (by decide)
  have h05 : σ5 .h = σ .h := (o5 .h (by decide)).trans (o14 .h (by decide) (by decide) (by decide) (by decide) (by decide) (by decide) (by decide) (by decide))
  have ns05 : σ5 .ns = σ2 .ns := (o5 .ns (by decide)).trans ns4
  have ns01 : σ1 .ns = σ .ns := o1 .ns (by decide)
  have wb5 : σ5 .wb = σ1 .wb := (o5 .wb (by decide)).trans wb4
  have rs5 : σ5 .rs = σ2 .rs := (o5 .rs (by decide)).trans rs4
  have inv5 : σ5 .inv = σ2 .inv := (o5 .inv (by decide)).trans inv4
  -- the projection
  by_cases h32 : i < 32
  · rw [if_pos h32]
    have hp : ProjPre I i c σ5 :=
      { stage := hS.congr i5
        lt := h32
        wb := fun j hj => (congrFun wb5 j).trans (wb1 j (.inl hj))
        xb := (o5 .xb (by decide)).trans (xb4.trans (xx3 h32).1)
        xsb := (o5 .xsb (by decide)).trans (xsb4.trans (xx3 h32).2)
        ss := (o5 .ss (by decide)).trans (acc4 h32).1
        mx := (o5 .mx (by decide)).trans (acc4 h32).2 }
    have hP := proj_effect hc hp
    generalize projD c hc σ5 = σ6 at *
    have o6 := hP.other
    refine ⟨⟨fun j hj => ?_, fun _ _ => ?_, fun _ _ => ?_, fun _ _ => ?_, fun _ _ => ?_, fun j _ hj => ?_, fun j h1 hj => ?_, fun h => by omega, fun h => by omega,
      fun _ h1 => ?_, fun _ h1 => ?_⟩, fun b hb => ?_, fun _ j => ?_, fun h => absurd h32 h, fun h1 j => ?_, fun h1 => ?_, fun h0 h1 => ?_, fun h => ?_⟩
    · rw [o6 .wb (by decide) (by decide) (by decide) (by decide), wb5]
      exact wb1 j (by omega)
    · rw [o6 .xb (by decide) (by decide) (by decide) (by decide), hp.xb]
    · rw [o6 .xsb (by decide) (by decide) (by decide) (by decide), hp.xsb]
    · funext j
      rw [hP.ss j, if_neg (by omega)]
      rfl
    · funext j
      rw [hP.mx j, if_neg (by omega)]
      rfl
    · by_cases hj' : 2048 * c ≤ (j 1).val
      · exact hP.hbOn j hj' (by omega) (by unfold Done; omega)
      · exact (hP.hbOff j (by omega)).trans ((congrFun hb5 j).trans (hI.new j h32 (by omega)))
    · exact (hP.hbOff j (by omega)).trans ((congrFun hb5 j).trans (hI.old j h1 (by omega)))
    · rw [o6 .rs (by decide) (by decide) (by decide) (by decide), rs5]; exact (st2 h1).1
    · rw [o6 .inv (by decide) (by decide) (by decide) (by decide), inv5]; exact (st2 h1).2
    · rw [o6 b (by rcases hb with rfl | rfl | rfl | rfl | rfl | rfl <;> decide) (by rcases hb with rfl | rfl | rfl | rfl | rfl | rfl <;> decide)
        (by rcases hb with rfl | rfl | rfl | rfl | rfl | rfl <;> decide) (by rcases hb with rfl | rfl | rfl | rfl | rfl | rfl <;> decide), i5 b hb]
    · exact hP.hOn j (by have := lt1 j; unfold Done; omega)
    · rw [o6 .q (by decide) (by decide) (by decide) (by decide), q5 h1]
    · rw [o6 .q (by decide) (by decide) (by decide) (by decide), q5' h1, q04]
    · rw [o6 .ns (by decide) (by decide) (by decide) (by decide), ns05, ns2 h0 h1]
    · rw [o6 .ns (by decide) (by decide) (by decide) (by decide), ns05, ns2' h, ns01]
  · rw [if_neg h32]
    have h1 : 1 ≤ i := by omega
    refine ⟨⟨fun j hj => ?_, fun _ h => absurd h h32, fun _ h => absurd h h32, fun _ h => absurd h h32, fun _ h => absurd h h32, fun j h hj => absurd h h32,
      fun j h1 hj => ?_, fun h => by omega, fun h => by omega, fun _ h1 => ?_, fun _ h1 => ?_⟩, i5, fun h => absurd h h32, fun _ => h05, fun h1 j => q5 h1 j, fun h => absurd h1 h,
      fun h0 h1 => ?_, fun h => ?_⟩
    · rw [wb5]; exact wb1 j (.inr h1)
    · rw [hb5]; exact hI.old j h1 (by omega)
    · rw [rs5]; exact (st2 h1).1
    · rw [inv5]; exact (st2 h1).2
    · rw [ns05, ns2 h0 h1]
    · rw [ns05, ns2' h, ns01]

end Cert.Fused
-- ==== Proof.DataKernel.lean ====
/- What every buffer of the program's pipeline holds, point by point: the operand arrays as one
   record, the blocks of the three results, the scratch contents between points. -/
module

public import proofs.«01_k».proof.Proof.SchedKernel
public import proofs.«01_k».proof.Proof.Step

@[expose] public section

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Fused

variable {F : FTy → Type} [FloatOps F] (m : (ℓ : Loc nD τ sig) → Buf (Elt F) ℓ) (ρ : Dev nD → PrngReg)

local notation "𝕄" => MT nD τ sig Unit (Elt F) ℕ (UR sig nD τ) ℕ

/-- The six operands as the pipeline finds them. -/
def inOf (c : Dev nD) : In F where
  X := V m c main_v0
  XS := V m c main_v1
  W := V m c main_arg2
  WS := V m c main_v4
  R := V m c main_v5
  G := V m c main_v7

/-- The block of the first result at point `t`, -/
def hBlk (c : Dev nD) (t : ℕ) : FVec F ⟨2, ![256, 2048]⟩ .bf16 := fun j =>
  hT (inOf m c) (min (t / 8) 31) (at2 256 16384 (j 0).val (2048 * (if t / 8 < 32 then t % 8 else 7) + (j 1).val))

/-- of the second, -/
def qBlk (c : Dev nD) (t : ℕ) : FVec F ⟨2, ![256, 2048]⟩ .fp8e4m3 := fun j =>
  qT (inOf m c) (t / 8 - 1) (at2 256 16384 (j 0).val (2048 * (if 1 ≤ t / 8 then t % 8 else 0) + (j 1).val))

/-- and of the third. -/
def nsBlk (c : Dev nD) (t : ℕ) : FVec F ⟨3, ![1, 2, 128]⟩ .f32 := nsT (inOf m c) (t / 8 - 1)

/-- The eight scratch arrays, at contents `σ`. -/
def scratch (c : Dev nD) (σ : St F) : sProp 𝕄 :=
  iprop(owns (c : Thread nD τ) (Memref.whole cc0_scratch0) fullShare (σ .wb)
    ∗ owns (c : Thread nD τ) (Memref.whole cc0_scratch1) fullShare (σ .hbuf)
    ∗ owns (c : Thread nD τ) (Memref.whole cc0_scratch2) fullShare (σ .xb)
    ∗ owns (c : Thread nD τ) (Memref.whole cc0_scratch3) fullShare (σ .xsb)
    ∗ owns (c : Thread nD τ) (Memref.whole cc0_scratch4) fullShare (σ .ss)
    ∗ owns (c : Thread nD τ) (Memref.whole cc0_scratch5) fullShare (σ .mx)
    ∗ owns (c : Thread nD τ) (Memref.whole cc0_scratch6) fullShare (σ .rs)
    ∗ owns (c : Thread nD τ) (Memref.whole cc0_scratch7) fullShare (σ .inv))

/-- What holds before point `t`. -/
def inv (c : Dev nD) (t : ℕ) : sProp 𝕄 :=
  iprop((∃ σ : St F, ⌜t < 264 → Inv (inOf m c) (t / 8) (t % 8) σ⌝ ∗ scratch c σ) ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlk m c t.val
    | ⟨7, _⟩ => qBlk m c t.val
    | ⟨8, _⟩ => nsBlk m c t.val
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hBlk m c t.val := by dsimp only [dats]
theorem after7 (c : Dev nD) (t : Fin cfg0.N) : (dats m 0 c).after 7 t = qBlk m c t.val := by dsimp only [dats]
theorem after8 (c : Dev nD) (t : Fin cfg0.N) : (dats m 0 c).after 8 t = nsBlk m c t.val := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-- What a live point leaves is found next. -/
theorem kept6 (c : Dev nD) (t : Fin cfg0.N) (d) : (dats m 0 c).kept 6 t d = hBlk m c t.val := by
  unfold Dat.kept; rw [after6]; rfl
theorem kept8 (c : Dev nD) (t : Fin cfg0.N) (d) : (dats m 0 c).kept 8 t d = nsBlk m c t.val := by
  unfold Dat.kept; rw [after8]; rfl

/-- From the last row's start on the first result's buffer holds the last block. -/
theorem before6 (c : Dev nD) (n : ℕ) : ∀ (t : Fin cfg0.N) (d), t.val = 256 + n → (dats m 0 c).before 6 t d = hBlk m c t.val := by
  induction n with
  | zero =>
    intro t d ht
    rw [Dat.before_of_pos _ _ _ (by omega) (fetch6 t), flush6, if_neg (by simp; omega)]
    unfold Dat.left
    rw [show cfg0.idle 6 (cfg0.grid.coords ⟨t.val - 1, Nat.lt_of_le_of_lt (Nat.sub_le _ _) t.isLt⟩) = false from (idle6 _).trans (by simp; omega)]
    dsimp only
    rw [kept6]
    unfold hBlk
    dsimp only
    rw [if_pos (by omega), if_neg (by omega), show min ((t.val - 1) / 8) 31 = 31 by omega, show min (t.val / 8) 31 = 31 by omega, show (t.val - 1) % 8 = 7 by omega]
  | succ n ih =>
    intro t d ht
    have hN : t.val < 264 := t.isLt
    rw [Dat.before_of_pos _ _ _ (by omega) (fetch6 t), flush6, if_neg (by simp; omega)]
    unfold Dat.left
    rw [show cfg0.idle 6 (cfg0.grid.coords ⟨t.val - 1, Nat.lt_of_le_of_lt (Nat.sub_le _ _) t.isLt⟩) = true from (idle6 _).trans (by simp; omega)]
    dsimp only
    rw [ih _ _ (by dsimp only; omega)]
    unfold hBlk
    dsimp only
    rw [if_neg (by omega), if_neg (by omega), show min ((t.val - 1) / 8) 31 = 31 by omega, show min (t.val / 8) 31 = 31 by omega]

/-- After a row's first point the third result's buffer holds the block of the row before. -/
theorem before8 (c : Dev nD) (n : ℕ) : ∀ (t : Fin cfg0.N) (d), t.val % 8 = n + 1 → 1 ≤ t.val / 8 → (dats m 0 c).before 8 t d = nsBlk m c t.val := by
  induction n with
  | zero =>
    intro t d ht h1
    rw [Dat.before_of_pos _ _ _ (by omega) (fetch8 t), flush8, if_neg (by simp; omega)]
    unfold Dat.left
    rw [show cfg0.idle 8 (cfg0.grid.coords ⟨t.val - 1, Nat.lt_of_le_of_lt (Nat.sub_le _ _) t.isLt⟩) = false from (idle8 _).trans (by simp; omega)]
    dsimp only
    rw [kept8]
    unfold nsBlk
    dsimp only
    rw [show (t.val - 1) / 8 = t.val / 8 by omega]
  | succ n ih =>
    intro t d ht h1
    rw [Dat.before_of_pos _ _ _ (by omega) (fetch8 t), flush8, if_neg (by simp; omega)]
    unfold Dat.left
    rw [show cfg0.idle 8 (cfg0.grid.coords ⟨t.val - 1, Nat.lt_of_le_of_lt (Nat.sub_le _ _) t.isLt⟩) = true from (idle8 _).trans (by simp; omega)]
    dsimp only
    rw [ih _ _ (by dsimp only; omega) (by dsimp only; omega)]
    unfold nsBlk
    dsimp only
    rw [show (t.val - 1) / 8 = t.val / 8 by omega]

/-- The input blocks are the operands' blocks. -/
theorem blk0 (c : Dev nD) (t : Fin cfg0.N) (j : S256x1152.Idx) :
    iblk m c 0 t j = (inOf m c).X (at2 8192 1152 (256 * min (t.val / 8) 31 + (j 0).val) (j 1).val) := by
  have h0 := lt0 j; have h1 := lt1 j
  refine congrArg (V m c main_v0) (ext2 ?_ ?_)
  · rw [at2_0]; blk_simp [index0]; omega
  · rw [at2_1]; blk_simp [index0]; omega

theorem blk1 (c : Dev nD) (t : Fin cfg0.N) (j : S1x2x128.Idx) :
    iblk m c 1 t j = (inOf m c).XS (at3 32 2 128 (min (t.val / 8) 31) (j 1).val (j 2).val) := by
  have h0 := lt3_0 j; have h1 := lt3_1 j; have h2 := lt3_2 j
  refine congrArg (V m c main_v1) (ext3 ?_ ?_ ?_)
  · rw [at3_0]; blk_simp [index1]; omega
  · rw [at3_1]; blk_simp [index1]; omega
  · rw [at3_2]; blk_simp [index1]; omega

theorem blk2 (c : Dev nD) (t : Fin cfg0.N) (j : S1152x2048.Idx) :
    iblk m c 2 t j = (inOf m c).W (at2 1152 16384 (j 0).val (2048 * (if t.val / 8 = 0 then t.val % 8 else 7) + (j 1).val)) := by
  have h0 := lt0 j; have h1 := lt1 j
  refine congrArg (V m c main_arg2) (ext2 ?_ ?_)
  · rw [at2_0]; blk_simp [index2]; omega
  · rw [at2_1]; blk_simp [index2]; split <;> omega

theorem blk3 (c : Dev nD) (t : Fin cfg0.N) (j : S1x9x2048.Idx) :
    iblk m c 3 t j = (inOf m c).WS (at3 1 9 16384 0 (j 1).val (2048 * (if t.val / 8 = 0 then t.val % 8 else 7) + (j 2).val)) := by
  have h0 := lt3_0 j; have h1 := lt3_1 j; have h2 := lt3_2 j
  refine congrArg (V m c main_v4) (ext3 ?_ ?_ ?_)
  · rw [at3_0]; blk_simp [index3]
  · rw [at3_1]; blk_simp [index3]; omega
  · rw [at3_2]; blk_simp [index3]; split <;> omega

theorem blk4 (c : Dev nD) (t : Fin cfg0.N) (j : S256x2048.Idx) :
    iblk m c 4 t j = (inOf m c).R (at2 8192 16384 (256 * min (t.val / 8) 31 + (j 0).val) (2048 * (if t.val / 8 < 32 then t.val % 8 else 7) + (j 1).val)) := by
  have h0 := lt0 j; have h1 := lt1 j
  refine congrArg (V m c main_v5) (ext2 ?_ ?_)
  · rw [at2_0]; blk_simp [index4]; omega
  · rw [at2_1]; blk_simp [index4]; split <;> omega

theorem blk5 (c : Dev nD) (t : Fin cfg0.N) (j : S1x2048.Idx) :
    iblk m c 5 t j = (inOf m c).G (at2 1 16384 0 (2048 * (t.val % 8) + (j 1).val)) := by
  have h0 := lt0 j; have h1 := lt1 j
  refine congrArg (V m c main_v7) (ext2 ?_ ?_)
  · rw [at2_0]; blk_simp [index5]
  · rw [at2_1]; blk_simp [index5]; omega

/-- The input buffers at point `t`. -/
theorem staged (c : Dev nD) (t : Fin cfg0.N) {σ : St F} (h0 : σ .x = iblk m c 0 t) (h1 : σ .xs = iblk m c 1 t)
    (h2 : σ .w = iblk m c 2 t) (h3 : σ .ws = iblk m c 3 t) (h4 : σ .res = iblk m c 4 t) (h5 : σ .g = iblk m c 5 t) :
    Stage (inOf m c) (t.val / 8) (t.val % 8) σ where
  x h j := (congrFun h0 j).trans ((blk0 m c t j).trans (by rw [Nat.min_eq_left (by omega)]))
  xs h j := (congrFun h1 j).trans ((blk1 m c t j).trans (by rw [Nat.min_eq_left (by omega)]))
  w h j := (congrFun h2 j).trans ((blk2 m c t j).trans (by rw [if_pos h]))
  ws h j := (congrFun h3 j).trans ((blk3 m c t j).trans (by rw [if_pos h]))
  res h j := (congrFun h4 j).trans ((blk4 m c t j).trans (by rw [Nat.min_eq_left (by omega), if_pos h]))
  g j := (congrFun h5 j).trans (blk5 m c t j)

end Cert.Kernel.Own

end
-- ==== Proof.FrameKernel.lean ====
/- The program's body at a grid point, the run of the whole program and its frame. -/
module

public import proofs.«01_k».proof.Proof.DataKernel

@[expose] public section

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Fused

variable {F : FTy → Type} [FloatOps F] (m : (ℓ : Loc nD τ sig) → Buf (Elt F) ℓ) (ρ : Dev nD → PrngReg)

local notation "𝕄" => MT nD τ sig Unit (Elt F) ℕ (UR sig nD τ) ℕ

/-- The body's seventeen buffers at point `t`. -/
def bufs (t : Fin cfg0.N) : Bufs sig
  | .x => st0_0 t | .xs => st0_1 t | .w => st0_2 t | .ws => st0_3 t | .res => st0_4 t | .g => st0_5 t
  | .h => st0_6 t | .q => st0_7 t | .ns => st0_8 t
  | .wb => Memref.whole cc0_scratch0 | .hbuf => Memref.whole cc0_scratch1 | .xb => Memref.whole cc0_scratch2
  | .xsb => Memref.whole cc0_scratch3 | .ss => Memref.whole cc0_scratch4 | .mx => Memref.whole cc0_scratch5
  | .rs => Memref.whole cc0_scratch6 | .inv => Memref.whole cc0_scratch7

theorem bufs_whole (t : Fin cfg0.N) : ∀ b, (bufs t b).IsWhole
  | .x => hstage0_0 ((cfg0.slots t 0).cast nbuf0_0) | .xs => hstage0_1 ((cfg0.slots t 1).cast nbuf0_1)
  | .w => hstage0_2 ((cfg0.slots t 2).cast nbuf0_2) | .ws => hstage0_3 ((cfg0.slots t 3).cast nbuf0_3)
  | .res => hstage0_4 ((cfg0.slots t 4).cast nbuf0_4) | .g => hstage0_5 ((cfg0.slots t 5).cast nbuf0_5)
  | .h => hstage0_6 ((cfg0.slots t 6).cast nbuf0_6) | .q => hstage0_7 ((cfg0.slots t 7).cast nbuf0_7)
  | .ns => hstage0_8 ((cfg0.slots t 8).cast nbuf0_8)
  | .wb => Memref.isWhole_whole _ | .hbuf => Memref.isWhole_whole _ | .xb => Memref.isWhole_whole _
  | .xsb => Memref.isWhole_whole _ | .ss => Memref.isWhole_whole _ | .mx => Memref.isWhole_whole _
  | .rs => Memref.isWhole_whole _ | .inv => Memref.isWhole_whole _

/-- Its contents before the body: the windows' buffers as handed over, the scratch arrays' `σ`. -/
def handed (X0 : St F) (σ : St F) : St F
  | .wb => σ .wb | .hbuf => σ .hbuf | .xb => σ .xb | .xsb => σ .xsb
  | .ss => σ .ss | .mx => σ .mx | .rs => σ .rs | .inv => σ .inv
  | b => X0 b

theorem body_eq (t : Fin cfg0.N) :
    (bodyAt0 t : Prog (TpuEff nD τ sig (Elt F) Λ₀ .tc) PUnit)
      = body (bufs t) (bufs_whole t) (grid0.coords t 0).val (grid0.coords t 1).val (grid0.coords t 1).isLt :=
  printed (grid0.coords t) (bufs t) (bufs_whole t)

/-- The seventeen buffers, one by one. -/
theorem own_list (A : Bufs sig) (c : Dev nD) (σ : St F) :
    own A c σ = iprop(owns (c : Thread nD τ) (A .x) fullShare (σ .x) ∗ owns (c : Thread nD τ) (A .xs) fullShare (σ .xs)
      ∗ owns (c : Thread nD τ) (A .w) fullShare (σ .w) ∗ owns (c : Thread nD τ) (A .ws) fullShare (σ .ws)
      ∗ owns (c : Thread nD τ) (A .res) fullShare (σ .res) ∗ owns (c : Thread nD τ) (A .g) fullShare (σ .g)
      ∗ owns (c : Thread nD τ) (A .h) fullShare (σ .h) ∗ owns (c : Thread nD τ) (A .q) fullShare (σ .q)
      ∗ owns (c : Thread nD τ) (A .ns) fullShare (σ .ns) ∗ owns (c : Thread nD τ) (A .wb) fullShare (σ .wb)
      ∗ owns (c : Thread nD τ) (A .hbuf) fullShare (σ .hbuf) ∗ owns (c : Thread nD τ) (A .xb) fullShare (σ .xb)
      ∗ owns (c : Thread nD τ) (A .xsb) fullShare (σ .xsb) ∗ owns (c : Thread nD τ) (A .ss) fullShare (σ .ss)
      ∗ owns (c : Thread nD τ) (A .mx) fullShare (σ .mx) ∗ owns (c : Thread nD τ) (A .rs) fullShare (σ .rs)
      ∗ owns (c : Thread nD τ) (A .inv) fullShare (σ .inv)) :=
  bigSep_univ_eq_bigSepL Slot.all (by decide) (by decide) _

/-- The scratch contents' invariant does not see the windows' buffers. -/
theorem inv_handed {I : In F} {i c : ℕ} {σ : St F} (h : Inv I i c σ) (X0 : St F) : Inv I i c (handed X0 σ) where
  wb := h.wb
  xb := h.xb
  xsb := h.xsb
  ss := h.ss
  mx := h.mx
  new := h.new
  old := h.old
  ss' := h.ss'
  mx' := h.mx'
  rs := h.rs
  inv := h.inv

/-- The invariant moves on to the next point. -/
theorem inv_succ {I : In F} {t : ℕ} {σ : St F} (h : Inv I (t / 8) (t % 8 + 1) σ) : t + 1 < 264 → Inv I ((t + 1) / 8) ((t + 1) % 8) σ := by
  intro ht
  by_cases hc : t % 8 = 7
  · rw [hc] at h
    have := Inv.next h (by omega)
    rwa [show (t + 1) / 8 = t / 8 + 1 by omega, show (t + 1) % 8 = 0 by omega]
  · rwa [show (t + 1) / 8 = t / 8 by omega, show (t + 1) % 8 = t % 8 + 1 by omega]

/-- The body's triple at point `t`: what the nine windows' buffers and the scratch arrays hold after it. -/
theorem body_triple (c : Dev nD) (t : Fin cfg0.N) (X0 : St F) (Q : PUnit → sProp 𝕄)
    (h0 : X0 .x = iblk m c 0 t) (h1 : X0 .xs = iblk m c 1 t)
    (h2 : X0 .w = iblk m c 2 t) (h3 : X0 .ws = iblk m c 3 t) (h4 : X0 .res = iblk m c 4 t) (h5 : X0 .g = iblk m c 5 t)
    (σ : St F) (hσ : Inv (inOf m c) (t.val / 8) (t.val % 8) σ) :
    iprop(own (bufs t) c (handed X0 σ)
        ∗ (∀ σ' : St F, ⌜Stepped (inOf m c) (t.val / 8) (t.val % 8) (handed X0 σ) σ'⌝ -∗ own (bufs t) c σ' -∗ Q ⟨⟩))
      ⊢ wp frame (wpE (defs₀ (F := F)) Variants.none (c : Thread nD τ) none) Set.univ (bodyAt0 t) Q := by
  rw [body_eq t]
  have hst : Stepped (inOf m c) (t.val / 8) (t.val % 8) (handed X0 σ)
      (bodyD (grid0.coords t 1).val (grid0.coords t 1).isLt (grid0.coords t 0).val (handed X0 σ)) := by
    have hs := staged m c t (σ := handed X0 σ) h0 h1 h2 h3 h4 h5
    have hi := inv_handed hσ X0
    have e0 := coords0 t
    have e1 := coords1 t
    rw [← e0, ← e1] at hs hi ⊢
    exact stepped (grid0.coords t 1).isLt (grid0.coords t 0).isLt hs hi
  iintro ⟨H, K⟩
  iapply (runs_body (grid0.coords t 1).val (grid0.coords t 1).isLt (grid0.coords t 0).val (handed X0 σ) c Q)
  isplitl [H]
  · iexact H
  iintro H
  iapply K
  · ipureintro; exact hst
  iexact H

end Cert.Kernel.Own

end
-- ==== Proof.RunKernel.lean ====
/- The program's body obligation, its run and its frame. -/
module

public import proofs.«01_k».proof.Proof.FrameKernel

@[expose] public section

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Fused

variable {F : FTy → Type} [FloatOps F] (m : (ℓ : Loc nD τ sig) → Buf (Elt F) ℓ) (ρ : Dev nD → PrngReg)

local notation "𝕄" => MT nD τ sig Unit (Elt F) ℕ (UR sig nD τ) ℕ

/-- A window's buffer as the body must hand it back. -/
def handsBack (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- It does, if it holds the stated block where the point is live or writes back, and otherwise what it held. -/
theorem handsBack_of (c : Dev nD) (w : Fin cfg0.W) (t : Fin cfg0.N) (X : (cfg0.win w).block.Idx → Elt F (cfg0.win w).elt)
    (h1 : cfg0.idle w (cfg0.grid.coords t) = false → X = (dats m 0 c).after w t)
    (h2 : cfg0.idle w (cfg0.grid.coords t) = true → (cfg0.win w).flush t = false → ∃ d, X = (dats m 0 c).before w t d)
    (h3 : cfg0.idle w (cfg0.grid.coords t) = true → (cfg0.win w).flush t = true → X = (dats m 0 c).after w t) :
    (owns (c : Thread nD τ) ((cfg0.win w).stage (cfg0.slots t w)) fullShare X : sProp 𝕄) ⊢ handsBack m c w t := by
  unfold handsBack
  cases hi : cfg0.idle w (cfg0.grid.coords t)
  · rw [h1 hi]
  · cases hf : (cfg0.win w).flush t
    · obtain ⟨d, rfl⟩ := h2 hi hf
      dsimp only
      iintro H
      iexists d
      iexact H
    · rw [h3 hi hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ handsBack m c 6 t ∗ handsBack m c 7 t ∗ handsBack m c 8 t)

variable {m}

/-- The windows' buffers as contents of the seventeen. -/
def windowsOf (X0 : FVec F S256x1152 .fp8e4m3) (X1 : FVec F S1x2x128 .f32) (X2 : FVec F S1152x2048 .fp8e4m3) (X3 : FVec F S1x9x2048 .f32)
    (X4 : FVec F S256x2048 .bf16) (X5 : FVec F S1x2048 .f32) (X6 : FVec F S256x2048 .bf16) (X7 : FVec F S256x2048 .fp8e4m3)
    (X8 : FVec F S1x2x128 .f32) (σ : St F) : St F
  | .x => X0 | .xs => X1 | .w => X2 | .ws => X3 | .res => X4 | .g => X5 | .h => X6 | .q => X7 | .ns => X8
  | b => σ b

/-- The outputs' buffers after the body. -/
theorem back6 {c : Dev nD} {t : Fin cfg0.N} {σ σ' : St F} {d}
    (hs : Stepped (inOf m c) (t.val / 8) (t.val % 8) σ σ') (hσ : σ .h = (dats m 0 c).before 6 t d) :
    (owns (c : Thread nD τ) (st0_6 t) fullShare (σ' .h) : sProp 𝕄) ⊢ handsBack m c 6 t := by
  refine handsBack_of m c 6 t (σ' .h) (fun h => ?_) (fun h hf => ?_) (fun h hf => ?_)
  · have hi : t.val / 8 < 32 := by have := (idle6 t).symm.trans h; simpa using this
    rw [after6]
    funext j
    refine (hs.h hi j).trans ?_
    unfold hBlk
    rw [Nat.min_eq_left (by omega), if_pos hi]
  · have hi : ¬ t.val / 8 < 32 := by have := (idle6 t).symm.trans h; simpa using this
    exact ⟨d, (hs.h' hi).trans hσ⟩
  · have hi : ¬ t.val / 8 < 32 := by have := (idle6 t).symm.trans h; simpa using this
    rw [after6]
    exact (hs.h' hi).trans (hσ.trans (before6 m c (t.val - 256) t d (by omega)))

theorem back7 {c : Dev nD} {t : Fin cfg0.N} {σ σ' : St F} {d}
    (hs : Stepped (inOf m c) (t.val / 8) (t.val % 8) σ σ') (hσ : σ .q = (dats m 0 c).before 7 t d) :
    (owns (c : Thread nD τ) (st0_7 t) fullShare (σ' .q) : sProp 𝕄) ⊢ handsBack m c 7 t := by
  refine handsBack_of m c 7 t (σ' .q) (fun h => ?_) (fun h hf => ?_) (fun h hf => ?_)
  · have hi : 1 ≤ t.val / 8 := by have := (idle7 t).symm.trans h; simpa using this
    rw [after7]
    funext j
    refine (hs.q hi j).trans ?_
    unfold qBlk
    rw [if_pos hi]
  · have hi : ¬ 1 ≤ t.val / 8 := by have := (idle7 t).symm.trans h; simpa using this
    exact ⟨d, (hs.q' hi).trans hσ⟩
  · have hi : ¬ 1 ≤ t.val / 8 := by have := (idle7 t).symm.trans h; simpa using this
    rw [flush7] at hf
    exact absurd (of_decide_eq_true hf) hi

theorem back8 {c : Dev nD} {t : Fin cfg0.N} {σ σ' : St F} {d}
    (hs : Stepped (inOf m c) (t.val / 8) (t.val % 8) σ σ') (hσ : σ .ns = (dats m 0 c).before 8 t d) :
    (owns (c : Thread nD τ) (st0_8 t) fullShare (σ' .ns) : sProp 𝕄) ⊢ handsBack m c 8 t := by
  refine handsBack_of m c 8 t (σ' .ns) (fun h => ?_) (fun h hf => ?_) (fun h hf => ?_)
  · have hi : t.val % 8 = 0 ∧ 1 ≤ t.val / 8 := by
      have := (idle8 t).symm.trans h
      simpa using this
    rw [after8]
    exact hs.ns hi.1 hi.2
  · have hi : ¬ (t.val % 8 = 0 ∧ 1 ≤ t.val / 8) := by
      have := (idle8 t).symm.trans h
      exact of_decide_eq_false (by simpa only [Bool.not_eq_eq_eq_not, Bool.not_true] using this)
    exact ⟨d, (hs.ns' hi).trans hσ⟩
  · have hi : ¬ (t.val % 8 = 0 ∧ 1 ≤ t.val / 8) := by
      have := (idle8 t).symm.trans h
      exact of_decide_eq_false (by simpa only [Bool.not_eq_eq_eq_not, Bool.not_true] using this)
    rw [flush8] at hf
    have hf' := of_decide_eq_true hf
    rw [after8]
    exact (hs.ns' hi).trans (hσ.trans (before8 m c 6 t d (by omega) hf'.2))

/-- An input's buffer is left as it was. -/
theorem input_eq {c : Dev nD} {t : Fin cfg0.N} {σ σ' : St F} (hs : Stepped (inOf m c) (t.val / 8) (t.val % 8) σ σ') (b : Slot)
    (hb : b = .x ∨ b = .xs ∨ b = .w ∨ b = .ws ∨ b = .res ∨ b = .g) : σ' b = σ b := hs.input b hb

variable (m)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).Φ t.castSucc = inv m c t.val from rfl, show (dats m 0 c).Φ t.succ = inv m c (t.val + 1) from rfl,
    show (dats m 0 c).owesAt () t.succ = (dats m 0 c).owesAt () t.castSucc from rfl,
    after0, after1, after2, after3, after4, after5]
  unfold inv scratch
  iintro ⟨⟨⟨%σ, %hσ, S0, S1, S2, S3, S4, S5, S6, S7⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple m c t (windowsOf (iblk m c 0 t) (iblk m c 1 t) (iblk m c 2 t) (iblk m c 3 t) (iblk m c 4 t) (iblk m c 5 t)
    ((dats m 0 c).before 6 t d6) ((dats m 0 c).before 7 t d7) ((dats m 0 c).before 8 t d8) σ) _ rfl rfl rfl rfl rfl rfl σ (hσ t.isLt))
  isplitl [H0 H1 H2 H3 H4 H5 H6 H7 H8 S0 S1 S2 S3 S4 S5 S6 S7]
  · rw [own_list]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %σ' %hs
  rw [own_list, hs.input .x (by decide), hs.input .xs (by decide), hs.input .w (by decide), hs.input .ws (by decide),
    hs.input .res (by decide), hs.input .g (by decide)]
  iintro ⟨H0, H1, H2, H3, H4, H5, H6, H7, H8, S0, S1, S2, S3, S4, S5, S6, S7⟩
  isplitl [HP S0 S1 S2 S3 S4 S5 S6 S7]
  · isplitl [S0 S1 S2 S3 S4 S5 S6 S7]
    · iexists σ'
      isplitr
      · ipureintro; exact inv_succ hs.inv
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (back6 hs (d := d6) rfl); iexact H6
  isplitl [H7]
  · iapply (back7 hs (d := d7) rfl); iexact H7
  iapply (back8 hs (d := d8) rfl); iexact H8

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch arrays hold anything, -/
theorem inv_in (c : Dev nD) : (Pipeline.ΦA spec0 c : sProp 𝕄) ⊢ inv m c 0 := by
  unfold Pipeline.ΦA inv scratch
  rw [scopedRest0_eq c]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩⟩, HP⟩
  isplitr [HP]
  · iexists (fun b => match b with
      | .wb => f0 | .hbuf => f1 | .xb => f2 | .xsb => f3 | .ss => f4 | .mx => f5 | .rs => f6 | .inv => f7
      | .x => fun _ => Scalar.ofBits _ 0 | .xs => fun _ => Scalar.ofBits _ 0 | .w => fun _ => Scalar.ofBits _ 0
      | .ws => fun _ => Scalar.ofBits _ 0 | .res => fun _ => Scalar.ofBits _ 0 | .g => fun _ => Scalar.ofBits _ 0
      | .h => fun _ => Scalar.ofBits _ 0 | .q => fun _ => Scalar.ofBits _ 0 | .ns => fun _ => Scalar.ofBits _ 0 : St F)
    isplitr
    · ipureintro; exact fun _ => Inv.start _
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iexact HP

/-- and at the end what they hold is forgotten. -/
theorem inv_out (c : Dev nD) (t : ℕ) : inv m c t ⊢ (Pipeline.ΦA spec0 c : sProp 𝕄) := by
  unfold Pipeline.ΦA inv scratch
  rw [scopedRest0_eq c]
  simp only [owns_whole]
  iintro ⟨⟨%σ, -, S0, S1, S2, S3, S4, S5, S6, S7⟩, HP⟩
  isplitr [HP]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  · iexact HP

set_option backward.isDefEq.respectTransparency.types false in
set_option maxHeartbeats 800000 in
/-- Every run ends, with every array at what the proof data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run : θ_run defs (onTc (τ := τ) (main (F := F))) (s₀ m ρ) (Pipeline.FramePost cfgs (dats m) 0 (V m)) :=
  (θ_run defs _ _).mono (fun _ h => h.1) (run_quiescent m ρ)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run m ρ)) ((θ_run defs _ _).mono (fun _ h => h.2) (run_quiescent m ρ))

end Cert.Kernel.Own

end
-- ==== Proof.PrintedIdeal.lean ====
/- The idealized program's printed body is the looped one. -/
module

public import proofs.«01_k».proof.Proof.Prog
public import proofs.«01_k».proof.Proof.Gen.KernelIdeal.Frame

@[expose] public section

noncomputable section

namespace Cert.KernelIdeal.Own

open Idealize.ShloMosaic Idealize.SL.Sem Cert.Fused

variable {F : FTy → Type} [FloatOps F]

set_option maxRecDepth 100000 in
theorem printed (i : grid0.Coords) (A : Bufs sig) (hA : ∀ b, (A b).IsWhole) :
    (cc0_fused_proj_norm_quant i (A .x) (hA _) (A .xs) (hA _) (A .w) (hA _) (A .ws) (hA _) (A .res) (hA _) (A .g) (hA _)
      (A .h) (hA _) (A .q) (hA _) (A .ns) (hA _) (A .wb) (hA _) (A .hbuf) (hA _) (A .xb) (hA _) (A .xsb) (hA _)
      (A .ss) (hA _) (A .mx) (hA _) (A .rs) (hA _) (A .inv) (hA _) : Prog (TpuEff nD τ sig (Elt F) Λ₀ .tc) PUnit)
    = body A hA (i 0).val (i 1).val (i 1).isLt := by
  chain_rfl

end Cert.KernelIdeal.Own
-- ==== Proof.SchedIdeal.lean ====
/- The schedule of the idealized program's grid of 33 rows of 8 points: the coordinates of a point, the block
   each window is on, the points at which the outputs are written back or left alone. -/
module

public import proofs.«01_k».proof.Proof.PrintedIdeal
public import Idealize.ShloMosaic.Lib.Pipeline.ValueKit.Geometry

@[expose] public section

noncomputable section

namespace Cert.KernelIdeal.Own

open Idealize.ShloMosaic Idealize.SL.Sem Cert.KernelIdeal.Gen

/-- The coordinates of point `t`. -/
theorem coords0 : ∀ t : Fin cfg0.N, (grid0.coords t 0).val = t.val / 8 := (by decide +kernel : ∀ t : Fin grid0.N, _)
theorem coords1 : ∀ t : Fin cfg0.N, (grid0.coords t 1).val = t.val % 8 := (by decide +kernel : ∀ t : Fin grid0.N, _)

/-- The block each window is on at point `t`. -/
theorem index0 : ∀ t : Fin cfg0.N, win0_0.index t = ![min (t.val / 8) 31, 0] := (by decide +kernel : ∀ t : Fin grid0.N, _)
theorem index1 : ∀ t : Fin cfg0.N, win0_1.index t = ![min (t.val / 8) 31, 0, 0] := (by decide +kernel : ∀ t : Fin grid0.N, _)
theorem index2 : ∀ t : Fin cfg0.N, win0_2.index t = ![0, if t.val / 8 = 0 then t.val % 8 else 7] := (by decide +kernel : ∀ t : Fin grid0.N, _)
theorem index3 : ∀ t : Fin cfg0.N, win0_3.index t = ![0, 0, if t.val / 8 = 0 then t.val % 8 else 7] := (by decide +kernel : ∀ t : Fin grid0.N, _)
theorem index4 : ∀ t : Fin cfg0.N, win0_4.index t = ![min (t.val / 8) 31, if t.val / 8 < 32 then t.val % 8 else 7] := (by decide +kernel : ∀ t : Fin grid0.N, _)
theorem index5 : ∀ t : Fin cfg0.N, win0_5.index t = ![0, t.val % 8] := (by decide +kernel : ∀ t : Fin grid0.N, _)
theorem index6 : ∀ t : Fin cfg0.N, win0_6.index t = ![min (t.val / 8) 31, if t.val / 8 < 32 then t.val % 8 else 7] := (by decide +kernel : ∀ t : Fin grid0.N, _)
theorem index7 : ∀ t : Fin cfg0.N, win0_7.index t = ![t.val / 8 - 1, if 1 ≤ t.val / 8 then t.val % 8 else 0] := (by decide +kernel : ∀ t : Fin grid0.N, _)
theorem index8 : ∀ t : Fin cfg0.N, win0_8.index t = ![t.val / 8 - 1, 0, 0] := (by decide +kernel : ∀ t : Fin grid0.N, _)

/-- The points at which the body leaves an output alone, -/
theorem idle6 : ∀ t : Fin cfg0.N, cfg0.idle 6 (grid0.coords t) = !decide (t.val / 8 < 32) := (by decide +kernel : ∀ t : Fin grid0.N, _)
theorem idle7 : ∀ t : Fin cfg0.N, cfg0.idle 7 (grid0.coords t) = !decide (1 ≤ t.val / 8) := (by decide +kernel : ∀ t : Fin grid0.N, _)
theorem idle8 : ∀ t : Fin cfg0.N, cfg0.idle 8 (grid0.coords t) = !decide (t.val % 8 = 0 ∧ 1 ≤ t.val / 8) := (by decide +kernel : ∀ t : Fin grid0.N, _)

/-- and those after which it is written back. -/
theorem flush6 : ∀ t : Fin cfg0.N, (cfg0.win 6).flush t = decide (t.val < 255 ∨ t.val = 263) := (by decide +kernel : ∀ t : Fin grid0.N, _)
theorem flush7 : ∀ t : Fin cfg0.N, (cfg0.win 7).flush t = decide (1 ≤ t.val / 8) := (by decide +kernel : ∀ t : Fin grid0.N, _)
theorem flush8 : ∀ t : Fin cfg0.N, (cfg0.win 8).flush t = decide (t.val % 8 = 7 ∧ 1 ≤ t.val / 8) := (by decide +kernel : ∀ t : Fin grid0.N, _)

theorem fetch6 (t : Fin cfg0.N) : (cfg0.win 6).fetch t = false := rfl
theorem fetch7 (t : Fin cfg0.N) : (cfg0.win 7).fetch t = false := rfl
theorem fetch8 (t : Fin cfg0.N) : (cfg0.win 8).fetch t = false := rfl

end Cert.KernelIdeal.Own

end
-- ==== Proof.DataIdeal.lean ====
/- What every buffer of the idealized program's pipeline holds, point by point: the operand arrays as one
   record, the blocks of the three results, the scratch contents between points. -/
module

public import proofs.«01_k».proof.Proof.SchedIdeal
public import proofs.«01_k».proof.Proof.Step

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Fused

variable {F : FTy → Type} [FloatOps F] (m : (ℓ : Loc nD τ sig) → Buf (Elt F) ℓ) (ρ : Dev nD → PrngReg)

local notation "𝕄" => MT nD τ sig Unit (Elt F) ℕ (UR sig nD τ) ℕ

/-- The six operands as the pipeline finds them. -/
def inOf (c : Dev nD) : In F where
  X := V m c main_v0
  XS := V m c main_v1
  W := V m c main_arg2
  WS := V m c main_v4
  R := V m c main_v5
  G := V m c main_v7

/-- The block of the first result at point `t`, -/
def hBlk (c : Dev nD) (t : ℕ) : FVec F ⟨2, ![256, 2048]⟩ .bf16 := fun j =>
  hT (inOf m c) (min (t / 8) 31) (at2 256 16384 (j 0).val (2048 * (if t / 8 < 32 then t % 8 else 7) + (j 1).val))

/-- of the second, -/
def qBlk (c : Dev nD) (t : ℕ) : FVec F ⟨2, ![256, 2048]⟩ .fp8e4m3 := fun j =>
  qT (inOf m c) (t / 8 - 1) (at2 256 16384 (j 0).val (2048 * (if 1 ≤ t / 8 then t % 8 else 0) + (j 1).val))

/-- and of the third. -/
def nsBlk (c : Dev nD) (t : ℕ) : FVec F ⟨3, ![1, 2, 128]⟩ .f32 := nsT (inOf m c) (t / 8 - 1)

/-- The eight scratch arrays, at contents `σ`. -/
def scratch (c : Dev nD) (σ : St F) : sProp 𝕄 :=
  iprop(owns (c : Thread nD τ) (Memref.whole cc0_scratch0) fullShare (σ .wb)
    ∗ owns (c : Thread nD τ) (Memref.whole cc0_scratch1) fullShare (σ .hbuf)
    ∗ owns (c : Thread nD τ) (Memref.whole cc0_scratch2) fullShare (σ .xb)
    ∗ owns (c : Thread nD τ) (Memref.whole cc0_scratch3) fullShare (σ .xsb)
    ∗ owns (c : Thread nD τ) (Memref.whole cc0_scratch4) fullShare (σ .ss)
    ∗ owns (c : Thread nD τ) (Memref.whole cc0_scratch5) fullShare (σ .mx)
    ∗ owns (c : Thread nD τ) (Memref.whole cc0_scratch6) fullShare (σ .rs)
    ∗ owns (c : Thread nD τ) (Memref.whole cc0_scratch7) fullShare (σ .inv))

/-- What holds before point `t`. -/
def inv (c : Dev nD) (t : ℕ) : sProp 𝕄 :=
  iprop((∃ σ : St F, ⌜t < 264 → Inv (inOf m c) (t / 8) (t % 8) σ⌝ ∗ scratch c σ) ∗ ∃ r, prngReg c r)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hBlk m c t.val
    | ⟨7, _⟩ => qBlk m c t.val
    | ⟨8, _⟩ => nsBlk m c t.val
  Φ t := inv m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = hBlk m c t.val := by dsimp only [dats]
theorem after7 (c : Dev nD) (t : Fin cfg0.N) : (dats m 0 c).after 7 t = qBlk m c t.val := by dsimp only [dats]
theorem after8 (c : Dev nD) (t : Fin cfg0.N) : (dats m 0 c).after 8 t = nsBlk m c t.val := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-- What a live point leaves is found next. -/
theorem kept6 (c : Dev nD) (t : Fin cfg0.N) (d) : (dats m 0 c).kept 6 t d = hBlk m c t.val := by
  unfold Dat.kept; rw [after6]; rfl
theorem kept8 (c : Dev nD) (t : Fin cfg0.N) (d) : (dats m 0 c).kept 8 t d = nsBlk m c t.val := by
  unfold Dat.kept; rw [after8]; rfl

/-- From the last row's start on the first result's buffer holds the last block. -/
theorem before6 (c : Dev nD) (n : ℕ) : ∀ (t : Fin cfg0.N) (d), t.val = 256 + n → (dats m 0 c).before 6 t d = hBlk m c t.val := by
  induction n with
  | zero =>
    intro t d ht
    rw [Dat.before_of_pos _ _ _ (by omega) (fetch6 t), flush6, if_neg (by simp; omega)]
    unfold Dat.left
    rw [show cfg0.idle 6 (cfg0.grid.coords ⟨t.val - 1, Nat.lt_of_le_of_lt (Nat.sub_le _ _) t.isLt⟩) = false from (idle6 _).trans (by simp; omega)]
    dsimp only
    rw [kept6]
    unfold hBlk
    dsimp only
    rw [if_pos (by omega), if_neg (by omega), show min ((t.val - 1) / 8) 31 = 31 by omega, show min (t.val / 8) 31 = 31 by omega, show (t.val - 1) % 8 = 7 by omega]
  | succ n ih =>
    intro t d ht
    have hN : t.val < 264 := t.isLt
    rw [Dat.before_of_pos _ _ _ (by omega) (fetch6 t), flush6, if_neg (by simp; omega)]
    unfold Dat.left
    rw [show cfg0.idle 6 (cfg0.grid.coords ⟨t.val - 1, Nat.lt_of_le_of_lt (Nat.sub_le _ _) t.isLt⟩) = true from (idle6 _).trans (by simp; omega)]
    dsimp only
    rw [ih _ _ (by dsimp only; omega)]
    unfold hBlk
    dsimp only
    rw [if_neg (by omega), if_neg (by omega), show min ((t.val - 1) / 8) 31 = 31 by omega, show min (t.val / 8) 31 = 31 by omega]

/-- After a row's first point the third result's buffer holds the block of the row before. -/
theorem before8 (c : Dev nD) (n : ℕ) : ∀ (t : Fin cfg0.N) (d), t.val % 8 = n + 1 → 1 ≤ t.val / 8 → (dats m 0 c).before 8 t d = nsBlk m c t.val := by
  induction n with
  | zero =>
    intro t d ht h1
    rw [Dat.before_of_pos _ _ _ (by omega) (fetch8 t), flush8, if_neg (by simp; omega)]
    unfold Dat.left
    rw [show cfg0.idle 8 (cfg0.grid.coords ⟨t.val - 1, Nat.lt_of_le_of_lt (Nat.sub_le _ _) t.isLt⟩) = false from (idle8 _).trans (by simp; omega)]
    dsimp only
    rw [kept8]
    unfold nsBlk
    dsimp only
    rw [show (t.val - 1) / 8 = t.val / 8 by omega]
  | succ n ih =>
    intro t d ht h1
    rw [Dat.before_of_pos _ _ _ (by omega) (fetch8 t), flush8, if_neg (by simp; omega)]
    unfold Dat.left
    rw [show cfg0.idle 8 (cfg0.grid.coords ⟨t.val - 1, Nat.lt_of_le_of_lt (Nat.sub_le _ _) t.isLt⟩) = true from (idle8 _).trans (by simp; omega)]
    dsimp only
    rw [ih _ _ (by dsimp only; omega) (by dsimp only; omega)]
    unfold nsBlk
    dsimp only
    rw [show (t.val - 1) / 8 = t.val / 8 by omega]

/-- The input blocks are the operands' blocks. -/
theorem blk0 (c : Dev nD) (t : Fin cfg0.N) (j : S256x1152.Idx) :
    iblk m c 0 t j = (inOf m c).X (at2 8192 1152 (256 * min (t.val / 8) 31 + (j 0).val) (j 1).val) := by
  have h0 := lt0 j; have h1 := lt1 j
  refine congrArg (V m c main_v0) (ext2 ?_ ?_)
  · rw [at2_0]; blk_simp [index0]; omega
  · rw [at2_1]; blk_simp [index0]; omega

theorem blk1 (c : Dev nD) (t : Fin cfg0.N) (j : S1x2x128.Idx) :
    iblk m c 1 t j = (inOf m c).XS (at3 32 2 128 (min (t.val / 8) 31) (j 1).val (j 2).val) := by
  have h0 := lt3_0 j; have h1 := lt3_1 j; have h2 := lt3_2 j
  refine congrArg (V m c main_v1) (ext3 ?_ ?_ ?_)
  · rw [at3_0]; blk_simp [index1]; omega
  · rw [at3_1]; blk_simp [index1]; omega
  · rw [at3_2]; blk_simp [index1]; omega

theorem blk2 (c : Dev nD) (t : Fin cfg0.N) (j : S1152x2048.Idx) :
    iblk m c 2 t j = (inOf m c).W (at2 1152 16384 (j 0).val (2048 * (if t.val / 8 = 0 then t.val % 8 else 7) + (j 1).val)) := by
  have h0 := lt0 j; have h1 := lt1 j
  refine congrArg (V m c main_arg2) (ext2 ?_ ?_)
  · rw [at2_0]; blk_simp [index2]; omega
  · rw [at2_1]; blk_simp [index2]; split <;> omega

theorem blk3 (c : Dev nD) (t : Fin cfg0.N) (j : S1x9x2048.Idx) :
    iblk m c 3 t j = (inOf m c).WS (at3 1 9 16384 0 (j 1).val (2048 * (if t.val / 8 = 0 then t.val % 8 else 7) + (j 2).val)) := by
  have h0 := lt3_0 j; have h1 := lt3_1 j; have h2 := lt3_2 j
  refine congrArg (V m c main_v4) (ext3 ?_ ?_ ?_)
  · rw [at3_0]; blk_simp [index3]
  · rw [at3_1]; blk_simp [index3]; omega
  · rw [at3_2]; blk_simp [index3]; split <;> omega

theorem blk4 (c : Dev nD) (t : Fin cfg0.N) (j : S256x2048.Idx) :
    iblk m c 4 t j = (inOf m c).R (at2 8192 16384 (256 * min (t.val / 8) 31 + (j 0).val) (2048 * (if t.val / 8 < 32 then t.val % 8 else 7) + (j 1).val)) := by
  have h0 := lt0 j; have h1 := lt1 j
  refine congrArg (V m c main_v5) (ext2 ?_ ?_)
  · rw [at2_0]; blk_simp [index4]; omega
  · rw [at2_1]; blk_simp [index4]; split <;> omega

theorem blk5 (c : Dev nD) (t : Fin cfg0.N) (j : S1x2048.Idx) :
    iblk m c 5 t j = (inOf m c).G (at2 1 16384 0 (2048 * (t.val % 8) + (j 1).val)) := by
  have h0 := lt0 j; have h1 := lt1 j
  refine congrArg (V m c main_v7) (ext2 ?_ ?_)
  · rw [at2_0]; blk_simp [index5]
  · rw [at2_1]; blk_simp [index5]; omega

/-- The input buffers at point `t`. -/
theorem staged (c : Dev nD) (t : Fin cfg0.N) {σ : St F} (h0 : σ .x = iblk m c 0 t) (h1 : σ .xs = iblk m c 1 t)
    (h2 : σ .w = iblk m c 2 t) (h3 : σ .ws = iblk m c 3 t) (h4 : σ .res = iblk m c 4 t) (h5 : σ .g = iblk m c 5 t) :
    Stage (inOf m c) (t.val / 8) (t.val % 8) σ where
  x h j := (congrFun h0 j).trans ((blk0 m c t j).trans (by rw [Nat.min_eq_left (by omega)]))
  xs h j := (congrFun h1 j).trans ((blk1 m c t j).trans (by rw [Nat.min_eq_left (by omega)]))
  w h j := (congrFun h2 j).trans ((blk2 m c t j).trans (by rw [if_pos h]))
  ws h j := (congrFun h3 j).trans ((blk3 m c t j).trans (by rw [if_pos h]))
  res h j := (congrFun h4 j).trans ((blk4 m c t j).trans (by rw [Nat.min_eq_left (by omega), if_pos h]))
  g j := (congrFun h5 j).trans (blk5 m c t j)

end Cert.KernelIdeal.Own

end
-- ==== Proof.FrameIdeal.lean ====
/- The idealized program's body at a grid point, the run of the whole program and its frame. -/
module

public import proofs.«01_k».proof.Proof.DataIdeal

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Fused

variable {F : FTy → Type} [FloatOps F] (m : (ℓ : Loc nD τ sig) → Buf (Elt F) ℓ) (ρ : Dev nD → PrngReg)

local notation "𝕄" => MT nD τ sig Unit (Elt F) ℕ (UR sig nD τ) ℕ

/-- The body's seventeen buffers at point `t`. -/
def bufs (t : Fin cfg0.N) : Bufs sig
  | .x => st0_0 t | .xs => st0_1 t | .w => st0_2 t | .ws => st0_3 t | .res => st0_4 t | .g => st0_5 t
  | .h => st0_6 t | .q => st0_7 t | .ns => st0_8 t
  | .wb => Memref.whole cc0_scratch0 | .hbuf => Memref.whole cc0_scratch1 | .xb => Memref.whole cc0_scratch2
  | .xsb => Memref.whole cc0_scratch3 | .ss => Memref.whole cc0_scratch4 | .mx => Memref.whole cc0_scratch5
  | .rs => Memref.whole cc0_scratch6 | .inv => Memref.whole cc0_scratch7

theorem bufs_whole (t : Fin cfg0.N) : ∀ b, (bufs t b).IsWhole
  | .x => hstage0_0 ((cfg0.slots t 0).cast nbuf0_0) | .xs => hstage0_1 ((cfg0.slots t 1).cast nbuf0_1)
  | .w => hstage0_2 ((cfg0.slots t 2).cast nbuf0_2) | .ws => hstage0_3 ((cfg0.slots t 3).cast nbuf0_3)
  | .res => hstage0_4 ((cfg0.slots t 4).cast nbuf0_4) | .g => hstage0_5 ((cfg0.slots t 5).cast nbuf0_5)
  | .h => hstage0_6 ((cfg0.slots t 6).cast nbuf0_6) | .q => hstage0_7 ((cfg0.slots t 7).cast nbuf0_7)
  | .ns => hstage0_8 ((cfg0.slots t 8).cast nbuf0_8)
  | .wb => Memref.isWhole_whole _ | .hbuf => Memref.isWhole_whole _ | .xb => Memref.isWhole_whole _
  | .xsb => Memref.isWhole_whole _ | .ss => Memref.isWhole_whole _ | .mx => Memref.isWhole_whole _
  | .rs => Memref.isWhole_whole _ | .inv => Memref.isWhole_whole _

/-- Its contents before the body: the windows' buffers as handed over, the scratch arrays' `σ`. -/
def handed (X0 : St F) (σ : St F) : St F
  | .wb => σ .wb | .hbuf => σ .hbuf | .xb => σ .xb | .xsb => σ .xsb
  | .ss => σ .ss | .mx => σ .mx | .rs => σ .rs | .inv => σ .inv
  | b => X0 b

theorem body_eq (t : Fin cfg0.N) :
    (bodyAt0 t : Prog (TpuEff nD τ sig (Elt F) Λ₀ .tc) PUnit)
      = body (bufs t) (bufs_whole t) (grid0.coords t 0).val (grid0.coords t 1).val (grid0.coords t 1).isLt :=
  printed (grid0.coords t) (bufs t) (bufs_whole t)

/-- The seventeen buffers, one by one. -/
theorem own_list (A : Bufs sig) (c : Dev nD) (σ : St F) :
    own A c σ = iprop(owns (c : Thread nD τ) (A .x) fullShare (σ .x) ∗ owns (c : Thread nD τ) (A .xs) fullShare (σ .xs)
      ∗ owns (c : Thread nD τ) (A .w) fullShare (σ .w) ∗ owns (c : Thread nD τ) (A .ws) fullShare (σ .ws)
      ∗ owns (c : Thread nD τ) (A .res) fullShare (σ .res) ∗ owns (c : Thread nD τ) (A .g) fullShare (σ .g)
      ∗ owns (c : Thread nD τ) (A .h) fullShare (σ .h) ∗ owns (c : Thread nD τ) (A .q) fullShare (σ .q)
      ∗ owns (c : Thread nD τ) (A .ns) fullShare (σ .ns) ∗ owns (c : Thread nD τ) (A .wb) fullShare (σ .wb)
      ∗ owns (c : Thread nD τ) (A .hbuf) fullShare (σ .hbuf) ∗ owns (c : Thread nD τ) (A .xb) fullShare (σ .xb)
      ∗ owns (c : Thread nD τ) (A .xsb) fullShare (σ .xsb) ∗ owns (c : Thread nD τ) (A .ss) fullShare (σ .ss)
      ∗ owns (c : Thread nD τ) (A .mx) fullShare (σ .mx) ∗ owns (c : Thread nD τ) (A .rs) fullShare (σ .rs)
      ∗ owns (c : Thread nD τ) (A .inv) fullShare (σ .inv)) :=
  bigSep_univ_eq_bigSepL Slot.all (by decide) (by decide) _

/-- The scratch contents' invariant does not see the windows' buffers. -/
theorem inv_handed {I : In F} {i c : ℕ} {σ : St F} (h : Inv I i c σ) (X0 : St F) : Inv I i c (handed X0 σ) where
  wb := h.wb
  xb := h.xb
  xsb := h.xsb
  ss := h.ss
  mx := h.mx
  new := h.new
  old := h.old
  ss' := h.ss'
  mx' := h.mx'
  rs := h.rs
  inv := h.inv

/-- The invariant moves on to the next point. -/
theorem inv_succ {I : In F} {t : ℕ} {σ : St F} (h : Inv I (t / 8) (t % 8 + 1) σ) : t + 1 < 264 → Inv I ((t + 1) / 8) ((t + 1) % 8) σ := by
  intro ht
  by_cases hc : t % 8 = 7
  · rw [hc] at h
    have := Inv.next h (by omega)
    rwa [show (t + 1) / 8 = t / 8 + 1 by omega, show (t + 1) % 8 = 0 by omega]
  · rwa [show (t + 1) / 8 = t / 8 by omega, show (t + 1) % 8 = t % 8 + 1 by omega]

/-- The body's triple at point `t`: what the nine windows' buffers and the scratch arrays hold after it. -/
theorem body_triple (c : Dev nD) (t : Fin cfg0.N) (X0 : St F) (Q : PUnit → sProp 𝕄)
    (h0 : X0 .x = iblk m c 0 t) (h1 : X0 .xs = iblk m c 1 t)
    (h2 : X0 .w = iblk m c 2 t) (h3 : X0 .ws = iblk m c 3 t) (h4 : X0 .res = iblk m c 4 t) (h5 : X0 .g = iblk m c 5 t)
    (σ : St F) (hσ : Inv (inOf m c) (t.val / 8) (t.val % 8) σ) :
    iprop(own (bufs t) c (handed X0 σ)
        ∗ (∀ σ' : St F, ⌜Stepped (inOf m c) (t.val / 8) (t.val % 8) (handed X0 σ) σ'⌝ -∗ own (bufs t) c σ' -∗ Q ⟨⟩))
      ⊢ wp frame (wpE (defs₀ (F := F)) Variants.none (c : Thread nD τ) none) Set.univ (bodyAt0 t) Q := by
  rw [body_eq t]
  have hst : Stepped (inOf m c) (t.val / 8) (t.val % 8) (handed X0 σ)
      (bodyD (grid0.coords t 1).val (grid0.coords t 1).isLt (grid0.coords t 0).val (handed X0 σ)) := by
    have hs := staged m c t (σ := handed X0 σ) h0 h1 h2 h3 h4 h5
    have hi := inv_handed hσ X0
    have e0 := coords0 t
    have e1 := coords1 t
    rw [← e0, ← e1] at hs hi ⊢
    exact stepped (grid0.coords t 1).isLt (grid0.coords t 0).isLt hs hi
  iintro ⟨H, K⟩
  iapply (runs_body (grid0.coords t 1).val (grid0.coords t 1).isLt (grid0.coords t 0).val (handed X0 σ) c Q)
  isplitl [H]
  · iexact H
  iintro H
  iapply K
  · ipureintro; exact hst
  iexact H

end Cert.KernelIdeal.Own

end
-- ==== Proof.RunIdeal.lean ====
/- The idealized program's body obligation, its run and its frame. -/
module

public import proofs.«01_k».proof.Proof.FrameIdeal

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Fused

variable {F : FTy → Type} [FloatOps F] (m : (ℓ : Loc nD τ sig) → Buf (Elt F) ℓ) (ρ : Dev nD → PrngReg)

local notation "𝕄" => MT nD τ sig Unit (Elt F) ℕ (UR sig nD τ) ℕ

/-- A window's buffer as the body must hand it back. -/
def handsBack (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- It does, if it holds the stated block where the point is live or writes back, and otherwise what it held. -/
theorem handsBack_of (c : Dev nD) (w : Fin cfg0.W) (t : Fin cfg0.N) (X : (cfg0.win w).block.Idx → Elt F (cfg0.win w).elt)
    (h1 : cfg0.idle w (cfg0.grid.coords t) = false → X = (dats m 0 c).after w t)
    (h2 : cfg0.idle w (cfg0.grid.coords t) = true → (cfg0.win w).flush t = false → ∃ d, X = (dats m 0 c).before w t d)
    (h3 : cfg0.idle w (cfg0.grid.coords t) = true → (cfg0.win w).flush t = true → X = (dats m 0 c).after w t) :
    (owns (c : Thread nD τ) ((cfg0.win w).stage (cfg0.slots t w)) fullShare X : sProp 𝕄) ⊢ handsBack m c w t := by
  unfold handsBack
  cases hi : cfg0.idle w (cfg0.grid.coords t)
  · rw [h1 hi]
  · cases hf : (cfg0.win w).flush t
    · obtain ⟨d, rfl⟩ := h2 hi hf
      dsimp only
      iintro H
      iexists d
      iexact H
    · rw [h3 hi hf]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ handsBack m c 6 t ∗ handsBack m c 7 t ∗ handsBack m c 8 t)

variable {m}

/-- The windows' buffers as contents of the seventeen. -/
def windowsOf (X0 : FVec F S256x1152 .fp8e4m3) (X1 : FVec F S1x2x128 .f32) (X2 : FVec F S1152x2048 .fp8e4m3) (X3 : FVec F S1x9x2048 .f32)
    (X4 : FVec F S256x2048 .bf16) (X5 : FVec F S1x2048 .f32) (X6 : FVec F S256x2048 .bf16) (X7 : FVec F S256x2048 .fp8e4m3)
    (X8 : FVec F S1x2x128 .f32) (σ : St F) : St F
  | .x => X0 | .xs => X1 | .w => X2 | .ws => X3 | .res => X4 | .g => X5 | .h => X6 | .q => X7 | .ns => X8
  | b => σ b

/-- The outputs' buffers after the body. -/
theorem back6 {c : Dev nD} {t : Fin cfg0.N} {σ σ' : St F} {d}
    (hs : Stepped (inOf m c) (t.val / 8) (t.val % 8) σ σ') (hσ : σ .h = (dats m 0 c).before 6 t d) :
    (owns (c : Thread nD τ) (st0_6 t) fullShare (σ' .h) : sProp 𝕄) ⊢ handsBack m c 6 t := by
  refine handsBack_of m c 6 t (σ' .h) (fun h => ?_) (fun h hf => ?_) (fun h hf => ?_)
  · have hi : t.val / 8 < 32 := by have := (idle6 t).symm.trans h; simpa using this
    rw [after6]
    funext j
    refine (hs.h hi j).trans ?_
    unfold hBlk
    rw [Nat.min_eq_left (by omega), if_pos hi]
  · have hi : ¬ t.val / 8 < 32 := by have := (idle6 t).symm.trans h; simpa using this
    exact ⟨d, (hs.h' hi).trans hσ⟩
  · have hi : ¬ t.val / 8 < 32 := by have := (idle6 t).symm.trans h; simpa using this
    rw [after6]
    exact (hs.h' hi).trans (hσ.trans (before6 m c (t.val - 256) t d (by omega)))

theorem back7 {c : Dev nD} {t : Fin cfg0.N} {σ σ' : St F} {d}
    (hs : Stepped (inOf m c) (t.val / 8) (t.val % 8) σ σ') (hσ : σ .q = (dats m 0 c).before 7 t d) :
    (owns (c : Thread nD τ) (st0_7 t) fullShare (σ' .q) : sProp 𝕄) ⊢ handsBack m c 7 t := by
  refine handsBack_of m c 7 t (σ' .q) (fun h => ?_) (fun h hf => ?_) (fun h hf => ?_)
  · have hi : 1 ≤ t.val / 8 := by have := (idle7 t).symm.trans h; simpa using this
    rw [after7]
    funext j
    refine (hs.q hi j).trans ?_
    unfold qBlk
    rw [if_pos hi]
  · have hi : ¬ 1 ≤ t.val / 8 := by have := (idle7 t).symm.trans h; simpa using this
    exact ⟨d, (hs.q' hi).trans hσ⟩
  · have hi : ¬ 1 ≤ t.val / 8 := by have := (idle7 t).symm.trans h; simpa using this
    rw [flush7] at hf
    exact absurd (of_decide_eq_true hf) hi

theorem back8 {c : Dev nD} {t : Fin cfg0.N} {σ σ' : St F} {d}
    (hs : Stepped (inOf m c) (t.val / 8) (t.val % 8) σ σ') (hσ : σ .ns = (dats m 0 c).before 8 t d) :
    (owns (c : Thread nD τ) (st0_8 t) fullShare (σ' .ns) : sProp 𝕄) ⊢ handsBack m c 8 t := by
  refine handsBack_of m c 8 t (σ' .ns) (fun h => ?_) (fun h hf => ?_) (fun h hf => ?_)
  · have hi : t.val % 8 = 0 ∧ 1 ≤ t.val / 8 := by
      have := (idle8 t).symm.trans h
      simpa using this
    rw [after8]
    exact hs.ns hi.1 hi.2
  · have hi : ¬ (t.val % 8 = 0 ∧ 1 ≤ t.val / 8) := by
      have := (idle8 t).symm.trans h
      exact of_decide_eq_false (by simpa only [Bool.not_eq_eq_eq_not, Bool.not_true] using this)
    exact ⟨d, (hs.ns' hi).trans hσ⟩
  · have hi : ¬ (t.val % 8 = 0 ∧ 1 ≤ t.val / 8) := by
      have := (idle8 t).symm.trans h
      exact of_decide_eq_false (by simpa only [Bool.not_eq_eq_eq_not, Bool.not_true] using this)
    rw [flush8] at hf
    have hf' := of_decide_eq_true hf
    rw [after8]
    exact (hs.ns' hi).trans (hσ.trans (before8 m c 6 t d (by omega) hf'.2))

/-- An input's buffer is left as it was. -/
theorem input_eq {c : Dev nD} {t : Fin cfg0.N} {σ σ' : St F} (hs : Stepped (inOf m c) (t.val / 8) (t.val % 8) σ σ') (b : Slot)
    (hb : b = .x ∨ b = .xs ∨ b = .w ∨ b = .ws ∨ b = .res ∨ b = .g) : σ' b = σ b := hs.input b hb

variable (m)

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).Φ t.castSucc = inv m c t.val from rfl, show (dats m 0 c).Φ t.succ = inv m c (t.val + 1) from rfl,
    show (dats m 0 c).owesAt () t.succ = (dats m 0 c).owesAt () t.castSucc from rfl,
    after0, after1, after2, after3, after4, after5]
  unfold inv scratch
  iintro ⟨⟨⟨%σ, %hσ, S0, S1, S2, S3, S4, S5, S6, S7⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_triple m c t (windowsOf (iblk m c 0 t) (iblk m c 1 t) (iblk m c 2 t) (iblk m c 3 t) (iblk m c 4 t) (iblk m c 5 t)
    ((dats m 0 c).before 6 t d6) ((dats m 0 c).before 7 t d7) ((dats m 0 c).before 8 t d8) σ) _ rfl rfl rfl rfl rfl rfl σ (hσ t.isLt))
  isplitl [H0 H1 H2 H3 H4 H5 H6 H7 H8 S0 S1 S2 S3 S4 S5 S6 S7]
  · rw [own_list]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iintro %σ' %hs
  rw [own_list, hs.input .x (by decide), hs.input .xs (by decide), hs.input .w (by decide), hs.input .ws (by decide),
    hs.input .res (by decide), hs.input .g (by decide)]
  iintro ⟨H0, H1, H2, H3, H4, H5, H6, H7, H8, S0, S1, S2, S3, S4, S5, S6, S7⟩
  isplitl [HP S0 S1 S2 S3 S4 S5 S6 S7]
  · isplitl [S0 S1 S2 S3 S4 S5 S6 S7]
    · iexists σ'
      isplitr
      · ipureintro; exact inv_succ hs.inv
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (back6 hs (d := d6) rfl); iexact H6
  isplitl [H7]
  · iapply (back7 hs (d := d7) rfl); iexact H7
  iapply (back8 hs (d := d8) rfl); iexact H8

/-- The body table's row at point `t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- At the start the scratch arrays hold anything, -/
theorem inv_in (c : Dev nD) : (Pipeline.ΦA spec0 c : sProp 𝕄) ⊢ inv m c 0 := by
  unfold Pipeline.ΦA inv scratch
  rw [scopedRest0_eq c]
  simp only [owns_whole]
  iintro ⟨⟨⟨%f0, S0⟩, ⟨%f1, S1⟩, ⟨%f2, S2⟩, ⟨%f3, S3⟩, ⟨%f4, S4⟩, ⟨%f5, S5⟩, ⟨%f6, S6⟩, ⟨%f7, S7⟩⟩, HP⟩
  isplitr [HP]
  · iexists (fun b => match b with
      | .wb => f0 | .hbuf => f1 | .xb => f2 | .xsb => f3 | .ss => f4 | .mx => f5 | .rs => f6 | .inv => f7
      | .x => fun _ => Scalar.ofBits _ 0 | .xs => fun _ => Scalar.ofBits _ 0 | .w => fun _ => Scalar.ofBits _ 0
      | .ws => fun _ => Scalar.ofBits _ 0 | .res => fun _ => Scalar.ofBits _ 0 | .g => fun _ => Scalar.ofBits _ 0
      | .h => fun _ => Scalar.ofBits _ 0 | .q => fun _ => Scalar.ofBits _ 0 | .ns => fun _ => Scalar.ofBits _ 0 : St F)
    isplitr
    · ipureintro; exact fun _ => Inv.start _
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iexact HP

/-- and at the end what they hold is forgotten. -/
theorem inv_out (c : Dev nD) (t : ℕ) : inv m c t ⊢ (Pipeline.ΦA spec0 c : sProp 𝕄) := by
  unfold Pipeline.ΦA inv scratch
  rw [scopedRest0_eq c]
  simp only [owns_whole]
  iintro ⟨⟨%σ, -, S0, S1, S2, S3, S4, S5, S6, S7⟩, HP⟩
  isplitr [HP]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7
  · iexact HP

set_option backward.isDefEq.respectTransparency.types false in
set_option maxHeartbeats 800000 in
/-- Every run ends, with every array at what the proof data say and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

theorem run : θ_run defs (onTc (τ := τ) (main (F := F))) (s₀ m ρ) (Pipeline.FramePost cfgs (dats m) 0 (V m)) :=
  (θ_run defs _ _).mono (fun _ h => h.1) (run_quiescent m ρ)

/-- The frame: every run ends, the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_and (frame_of m ρ (dats m) (A_eq m) (run m ρ)) ((θ_run defs _ _).mono (fun _ h => h.2) (run_quiescent m ρ))

end Cert.KernelIdeal.Own

end
-- ==== Proof.Scalar.lean ====
/- Extended-real facts about one row's scale: the exponent search, the least power of two above a value, its
   reciprocal. -/
module

public import proofs.«01_k».proof.Proof.Prog
public import Idealize.ShloMosaic.PureOps.Ideal
public import Idealize.ShloMosaic.PureOps.Ideal.Laws

@[expose] public section

noncomputable section

namespace Cert.Fused

open Idealize.ShloMosaic

/-! ## Powers of two by their exponent field -/

/-- The value of the float whose exponent field is `b` and whose other bits are zero. -/
def pw (b : ℕ) : EReal := Ideal.ofBits .f32 (BitVec.ofNat 32 b <<< 23)

theorem fields (b : Fin 256) : ((BitVec.ofNat 32 b.val <<< 23).extractLsb' 31 1 == 1#1) = false
    ∧ ((BitVec.ofNat 32 b.val <<< 23).extractLsb' 23 8).toNat = b.val
    ∧ ((BitVec.ofNat 32 b.val <<< 23).extractLsb' 0 23).toNat = 0 := by
  revert b; decide +kernel

theorem pw_eq (b : ℕ) : pw b = Ideal.ieee 8 23 (BitVec.ofNat 32 b <<< 23) := by
  unfold pw; simp only [Ideal.ofBits]

theorem pw_zero : pw 0 = 0 := by
  rw [pw_eq]
  simp [Ideal.ieee]

theorem ieee_mid (x : BitVec 32) (b : ℕ) (h1 : (x.extractLsb' 31 1 == 1#1) = false) (h2 : (x.extractLsb' 23 8).toNat = b)
    (h3 : (x.extractLsb' 0 23).toNat = 0) (h0 : b ≠ 0) (h : b < 255) :
    Ideal.ieee 8 23 x = ((2 : ℝ) ^ ((b : ℤ) - 127) : ℝ) := by
  unfold Ideal.ieee
  simp only [show (8 : ℕ) + 23 = 31 from rfl, h1, h2, h3]
  rw [if_neg (by norm_num; omega), if_neg h0]
  congr 1
  rw [if_neg (by simp)]
  have e : ((b : ℤ) - 127) = 23 + ((b : ℤ) - (2 ^ (8 - 1) - 1) - (23 : ℕ)) := by norm_num
  rw [e, zpow_add₀ (by norm_num)]
  norm_num

theorem pw_mid {b : ℕ} (h0 : b ≠ 0) (h : b < 255) : pw b = ((2 : ℝ) ^ ((b : ℤ) - 127) : ℝ) := by
  rw [pw_eq]
  have hf := fields ⟨b, by omega⟩
  exact ieee_mid _ b hf.1 hf.2.1 hf.2.2 h0 h

theorem pw_top : pw 255 = ⊤ := by
  rw [pw_eq]
  simp [Ideal.ieee]

theorem pw_pos {b : ℕ} (h0 : b ≠ 0) (h : b < 256) : 0 < pw b := by
  rcases Nat.lt_or_ge b 255 with hb | hb
  · rw [pw_mid h0 hb]; exact_mod_cast zpow_pos (by norm_num : (0 : ℝ) < 2) _
  · rw [show b = 255 by omega, pw_top]; exact EReal.zero_lt_top

theorem pw_mono {a b : ℕ} (hab : a ≤ b) (hb : b < 256) : pw a ≤ pw b := by
  rcases Nat.eq_zero_or_pos a with rfl | ha
  · rcases Nat.eq_zero_or_pos b with rfl | hb0
    · exact le_rfl
    · rw [pw_zero]; exact (pw_pos (by omega) hb).le
  · rcases Nat.lt_or_ge b 255 with hb' | hb'
    · rw [pw_mid (by omega) (by omega), pw_mid (by omega) hb']
      exact EReal.coe_le_coe_iff.mpr (zpow_le_zpow_right₀ (by norm_num : (1 : ℝ) ≤ 2) (by omega))
    · rw [show b = 255 by omega, pw_top]; exact le_top

theorem pw_one27 : pw 127 = 1 := by
  rw [pw_mid (by decide) (by decide)]; norm_num

/-! ## The search -/

/-- One step at one value. -/
def raise1 (v : EReal) (step b : BitVec 32) : BitVec 32 :=
  Scalar.select (FloatOps.cmpf (F := Ideal) (φ := .f32) .olt v (Ideal.ofBits .f32 (IntOp.shli .vector (b + step) 23#32))) b (b + step)

theorem shl23 (b : BitVec 32) : IntOp.shli .vector b 23#32 = b <<< 23 := rfl

theorem select_ofBool {α : Type} (p : Prop) [Decidable p] (a b : α) : Scalar.select (BitVec.ofBool (decide p)) a b = if p then a else b := by
  by_cases h : p <;> simp [h, Scalar.select]

/-- `b` is a lower bound of the field, `b + s` an upper one. -/
def Brack (v : EReal) (b s : ℕ) : Prop := b + s ≤ 256 ∧ pw b ≤ v ∧ (v < pw (b + s) ∨ b + s = 256)

theorem raise1_step {v : EReal} {b s : ℕ} (hs : 0 < s) (h : Brack v b (2 * s)) :
    ∃ b', raise1 v (BitVec.ofNat 32 s) (BitVec.ofNat 32 b) = BitVec.ofNat 32 b' ∧ Brack v b' s := by
  obtain ⟨h1, h2, h3⟩ := h
  have e : BitVec.ofNat 32 b + BitVec.ofNat 32 s = BitVec.ofNat 32 (b + s) := (BitVec.ofNat_add _ _).symm
  have k : raise1 v (BitVec.ofNat 32 s) (BitVec.ofNat 32 b) = if v < pw (b + s) then BitVec.ofNat 32 b else BitVec.ofNat 32 (b + s) := by
    unfold raise1
    rw [e, shl23]
    exact select_ofBool _ _ _
  rw [k]
  by_cases hv : v < pw (b + s)
  · exact ⟨b, if_pos hv, by omega, h2, .inl hv⟩
  · refine ⟨b + s, if_neg hv, by omega, le_of_not_gt hv, ?_⟩
    rcases h3 with h3 | h3
    · left; rwa [show b + s + s = b + 2 * s by omega]
    · right; omega

/-- The whole search. -/
def field1 (v : EReal) : BitVec 32 :=
  raise1 v 1#32 (raise1 v 2#32 (raise1 v 4#32 (raise1 v 8#32 (raise1 v 16#32 (raise1 v 32#32 (raise1 v 64#32 (raise1 v 128#32 0#32)))))))

theorem field1_spec {v : EReal} (hv : 0 ≤ v) : ∃ b, field1 v = BitVec.ofNat 32 b ∧ Brack v b 1 := by
  have h0 : Brack v 0 (2 * 128) := ⟨by omega, by rw [pw_zero]; exact hv, .inr rfl⟩
  obtain ⟨b7, e7, h7⟩ := raise1_step (s := 128) (by omega) h0
  obtain ⟨b6, e6, h6⟩ := raise1_step (s := 64) (by omega) h7
  obtain ⟨b5, e5, h5⟩ := raise1_step (s := 32) (by omega) h6
  obtain ⟨b4, e4, h4⟩ := raise1_step (s := 16) (by omega) h5
  obtain ⟨b3, e3, h3⟩ := raise1_step (s := 8) (by omega) h4
  obtain ⟨b2, e2, h2⟩ := raise1_step (s := 4) (by omega) h3
  obtain ⟨b1, e1, h1⟩ := raise1_step (s := 2) (by omega) h2
  obtain ⟨b0, e0, h0⟩ := raise1_step (s := 1) (by omega) h1
  refine ⟨b0, ?_, h0⟩
  unfold field1
  rw [show raise1 v 128#32 0#32 = BitVec.ofNat 32 b7 from e7, show raise1 v 64#32 (BitVec.ofNat 32 b7) = BitVec.ofNat 32 b6 from e6,
    show raise1 v 32#32 (BitVec.ofNat 32 b6) = BitVec.ofNat 32 b5 from e5, show raise1 v 16#32 (BitVec.ofNat 32 b5) = BitVec.ofNat 32 b4 from e4,
    show raise1 v 8#32 (BitVec.ofNat 32 b4) = BitVec.ofNat 32 b3 from e3, show raise1 v 4#32 (BitVec.ofNat 32 b3) = BitVec.ofNat 32 b2 from e2,
    show raise1 v 2#32 (BitVec.ofNat 32 b2) = BitVec.ofNat 32 b1 from e1]
  exact e0

/-! ## The scale and its reciprocal, as the kernel takes them -/

def exp1 (v : EReal) : BitVec 32 :=
  Scalar.select (IntOp.ori (FloatOps.cmpf (F := Ideal) (φ := .f32) .oeq v (Ideal.ofBits .f32 0x00000000#32)) (IntOp.cmpi .eq (field1 v) 255#32)) 0#32 (field1 v - 126#32)

def scale1 (v : EReal) : EReal := Ideal.ofBits .f32 (IntOp.shli .vector (exp1 v + 127#32) 23#32)
def inv1 (v : EReal) : EReal := Ideal.ofBits .f32 (IntOp.shli .vector (IntOp.maxsi (127#32 - exp1 v) 0#32) 23#32)

theorem raise_apply (v : FVec Ideal S256x128 .f32) (s : BitVec 32) (b : IVec S256x128 32) (j : S256x128.Idx) :
    raise v s b j = raise1 (v j) s (b j) := rfl

theorem expField_apply (v : FVec Ideal S256x128 .f32) (j : S256x128.Idx) : expField v j = field1 (v j) := by
  unfold expField field1
  simp only [raise_apply]
  rfl

theorem scaleExp_apply (v : FVec Ideal S256x128 .f32) (j : S256x128.Idx) : scaleExp v j = exp1 (v j) := by
  unfold exp1
  rw [← expField_apply]
  rfl

theorem scaleOf_apply (v : FVec Ideal S256x128 .f32) (j : S256x128.Idx) : scaleOf v j = scale1 (v j) := by
  unfold scale1
  rw [← scaleExp_apply]
  rfl

theorem invOf_apply (v : FVec Ideal S256x128 .f32) (j : S256x128.Idx) : invOf v j = inv1 (v j) := by
  unfold inv1
  rw [← scaleExp_apply]
  rfl

theorem words (b : Fin 256) : (BitVec.ofNat 32 b.val - 126#32 + 127#32) = BitVec.ofNat 32 (b.val + 1)
    ∧ IntOp.maxsi (127#32 - (BitVec.ofNat 32 b.val - 126#32)) 0#32 = BitVec.ofNat 32 (253 - b.val)
    ∧ IntOp.cmpi .eq (BitVec.ofNat 32 b.val) 255#32 = BitVec.ofBool (decide (b.val = 255)) := by
  revert b; decide +kernel

theorem or_ofBool (p q : Prop) [Decidable p] [Decidable q] : IntOp.ori (BitVec.ofBool (decide p)) (BitVec.ofBool (decide q)) = BitVec.ofBool (decide (p ∨ q)) := by
  by_cases hp : p <;> by_cases hq : q <;> simp [hp, hq, IntOp.ori]

theorem exp1_eq {v : EReal} {b : ℕ} (hf : field1 v = BitVec.ofNat 32 b) (hb : b < 256) :
    exp1 v = if v = 0 ∨ b = 255 then 0#32 else BitVec.ofNat 32 b - 126#32 := by
  unfold exp1
  rw [hf, (words ⟨b, hb⟩).2.2]
  show Scalar.select (IntOp.ori (BitVec.ofBool (decide (v = Ideal.ofBits .f32 0x00000000#32))) _) _ _ = _
  rw [Ideal.ofBits_zero_f32, or_ofBool, select_ofBool]

theorem scale1_eq {v : EReal} {b : ℕ} (hf : field1 v = BitVec.ofNat 32 b) (hb : b < 256) :
    scale1 v = if v = 0 ∨ b = 255 then 1 else pw (b + 1) := by
  unfold scale1
  rw [exp1_eq hf hb]
  split
  · rw [shl23]; exact pw_one27
  · rw [(words ⟨b, hb⟩).1, shl23]; rfl

theorem inv1_eq {v : EReal} {b : ℕ} (hf : field1 v = BitVec.ofNat 32 b) (hb : b < 256) :
    inv1 v = if v = 0 ∨ b = 255 then 1 else pw (253 - b) := by
  unfold inv1
  rw [exp1_eq hf hb]
  split
  · rw [shl23]; exact pw_one27
  · rw [(words ⟨b, hb⟩).2.1, shl23]; rfl

/-! ## As the reference takes them -/

/-- The least of the 254 powers above `v`. -/
def least (v : EReal) : EReal := (Finset.univ : Finset (Fin 254)).fold min ⊤ fun k => if v < pw (k.val + 1) then pw (k.val + 1) else ⊤

theorem least_eq {v : EReal} {b : ℕ} (h : Brack v b 1) (hb : b ≠ 255) : least v = pw (b + 1) := by
  obtain ⟨h1, h2, h3⟩ := h
  have h3 : v < pw (b + 1) := h3.resolve_right (by omega)
  refine le_antisymm ?_ ?_
  · rcases Nat.lt_or_ge b 254 with hb' | hb'
    · refine (Finset.fold_min_le (c := pw (b + 1))).mpr (.inr ⟨⟨b, hb'⟩, Finset.mem_univ _, ?_⟩)
      rw [if_pos h3]
    · rw [show b + 1 = 255 by omega, pw_top]; exact le_top
  · refine (Finset.le_fold_min (c := pw (b + 1))).mpr ⟨le_top, fun k _ => ?_⟩
    split
    · rename_i hk
      refine pw_mono ?_ (by omega)
      by_contra hlt
      exact absurd (lt_of_lt_of_le hk ((pw_mono (by omega) (by omega)).trans h2)) (lt_irrefl _)
    · exact le_top

def scaleR (v : EReal) : EReal := if v = 0 ∨ v = ⊤ then 1 else least v
def invR (v : EReal) : EReal := if Ideal.div 1 (scaleR v) < pw 1 then 0 else Ideal.div 1 (scaleR v)

theorem top_iff {v : EReal} {b : ℕ} (h : Brack v b 1) : b = 255 ↔ v = ⊤ := by
  obtain ⟨h1, h2, h3⟩ := h
  constructor
  · rintro rfl; rw [pw_top] at h2; exact top_le_iff.mp h2
  · rintro rfl
    rcases h3 with h3 | h3
    · exact absurd h3 (not_lt.mpr le_top)
    · omega

theorem scale_eq {v : EReal} (hv : 0 ≤ v) : scale1 v = scaleR v := by
  obtain ⟨b, hf, h⟩ := field1_spec hv
  rw [scale1_eq hf (by have := h.1; omega)]
  unfold scaleR
  by_cases hc : v = 0 ∨ b = 255
  · rw [if_pos hc, if_pos (hc.imp_right (top_iff h).mp)]
  · rw [if_neg hc, if_neg fun hn => hc (hn.imp_right (top_iff h).mpr)]
    exact (least_eq h fun hb => hc (.inr hb)).symm

theorem div_one {y : ℝ} (hy : y ≠ 0) : Ideal.div 1 (y : EReal) = ((y⁻¹ : ℝ) : EReal) := by
  unfold Ideal.div
  rw [if_neg (by exact_mod_cast hy), one_mul, EReal.coe_inv]

theorem inv_eq {v : EReal} (hv : 0 ≤ v) : inv1 v = invR v := by
  obtain ⟨b, hf, h⟩ := field1_spec hv
  have hb : b < 256 := by have := h.1; omega
  rw [inv1_eq hf hb]
  unfold invR
  rw [← scale_eq hv, scale1_eq hf hb]
  by_cases hc : v = 0 ∨ b = 255
  · rw [if_pos hc, if_pos hc]
    have e : Ideal.div 1 1 = 1 := by
      have := div_one (y := 1) one_ne_zero
      simpa using this
    rw [e, if_neg]
    rw [not_lt, ← pw_one27]
    exact pw_mono (by omega) (by omega)
  · rw [if_neg hc, if_neg hc]
    have hb' : b ≠ 255 := fun hb => hc (.inr hb)
    rcases Nat.lt_or_ge b 254 with h4 | h4
    · have e : Ideal.div 1 (pw (b + 1)) = (((2 : ℝ) ^ (126 - (b : ℤ)) : ℝ) : EReal) := by
        rw [pw_mid (by omega) (by omega), div_one (by positivity), ← zpow_neg]
        congr 2; push_cast; ring
      rw [e]
      rcases Nat.lt_or_ge b 253 with h3 | h3
      · have e2 : pw (253 - b) = (((2 : ℝ) ^ (126 - (b : ℤ)) : ℝ) : EReal) := by
          rw [pw_mid (by omega) (by omega)]
          congr 2; omega
        rw [← e2, if_neg]
        rw [not_lt]
        exact pw_mono (by omega) (by omega)
      · rw [if_pos]
        · rw [show 253 - b = 0 by omega, pw_zero]
        · rw [pw_mid (by decide) (by decide)]
          exact EReal.coe_lt_coe_iff.mpr (zpow_lt_zpow_right₀ (by norm_num : (1 : ℝ) < 2) (by omega))
    · have e : Ideal.div 1 (pw (b + 1)) = 0 := by
        rw [show b + 1 = 255 by omega, pw_top]
        unfold Ideal.div
        rw [if_neg EReal.top_ne_zero, EReal.inv_top, mul_zero]
      rw [e, if_pos (pw_pos (by decide) (by decide)), show 253 - b = 0 by omega, pw_zero]

end Cert.Fused

end
-- ==== Proof.Rows.lean ====
/- Extended-real facts about one row's two statistics: the sum of squares taken lane by lane, and the greatest
   magnitude before and after a nonnegative factor. -/
module

public import proofs.«01_k».proof.Proof.Scalar

@[expose] public section

noncomputable section

namespace Cert.Fused

open Idealize.ShloMosaic

/-! ## Sums -/

theorem sum_blocks {α : Type} [AddCommMonoid α] (f : ℕ → α) (k : ℕ) (m : ℕ) :
    (∑ n ∈ Finset.range m, ∑ l ∈ Finset.range k, f (k * n + l)) = ∑ x ∈ Finset.range (k * m), f x := by
  induction m with
  | zero => simp
  | succ m ih => rw [Finset.sum_range_succ, ih, Nat.mul_succ, Finset.sum_range_add]

theorem sum_lanes {α : Type} [AddCommMonoid α] (f : ℕ → α) :
    (∑ l : Fin 128, ∑ n ∈ Finset.range 128, f (128 * n + l.val)) = ∑ x : Fin 16384, f x.val := by
  rw [Fin.sum_univ_eq_sum_range (fun l => ∑ n ∈ Finset.range 128, f (128 * n + l)) 128, Finset.sum_comm, sum_blocks f 128 128,
    Fin.sum_univ_eq_sum_range f 16384]

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-! ## Constants -/

theorem c_mean : Ideal.ofBits .f32 0x38800000#32 = (((16384 : ℝ)⁻¹ : ℝ) : EReal) := by
  simp [Ideal.ofBits, Ideal.ieee, -EReal.coe_mul]; norm_num

theorem c_count : Ideal.ofBits .f32 0x46800000#32 = ((16384 : ℝ) : EReal) := by
  simp [Ideal.ofBits, Ideal.ieee, -EReal.coe_mul]; norm_num

theorem c_eps : 0 < Ideal.ofBits .f32 0x3727C5AC#32 := by
  simp [Ideal.ofBits, Ideal.ieee, -EReal.coe_mul]

theorem c_448 : 0 ≤ Ideal.ofBits .f32 0x3B124925#32 := by
  simp [Ideal.ofBits, Ideal.ieee, -EReal.coe_mul]

theorem c_one : Ideal.ofBits .f32 0x3F800000#32 = 1 := by
  simp [Ideal.ofBits, Ideal.ieee, -EReal.coe_mul]; norm_num

theorem c_top : Ideal.ofBits .f32 0x7F800000#32 = ⊤ := by
  simp [Ideal.ofBits, Ideal.ieee]

theorem c_bot : Ideal.ofBits .f32 0xFF800000#32 = ⊥ := by
  simp [Ideal.ofBits, Ideal.ieee]

theorem c_min : Ideal.ofBits .f32 0x00800000#32 = pw 1 := rfl

/-! ## The mean's reciprocal root -/

theorem mean_eq (t : EReal) : t * Ideal.ofBits .f32 0x38800000#32 = Ideal.div t (Ideal.ofBits .f32 0x46800000#32) := by
  rw [c_mean, c_count]
  unfold Ideal.div
  rw [if_neg (by exact_mod_cast (by norm_num : (16384 : ℝ) ≠ 0)), EReal.coe_inv]

theorem rsqrt_nonneg {z : EReal} (hz : 0 < z) : 0 ≤ Ideal.rsqrt z := by
  induction z with
  | bot => exact absurd hz (not_lt.mpr bot_le)
  | top => exact le_rfl
  | coe r =>
    have hr : 0 < r := by exact_mod_cast hz
    show 0 ≤ (if r < 0 then (⊥ : EReal) else if r = 0 then ⊤ else (((Real.sqrt r)⁻¹ : ℝ) : EReal))
    rw [if_neg (not_lt.mpr hr.le), if_neg hr.ne']
    exact_mod_cast inv_nonneg.mpr (Real.sqrt_nonneg r)

theorem root_nonneg {t : EReal} (ht : 0 ≤ t) :
    0 ≤ Ideal.rsqrt (t * Ideal.ofBits .f32 0x38800000#32 + Ideal.ofBits .f32 0x3727C5AC#32) := by
  apply rsqrt_nonneg
  have h1 : 0 ≤ t * Ideal.ofBits .f32 0x38800000#32 := mul_nonneg ht (by rw [c_mean]; exact_mod_cast (by norm_num))
  calc (0 : EReal) < Ideal.ofBits .f32 0x3727C5AC#32 := c_eps
    _ = 0 + Ideal.ofBits .f32 0x3727C5AC#32 := (zero_add _).symm
    _ ≤ _ := add_le_add_left h1 _

/-! ## Magnitudes -/

def mag (x : EReal) : EReal := max x (-x)

theorem mag_nonneg (x : EReal) : 0 ≤ mag x := by
  rcases le_total 0 x with h | h
  · exact h.trans (le_max_left _ _)
  · exact (EReal.neg_nonneg.mpr h).trans (le_max_right _ _)

theorem mag_mul {r : EReal} (hr : 0 ≤ r) (a g : EReal) : mag (a * r * g) = mag (a * g) * r := by
  have e : a * r * g = a * g * r := by rw [mul_assoc, mul_comm r g, ← mul_assoc]
  rw [e]
  unfold mag
  have hm : Monotone fun x : EReal => x * r := fun x y h => mul_le_mul_of_nonneg_right h hr
  rw [← EReal.neg_mul]
  exact (hm.map_max).symm

/-- `M` is the greatest of the 16384 values of `f`. -/
def Top (f : ℕ → EReal) (M : EReal) : Prop := (∀ n, n < 16384 → f n ≤ M) ∧ ∃ n, n < 16384 ∧ M = f n

theorem Top.unique {f : ℕ → EReal} {M M' : EReal} (h : Top f M) (h' : Top f M') : M = M' := by
  obtain ⟨h1, n, hn, e⟩ := h
  obtain ⟨h1', n', hn', e'⟩ := h'
  exact le_antisymm (e ▸ h1' n hn) (e' ▸ h1 n' hn')

theorem Top.scale {f : ℕ → EReal} {M r : EReal} (hr : 0 ≤ r) (h : Top f M) : Top (fun n => f n * r) (M * r) := by
  obtain ⟨h1, n, hn, e⟩ := h
  exact ⟨fun k hk => mul_le_mul_of_nonneg_right (h1 k hk) hr, n, hn, by rw [e]⟩

/-- The greatest over lanes of the greatest over tiles. -/
theorem top_lanes {f : ℕ → EReal} (hf : ∀ n, 0 ≤ f n) (x : Fin 128 → EReal)
    (hx : ∀ l : Fin 128, (∀ n, n < 128 → f (128 * n + l.val) ≤ x l) ∧ (x l = 0 ∨ ∃ n, n < 128 ∧ x l = f (128 * n + l.val))) :
    Top f ((Finset.univ : Finset (Fin 128)).fold max ⊥ x) := by
  set M := (Finset.univ : Finset (Fin 128)).fold max ⊥ x with hM
  have hle : ∀ l, x l ≤ M := fun l => (Finset.le_fold_max (x l)).mpr (.inr ⟨l, Finset.mem_univ _, le_rfl⟩)
  refine ⟨fun n hn => ?_, ?_⟩
  · have h := (hx ⟨n % 128, by omega⟩).1 (n / 128) (by omega)
    rw [show 128 * (n / 128) + n % 128 = n by omega] at h
    exact h.trans (hle _)
  · have hat : ∃ l, M = x l := by
      rcases (Finset.le_fold_max (s := Finset.univ) (f := x) (b := ⊥) M).mp hM.le with h | ⟨l, _, h⟩
      · refine ⟨0, ?_⟩
        rw [le_bot_iff.mp h]
        exact (le_bot_iff.mp ((hle 0).trans h)).symm
      · exact ⟨l, le_antisymm h (hle l)⟩
    obtain ⟨l, hl⟩ := hat
    have hb := (hx l)
    rcases hb.2 with h0 | ⟨n, hn, h⟩
    · refine ⟨128 * 0 + l.val, by omega, ?_⟩
      rw [hl]
      refine le_antisymm ?_ (hb.1 0 (by omega))
      rw [h0]; exact hf _
    · exact ⟨128 * n + l.val, by omega, by rw [hl, h]⟩

theorem top_fold (f : ℕ → EReal) : Top f ((Finset.univ : Finset (Fin 16384)).fold max ⊥ fun n => f n.val) := by
  set M := (Finset.univ : Finset (Fin 16384)).fold max ⊥ (fun n : Fin 16384 => f n.val) with hM
  have hle : ∀ n : Fin 16384, f n.val ≤ M := fun n => (Finset.le_fold_max (f n.val)).mpr (.inr ⟨n, Finset.mem_univ _, le_rfl⟩)
  refine ⟨fun n hn => hle ⟨n, hn⟩, ?_⟩
  rcases (Finset.le_fold_max (s := Finset.univ) (f := fun n : Fin 16384 => f n.val) (b := ⊥) M).mp hM.le with h | ⟨l, _, h⟩
  · refine ⟨0, by omega, ?_⟩
    rw [le_bot_iff.mp h]
    exact (le_bot_iff.mp ((hle ⟨0, by omega⟩).trans h)).symm
  · exact ⟨l.val, l.isLt, le_antisymm h (hle l)⟩

end Cert.Fused

end
-- ==== Proof.Reads.lean ====
/- Extended-real readings of the row operations both programs use: sums and maxima along a row, columns spread
   along rows, and plain products. -/
module

public import proofs.«01_k».proof.Proof.Rows
public import proofs.«01_k».proof.Proof.Target
public import Idealize.ShloMosaic.Lib.MatmulPlain

@[expose] public section

noncomputable section

namespace Cert.Fused

open Idealize.ShloMosaic

/-- The one coordinate, modulo the extent. -/
def at1 (N : ℕ) [NeZero N] (a : ℕ) : (⟨1, ![N]⟩ : Shape).Idx
  | ⟨0, _⟩ => (Fin.ofNat N a : Fin N)

section
variable {α : Type} {N M : ℕ} [NeZero N] [NeZero M]

theorem col_apply (v : (⟨1, ![N]⟩ : Shape).Idx → α) (h : (⟨1, ![N]⟩ : Shape).ShapeCasts ⟨2, ![N, 1]⟩) (j : (⟨2, ![N, 1]⟩ : Shape).Idx) :
    shapeCast ⟨2, ![N, 1]⟩ v h j = v (at1 N (j 0).val) := by
  refine shapeCast_apply v h j _ ?_
  have h0 := lt0 j
  have h1 := lt1 j
  rw [Shape.rowMajor_val_one, Shape.rowMajor_val_two]
  show (j 0).val % N = (j 0).val * 1 + (j 1).val
  rw [Nat.mod_eq_of_lt h0]
  omega

theorem spread_apply (hN : N ≠ 1) (x : (⟨2, ![N, 1]⟩ : Shape).Idx → α) (h : (⟨2, ![N, 1]⟩ : Shape).Broadcasts ⟨2, ![N, M]⟩)
    (j : (⟨2, ![N, M]⟩ : Shape).Idx) : broadcastTo ⟨2, ![N, M]⟩ x h j = x (at2 N 1 (j 0).val 0) := by
  refine broadcastTo_apply x h j _ fun a => ?_
  match a with
  | ⟨0, _⟩ =>
    show (j 0).val % N = if N = 1 then 0 else (j 0).val
    rw [if_neg hN, Nat.mod_eq_of_lt (lt0 j)]
  | ⟨1, _⟩ =>
    show 0 % 1 = if 1 = 1 then 0 else (j 1).val
    rfl

theorem spreadRow_apply (hM : M ≠ 1) (x : (⟨2, ![1, M]⟩ : Shape).Idx → α) (h : (⟨2, ![1, M]⟩ : Shape).Broadcasts ⟨2, ![N, M]⟩)
    (j : (⟨2, ![N, M]⟩ : Shape).Idx) : broadcastTo ⟨2, ![N, M]⟩ x h j = x (at2 1 M 0 (j 1).val) := by
  refine broadcastTo_apply x h j _ fun a => ?_
  match a with
  | ⟨0, _⟩ =>
    show 0 % 1 = if 1 = 1 then 0 else (j 0).val
    rfl
  | ⟨1, _⟩ =>
    show (j 1).val % M = if M = 1 then 0 else (j 1).val
    rw [if_neg hM, Nat.mod_eq_of_lt (lt1 j)]

theorem lift_eq (h : (⟨2, ![N, M]⟩ : Shape).Reduces [1] ⟨1, ![N]⟩) (j : (⟨1, ![N]⟩ : Shape).Idx) (k : Fin M) :
    h.lift j k = at2 N M (j 0).val k.val := by
  refine ext2 ?_ ?_
  · rw [at2_0, Nat.mod_eq_of_lt (show (j 0).val < N from (j 0).isLt)]; rfl
  · rw [at2_1, Nat.mod_eq_of_lt k.isLt]; rfl

theorem rowSum_apply (src : FVec Ideal ⟨2, ![N, M]⟩ .f32) (h : (⟨2, ![N, M]⟩ : Shape).Reduces [1] ⟨1, ![N]⟩) (hφ : FKind.Formats .f32)
    (hacc : (0x00000000#32 : BitVec 32) = FKind.add.neutral .f32 hφ) (j : (⟨1, ![N]⟩ : Shape).Idx) :
    multiReduction .add [1] ⟨1, ![N]⟩ src 0x00000000#32 h hφ hacc j = ∑ k : Fin M, (src (at2 N M (j 0).val k.val) : EReal) := by
  rw [Ideal.multiReduction_add_single]
  exact Finset.sum_congr rfl fun k _ => congrArg src (lift_eq h j k)

theorem rowMax_apply (src : FVec Ideal ⟨2, ![N, M]⟩ .f32) (h : (⟨2, ![N, M]⟩ : Shape).Reduces [1] ⟨1, ![N]⟩) (hφ : FKind.Formats .f32)
    (hacc : (0xFF800000#32 : BitVec 32) = FKind.maximumf.neutral .f32 hφ) (j : (⟨1, ![N]⟩ : Shape).Idx) :
    multiReduction .maximumf [1] ⟨1, ![N]⟩ src 0xFF800000#32 h hφ hacc j
      = (Finset.univ : Finset (Fin M)).fold max (⊥ : EReal) fun k => src (at2 N M (j 0).val k.val) := by
  rw [Ideal.multiReduction_maximumf_single]
  have e : (src ∘ h.lift j) = fun k : Fin M => src (at2 N M (j 0).val k.val) := funext fun k => congrArg src (lift_eq h j k)
  rw [e, ← c_bot]
  rfl

theorem rowMin_apply (src : FVec Ideal ⟨2, ![N, M]⟩ .f32) (h : (⟨2, ![N, M]⟩ : Shape).Reduces [1] ⟨1, ![N]⟩) (hφ : FKind.Formats .f32)
    (hacc : (0x7F800000#32 : BitVec 32) = FKind.minimumf.neutral .f32 hφ) (j : (⟨1, ![N]⟩ : Shape).Idx) :
    multiReduction .minimumf [1] ⟨1, ![N]⟩ src 0x7F800000#32 h hφ hacc j
      = (Finset.univ : Finset (Fin M)).fold min (⊤ : EReal) fun k => src (at2 N M (j 0).val k.val) := by
  rw [multiReduction_minimumf_eq_fold]
  refine (h.fold_filter_drop_single _ _ src j).trans ?_
  have e : (src ∘ h.lift j) = fun k : Fin M => src (at2 N M (j 0).val k.val) := funext fun k => congrArg src (lift_eq h j k)
  rw [e, ← c_top]
  rfl

end

open Idealize.ShloMosaic.ValueIdx in
theorem plain_apply {M K N : ℕ} [NeZero M] [NeZero K] [NeZero N] {φ₁ φ₂ : FTy} (lhs : FVec Ideal ⟨2, ![M, K]⟩ φ₁)
    (rhs : FVec Ideal ⟨2, ![K, N]⟩ φ₂) (j : (⟨2, ![M, N]⟩ : Shape).Idx) :
    matmul (F := Ideal) (DotDims.plain M K N) none lhs rhs (constant ⟨2, ![M, N]⟩ .f32 0x00000000#32) j
      = ∑ k : Fin K, (lhs (at2 M K (j 0).val k.val) * rhs (at2 K N k.val (j 1).val) : EReal) := by
  have e : j = ix2 ⟨(j 0).val, lt0 j⟩ ⟨(j 1).val, lt1 j⟩ := ext2 rfl rfl
  have z : (constant (F := Ideal) ⟨2, ![M, N]⟩ .f32 0x00000000#32) j = (0 : EReal) := Ideal.ofBits_zero_f32
  have h := Ideal.matmul_plain_apply none lhs rhs (constant ⟨2, ![M, N]⟩ .f32 0x00000000#32) ⟨(j 0).val, lt0 j⟩ ⟨(j 1).val, lt1 j⟩
  rw [← e, z, zero_add] at h
  refine Eq.trans (Eq.trans rfl h) (Finset.sum_congr rfl fun k _ => congrArg₂ (fun a b : EReal => a * b) (congrArg lhs (ext2 ?_ ?_)) (congrArg rhs (ext2 ?_ ?_)))
  · rw [at2_0, Nat.mod_eq_of_lt (lt0 j)]; rfl
  · rw [at2_1, Nat.mod_eq_of_lt k.isLt]; rfl
  · rw [at2_0, Nat.mod_eq_of_lt k.isLt]; rfl
  · rw [at2_1, Nat.mod_eq_of_lt (lt1 j)]; rfl

/-! ## The kernel's two statistics -/

theorem statR_apply (s : FVec Ideal S256x128 .f32) (j : S256x128.Idx) :
    statR s j = Ideal.rsqrt ((∑ k : Fin 128, (s (at2 256 128 (j 0).val k.val) : EReal)) * Ideal.ofBits .f32 0x38800000#32 + Ideal.ofBits .f32 0x3727C5AC#32) := by
  unfold statR
  rw [spread_apply (by decide), shapeCast_self]
  show Ideal.rsqrt (shapeCast S256x1 _ _ (at2 256 1 (j 0).val 0) * Ideal.ofBits .f32 0x38800000#32 + Ideal.ofBits .f32 0x3727C5AC#32) = _
  rw [col_apply]
  have e : (at1 256 (at2 256 1 (j 0).val 0 0).val 0).val = (j 0).val := by
    show (j 0).val % 256 % 256 = _
    have := lt0 j
    omega
  refine congrArg (fun t : EReal => Ideal.rsqrt (t * Ideal.ofBits .f32 0x38800000#32 + Ideal.ofBits .f32 0x3727C5AC#32))
    ((rowSum_apply (N := 256) (M := 128) s _ _ _ _).trans ?_)
  rw [e]

theorem statV_apply (m r : FVec Ideal S256x128 .f32) (j : S256x128.Idx) :
    statV m r j = ((Finset.univ : Finset (Fin 128)).fold max (⊥ : EReal) fun k => m (at2 256 128 (j 0).val k.val)) * r j * Ideal.ofBits .f32 0x3B124925#32 := by
  unfold statV
  show (broadcastTo S256x128 _ _ j * r j) * Ideal.ofBits .f32 0x3B124925#32 = _
  rw [spread_apply (by decide), shapeCast_self, col_apply]
  have e : (at1 256 (at2 256 1 (j 0).val 0 0).val 0).val = (j 0).val := by
    show (j 0).val % 256 % 256 = _
    have := lt0 j
    omega
  refine congrArg (fun t : EReal => t * r j * Ideal.ofBits .f32 0x3B124925#32) ((rowMax_apply (N := 256) (M := 128) m _ _ _ _).trans ?_)
  rw [e]

/-! ## The kernel's row -/

section
variable (I : In Ideal) (i r : ℕ)

/-- Row `r` of block `i` of the first result, -/
def rowA (n : ℕ) : EReal := hT I i (at2 256 16384 r n)
/-- the weights, -/
def rowG (n : ℕ) : EReal := I.G (at2 1 16384 0 n)
/-- and the row's reciprocal root. -/
def rowR : EReal :=
  Ideal.rsqrt ((∑ x : Fin 16384, rowA I i r x.val * rowA I i r x.val) * Ideal.ofBits .f32 0x38800000#32 + Ideal.ofBits .f32 0x3727C5AC#32)

theorem rowR_nonneg : 0 ≤ rowR I i r := root_nonneg (Finset.sum_nonneg fun x _ => sq_nonneg' _)

variable (hr : r < 256)
include hr

theorem hL_row (n l : ℕ) (hl : l < 128) : hL I i n (at2 256 128 r l) = rowA I i r (128 * n + l) := by
  show hT I i (at2 256 16384 (r % 256) (128 * n + l % 128)) = _
  rw [Nat.mod_eq_of_lt hr, Nat.mod_eq_of_lt hl]; rfl

theorem ssT_row (l : ℕ) (hl : l < 128) (n : ℕ) :
    ssT I i n (at2 256 128 r l) = ∑ k ∈ Finset.range n, rowA I i r (128 * k + l) * rowA I i r (128 * k + l) := by
  induction n with
  | zero => exact Ideal.ofBits_zero_f32
  | succ n ih =>
    rw [Finset.sum_range_succ, ← ih, ← hL_row I i r hr n l hl]
    rfl

theorem mxT_row (l : ℕ) (hl : l < 128) (n : ℕ) :
    (∀ k, k < n → mag (rowA I i r (128 * k + l) * rowG I (128 * k + l)) ≤ mxT I i n (at2 256 128 r l))
      ∧ (mxT I i n (at2 256 128 r l) = (0 : EReal) ∨ ∃ k, k < n ∧ mxT I i n (at2 256 128 r l) = mag (rowA I i r (128 * k + l) * rowG I (128 * k + l))) := by
  induction n with
  | zero => exact ⟨fun k hk => absurd hk (Nat.not_lt_zero _), .inl Ideal.ofBits_zero_f32⟩
  | succ n ih =>
    have e : mxT I i (n + 1) (at2 256 128 r l) = max (mxT I i n (at2 256 128 r l)) (mag (rowA I i r (128 * n + l) * rowG I (128 * n + l))) := by
      rw [← hL_row I i r hr n l hl]
      show max _ (mag (hL I i n (at2 256 128 r l) * I.G (at2 1 16384 0 (128 * n + l % 128)))) = _
      rw [Nat.mod_eq_of_lt hl]; rfl
    rw [e]
    refine ⟨fun k hk => ?_, ?_⟩
    · rcases Nat.lt_succ_iff_lt_or_eq.mp hk with hk | rfl
      · exact (ih.1 k hk).trans (le_max_left _ _)
      · exact le_max_right _ _
    · rcases max_choice (mxT I i n (at2 256 128 r l)) (mag (rowA I i r (128 * n + l) * rowG I (128 * n + l))) with h | h
      · rw [h]
        exact ih.2.imp_right fun ⟨k, hk, e⟩ => ⟨k, by omega, e⟩
      · exact .inr ⟨n, by omega, h⟩

theorem rsT_row (l : ℕ) : rsT I i (at2 256 128 r l) = rowR I i r := by
  unfold rsT rowR
  rw [statR_apply]
  have e : (∑ k : Fin 128, (ssT I i 128 (at2 256 128 (at2 256 128 r l 0).val k.val) : EReal)) = ∑ x : Fin 16384, rowA I i r x.val * rowA I i r x.val := by
    rw [at2_0, Nat.mod_eq_of_lt hr, ← sum_lanes fun x => rowA I i r x * rowA I i r x]
    exact Finset.sum_congr rfl fun k _ => ssT_row I i r hr k.val k.isLt 128
  rw [e]

/-- The value whose power of two the row is scaled by. -/
theorem vT_row (l : ℕ) (M : EReal) (hM : Top (fun n => mag (rowA I i r n * rowR I i r * rowG I n)) M) :
    vT I i (at2 256 128 r l) = M * Ideal.ofBits .f32 0x3B124925#32 := by
  unfold vT
  rw [statV_apply, rsT_row I i r hr]
  have h := (top_lanes (f := fun n => mag (rowA I i r n * rowG I n)) (fun n => mag_nonneg _)
    (fun k : Fin 128 => mxT I i 128 (at2 256 128 (at2 256 128 r l 0).val k.val)) (fun k => by
      rw [at2_0, Nat.mod_eq_of_lt hr]
      exact mxT_row I i r hr k.val k.isLt 128)).scale (rowR_nonneg I i r)
  have e : (fun n => mag (rowA I i r n * rowG I n) * rowR I i r) = fun n => mag (rowA I i r n * rowR I i r * rowG I n) :=
    funext fun n => (mag_mul (rowR_nonneg I i r) _ _).symm
  rw [e] at h
  rw [h.unique hM]

end

end Cert.Fused

end
-- ==== Proof.ArraysIdeal.lean ====
/- The three result arrays at the end of the idealized kernel's run, in closed form. -/
module

public import proofs.«01_k».proof.Proof.RunIdeal

@[expose] public section

noncomputable section

namespace Cert.KernelIdeal.Own

open Idealize.ShloMosaic Idealize.ShloMosaic.TcCoe Idealize.ShloMosaic.Tactic
open Idealize.SL.Sem
open Idealize.ShloMosaic.Pipeline (Dat Cfg Window BodyObligation cellOf)
open Cert.KernelIdeal.Gen Cert.Fused

variable {F : FTy → Type} [FloatOps F] (m : (ℓ : Loc nD τ sig) → Buf (Elt F) ℓ) (ρ : Dev nD → PrngReg)

/-- The first result, -/
theorem arr6 (c : Dev nD) : (dats m 0 c).arrAt 6 cfg0.N = hArr (inOf m c) := by
  refine (dats m 0 c).arrAt_eq_of_covers 6 _ (by decide +kernel) fun t hf y => ?_
  have hN : t.val < 264 := t.isLt
  have h0 : (y 0).val < 256 := (y 0).isLt
  have h1 : (y 1).val < 2048 := (y 1).isLt
  have e0 : ((((cfg0.win 6).blk t).view.emb y 0 : Fin _) : ℕ) = 256 * min (t.val / 8) 31 + (y 0).val := by
    blk_simp [index6]; omega
  have e1 : ((((cfg0.win 6).blk t).view.emb y 1 : Fin _) : ℕ) = 2048 * (if t.val / 8 < 32 then t.val % 8 else 7) + (y 1).val := by
    blk_simp [index6]; split <;> omega
  rw [after6]
  show hBlk m c t.val _ = hArr _ _
  unfold hBlk hArr
  rw [e0, e1]
  refine congr (congrArg (hT (inOf m c)) ?_) (ext2 ?_ ?_)
  · omega
  · rw [at2_0, at2_0]; show (y 0).val % 256 = _; omega
  · rw [at2_1, at2_1]

/-- the second, -/
theorem arr7 (c : Dev nD) : (dats m 0 c).arrAt 7 cfg0.N = qArr (inOf m c) := by
  refine (dats m 0 c).arrAt_eq_of_covers 7 _ (by decide +kernel) fun t hf y => ?_
  have hN : t.val < 264 := t.isLt
  have h0 : (y 0).val < 256 := (y 0).isLt
  have h1 : (y 1).val < 2048 := (y 1).isLt
  have e0 : ((((cfg0.win 7).blk t).view.emb y 0 : Fin _) : ℕ) = 256 * (t.val / 8 - 1) + (y 0).val := by
    blk_simp [index7]; omega
  have e1 : ((((cfg0.win 7).blk t).view.emb y 1 : Fin _) : ℕ) = 2048 * (if 1 ≤ t.val / 8 then t.val % 8 else 0) + (y 1).val := by
    blk_simp [index7]; split <;> omega
  rw [after7]
  show qBlk m c t.val _ = qArr _ _
  unfold qBlk qArr
  rw [e0, e1]
  refine congr (congrArg (qT (inOf m c)) ?_) (ext2 ?_ ?_)
  · omega
  · rw [at2_0, at2_0]; show (y 0).val % 256 = _; omega
  · rw [at2_1, at2_1]

/-- and the third. -/
theorem arr8 (c : Dev nD) : (dats m 0 c).arrAt 8 cfg0.N = nsArr (inOf m c) := by
  refine (dats m 0 c).arrAt_eq_of_covers 8 _ (by decide +kernel) fun t hf y => ?_
  have hN : t.val < 264 := t.isLt
  have h0 : (y 0).val < 1 := (y 0).isLt
  have h1 : (y 1).val < 2 := (y 1).isLt
  have h2 : (y 2).val < 128 := (y 2).isLt
  have e0 : ((((cfg0.win 8).blk t).view.emb y 0 : Fin _) : ℕ) = t.val / 8 - 1 := by
    blk_simp [index8]
  have e1 : ((((cfg0.win 8).blk t).view.emb y 1 : Fin _) : ℕ) = (y 1).val := by
    blk_simp [index8]
  have e2 : ((((cfg0.win 8).blk t).view.emb y 2 : Fin _) : ℕ) = (y 2).val := by
    blk_simp [index8]
  rw [after8]
  show nsBlk m c t.val _ = nsArr _ _
  unfold nsBlk nsArr
  rw [e0, e1, e2]
  refine congrArg (nsT (inOf m c) _) (ext3 ?_ ?_ ?_)
  · rw [at3_0]; show (y 0).val = _; omega
  · rw [at3_1]; show (y 1).val = _; omega
  · rw [at3_2]; show (y 2).val = _; omega

/-- Every run ends with those arrays and the arguments unchanged. -/
theorem run_arrays : θ_run defs (onTc (τ := τ) (main (F := F))) ⟨m, fun _ => 0, ρ⟩ (fun r => ∀ c : Dev nD,
      (r.2.mem ((c.tc : Thread nD τ).loc main_v8_0) = hArr (inOf m c)
        ∧ r.2.mem ((c.tc : Thread nD τ).loc main_v8_1) = qArr (inOf m c)
        ∧ r.2.mem ((c.tc : Thread nD τ).loc main_v8_2) = nsArr (inOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨⟨?_, ?_, ?_⟩, h.2 c⟩)
    (θ_run_and (run m ρ) (frame_of m ρ (dats m) (A_eq m) (run m ρ)))
  · exact ((h.1 c).1 6).trans (arr6 m c)
  · exact ((h.1 c).1 7).trans (arr7 m c)
  · exact ((h.1 c).1 8).trans (arr8 m c)

end Cert.KernelIdeal.Own

end
-- ==== Proof.ArraysRef.lean ====
/- The three result arrays at the end of the reference's run, as its payloads of its operand arrays. -/
module

public import proofs.«01_k».proof.Proof.Gen.ReferenceIdeal.Frame
public import Idealize.ShloMosaic.Lib.Pipeline.ValueKit.Geometry
public import Idealize.ShloMosaic.Lib.StableHlo.RunRead

@[expose] public section

set_option maxRecDepth 16384

noncomputable section

namespace Cert.ReferenceIdeal.Own

open Idealize.ShloMosaic Idealize.ShloMosaic.TcCoe Idealize.ShloMosaic.Tactic
open Idealize.SL.Sem
open Idealize.ShloMosaic.Pipeline (Dat Cfg Window BodyObligation cellOf)
open Cert.ReferenceIdeal.Gen

variable {e : EltTy} {F : FTy → Type} [FloatOps F] (m : (ℓ : Loc nD τ sig) → Buf (Elt F) ℓ) (ρ : Dev nD → PrngReg)

/-- Rectangles that are the whole array. -/
theorem idx2 {N M : ℕ} (h) (j : (Rect.unit (s := (⟨2, ![N, M]⟩ : Shape)) ![0, 0] ![N, M] h).shape.Idx) :
    (Rect.unit (s := (⟨2, ![N, M]⟩ : Shape)) ![0, 0] ![N, M] h).idx j = j := by
  funext a
  match a with
  | ⟨0, _⟩ => exact Fin.ext (show 0 + 1 * (j 0).val = (j 0).val by omega)
  | ⟨1, _⟩ => exact Fin.ext (show 0 + 1 * (j 1).val = (j 1).val by omega)

theorem idx3 {N M K : ℕ} (h) (j : (Rect.unit (s := (⟨3, ![N, M, K]⟩ : Shape)) ![0, 0, 0] ![N, M, K] h).shape.Idx) :
    (Rect.unit (s := (⟨3, ![N, M, K]⟩ : Shape)) ![0, 0, 0] ![N, M, K] h).idx j = j := by
  funext a
  match a with
  | ⟨0, _⟩ => exact Fin.ext (show 0 + 1 * (j 0).val = (j 0).val by omega)
  | ⟨1, _⟩ => exact Fin.ext (show 0 + 1 * (j 1).val = (j 1).val by omega)
  | ⟨2, _⟩ => exact Fin.ext (show 0 + 1 * (j 2).val = (j 2).val by omega)

theorem ld0 (x : Vec F S1152x16384 e) : View.ld x r0_0 = x := funext fun j => congrArg x (idx2 _ j)
theorem ld1 (x : Vec F S8192x1152 e) : View.ld x r0_1 = x := funext fun j => congrArg x (idx2 _ j)
theorem ld2 (x : Vec F S8192x1 e) : View.ld x r0_2 = x := funext fun j => congrArg x (idx2 _ j)
theorem ld3 (x : Vec F S8192x16384 e) : View.ld x r0_3 = x := funext fun j => congrArg x (idx2 _ j)
theorem ld4 (x : Vec F S1x16384 e) : View.ld x r0_4 = x := funext fun j => congrArg x (idx2 _ j)

/-! What the body leaves in each output's buffer. -/
section
variable (x0 : Vec F S8192x1152 .fp8e4m3) (x1 : Vec F S8192x1 .f32) (x2 : Vec F S1152x16384 .fp8e4m3) (x3 : Vec F S1152x16384 .bf16) (x4 : Vec F S8192x16384 .bf16) (x5 : Vec F S1x16384 .bf16)

theorem one3 (p : Vec F S8192x16384 e) (y : S8192x16384.Idx) : View.canon (Val := Elt F) [⟨r0_3, p⟩] y = p y := by
  refine View.canon_apply_of_pieces p _ ?_ y (View.cover_of_tiled [⟨r0_3, p⟩] S8192x16384.size (by rfl) y)
  intro pc hpc
  rcases List.mem_cons.mp hpc with rfl | hpc
  · exact fun x => (congrArg p (idx2 inb_S8192x16384_S8192x16384_0_0 x)).symm
  nomatch hpc

theorem one5 (p : Vec F S32x2x128 e) (y : S32x2x128.Idx) : View.canon (Val := Elt F) [⟨r0_5, p⟩] y = p y := by
  refine View.canon_apply_of_pieces p _ ?_ y (View.cover_of_tiled [⟨r0_5, p⟩] S32x2x128.size (by rfl) y)
  intro pc hpc
  rcases List.mem_cons.mp hpc with rfl | hpc
  · exact fun x => (congrArg p (idx3 inb_S32x2x128_S32x2x128_0_0_0 x)).symm
  nomatch hpc

theorem out6 (y : S8192x16384.Idx) : out0_6 x0 x1 x2 x3 x4 x5 y = k0_pay4 x2 x3 x0 x1 x4 y := by
  unfold out0_6
  rw [ld0, ld0, ld1, ld2, ld3]
  exact one3 _ y

theorem out7 (y : S8192x16384.Idx) : out0_7 x0 x1 x2 x3 x4 x5 y = k0_pay2 (k0_pay5 x2 x3 x0 x1 x4 x5) (k0_pay6 x2 x3 x0 x1 x4 x5) k0_pay7 y := by
  unfold out0_7 k0_pay8 k0_pay9
  rw [ld0, ld0, ld1, ld2, ld3, ld4]
  exact one3 _ y

theorem out8 (y : S32x2x128.Idx) : out0_8 x0 x1 x2 x3 x4 x5 y = k0_pay3 (k0_pay6 x2 x3 x0 x1 x4 x5) k0_pay7 y := by
  unfold out0_8 k0_pay8 k0_pay9
  rw [ld0, ld0, ld1, ld2, ld3, ld4]
  exact one5 _ y

end

/-- The block each window is on at the one point. -/
theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0, 0] := (by decide +kernel : ∀ t : Fin grid0.N, _)

/-- The one point's input blocks are the operands. -/
theorem blk0 (c : Dev nD) (t : Fin cfg0.N) : iblk m c 0 t = V m c main_v4 :=
  funext fun j => congrArg (V m c main_v4) (funext fun a => Fin.ext (by match a with | ⟨0, _⟩ => blk_simp [index0] | ⟨1, _⟩ => blk_simp [index0]))
theorem blk1 (c : Dev nD) (t : Fin cfg0.N) : iblk m c 1 t = V m c main_v5 :=
  funext fun j => congrArg (V m c main_v5) (funext fun a => Fin.ext (by match a with | ⟨0, _⟩ => blk_simp [index1] | ⟨1, _⟩ => blk_simp [index1]))
theorem blk2 (c : Dev nD) (t : Fin cfg0.N) : iblk m c 2 t = V m c main_arg2 :=
  funext fun j => congrArg (V m c main_arg2) (funext fun a => Fin.ext (by match a with | ⟨0, _⟩ => blk_simp [index2] | ⟨1, _⟩ => blk_simp [index2]))
theorem blk3 (c : Dev nD) (t : Fin cfg0.N) : iblk m c 3 t = V m c main_v3 :=
  funext fun j => congrArg (V m c main_v3) (funext fun a => Fin.ext (by match a with | ⟨0, _⟩ => blk_simp [index3] | ⟨1, _⟩ => blk_simp [index3]))
theorem blk4 (c : Dev nD) (t : Fin cfg0.N) : iblk m c 4 t = V m c main_v6 :=
  funext fun j => congrArg (V m c main_v6) (funext fun a => Fin.ext (by match a with | ⟨0, _⟩ => blk_simp [index4] | ⟨1, _⟩ => blk_simp [index4]))
theorem blk5 (c : Dev nD) (t : Fin cfg0.N) : iblk m c 5 t = V m c main_v7 :=
  funext fun j => congrArg (V m c main_v7) (funext fun a => Fin.ext (by match a with | ⟨0, _⟩ => blk_simp [index5] | ⟨1, _⟩ => blk_simp [index5]))

/-- The reference's rounded sum, -/
abbrev hRef (c : Dev nD) : FVec F S8192x16384 .bf16 := k0_pay4 (V m c main_arg2) (V m c main_v3) (V m c main_v4) (V m c main_v5) (V m c main_v6)
/-- its normalised rows, -/
abbrev nRef (c : Dev nD) : FVec F S8192x16384 .f32 := k0_pay5 (V m c main_arg2) (V m c main_v3) (V m c main_v4) (V m c main_v5) (V m c main_v6) (V m c main_v7)
/-- and their largest magnitudes. -/
abbrev mRef (c : Dev nD) : FVec F S8192x1 .f32 := k0_pay6 (V m c main_arg2) (V m c main_v3) (V m c main_v4) (V m c main_v5) (V m c main_v6) (V m c main_v7)

theorem xinj6 (t : Fin cfg0.N) (y : ((cfg0.win 6).xblock (cfg0.grid.coords t)).Idx) : (cfg0.win 6).xinj (cfg0.grid.coords t) y = y := rfl

theorem arr6 (c : Dev nD) : (dats m 0 c).arrAt 6 cfg0.N = hRef m c := by
  refine (dats m 0 c).arrAt_eq_of_covers 6 _ (by decide +kernel) fun t hf y => ?_
  have e : ((cfg0.win 6).blk t).view.emb y = y := funext fun a => Fin.ext (by match a with | ⟨0, _⟩ => blk_simp [index6] | ⟨1, _⟩ => blk_simp [index6])
  rw [e, after0_6, xinj6]
  refine (cast_eq _ _).trans ((out6 _ _ _ _ _ _ _).trans ?_)
  rw [blk0, blk1, blk2, blk3, blk4]

theorem xinj7 (t : Fin cfg0.N) (y : ((cfg0.win 7).xblock (cfg0.grid.coords t)).Idx) : (cfg0.win 7).xinj (cfg0.grid.coords t) y = y := rfl

theorem arr7 (c : Dev nD) : (dats m 0 c).arrAt 7 cfg0.N = k0_pay2 (nRef m c) (mRef m c) k0_pay7 := by
  refine (dats m 0 c).arrAt_eq_of_covers 7 _ (by decide +kernel) fun t hf y => ?_
  have e : ((cfg0.win 7).blk t).view.emb y = y := funext fun a => Fin.ext (by match a with | ⟨0, _⟩ => blk_simp [index7] | ⟨1, _⟩ => blk_simp [index7])
  rw [e, after0_7, xinj7]
  refine (cast_eq _ _).trans ((out7 _ _ _ _ _ _ _).trans ?_)
  rw [blk0, blk1, blk2, blk3, blk4, blk5]

theorem xinj8 (t : Fin cfg0.N) (y : ((cfg0.win 8).xblock (cfg0.grid.coords t)).Idx) : (cfg0.win 8).xinj (cfg0.grid.coords t) y = y := rfl

theorem arr8 (c : Dev nD) : (dats m 0 c).arrAt 8 cfg0.N = k0_pay3 (mRef m c) k0_pay7 := by
  refine (dats m 0 c).arrAt_eq_of_covers 8 _ (by decide +kernel) fun t hf y => ?_
  have e : ((cfg0.win 8).blk t).view.emb y = y := funext fun a => Fin.ext (by match a with | ⟨0, _⟩ => blk_simp [index8] | ⟨1, _⟩ => blk_simp [index8] | ⟨2, _⟩ => blk_simp [index8])
  rw [e, after0_8, xinj8]
  refine (cast_eq _ _).trans ((out8 _ _ _ _ _ _ _).trans ?_)
  rw [blk0, blk1, blk2, blk3, blk4, blk5]

/-- What the operand arrays are of the arguments. -/
theorem V_v3 (c : Dev nD) : V m c main_v3 = shapeCast S1152x16384 (broadcastInDim S9x128x128x128 ![0, 1, 2, 3] bcast_S9x1x128x1_S9x128x128x128_0_1_2_3
    (broadcastInDim S9x1x128x1 ![0, 2] bcast_S9x128_S9x1x128x1_0_2 (truncf .bf16 (m ((c : Thread nD τ).loc main_arg3) : FVec F S9x128 .f32) bitsLt_bf16_f32 : FVec F S9x128 .bf16))) shapeCasts_S9x128x128x128_S1152x16384 := by
  unfold V; after_reads_simp; rfl
theorem V_v4 (c : Dev nD) : V m c main_v4 = shapeCast S8192x1152 (m ((c : Thread nD τ).loc main_arg0) : FVec F S8x1024x1152 .fp8e4m3) shapeCasts_S8x1024x1152_S8192x1152 := by
  unfold V; after_reads_simp; rfl
theorem V_v5 (c : Dev nD) : V m c main_v5 = shapeCast S8192x1 (m ((c : Thread nD τ).loc main_arg1) : FVec F S8x1024x1 .f32) shapeCasts_S8x1024x1_S8192x1 := by
  unfold V; after_reads_simp; rfl
theorem V_v6 (c : Dev nD) : V m c main_v6 = shapeCast S8192x16384 (m ((c : Thread nD τ).loc main_arg4) : FVec F S8x1024x16384 .bf16) shapeCasts_S8x1024x16384_S8192x16384 := by
  unfold V; after_reads_simp; rfl
theorem V_v7 (c : Dev nD) : V m c main_v7 = shapeCast S1x16384 (m ((c : Thread nD τ).loc main_arg5) : FVec F S16384 .bf16) shapeCasts_S16384_S1x16384 := by
  unfold V; after_reads_simp; rfl

/-- Every run ends with those arrays and the arguments unchanged. -/
theorem run_arrays : θ_run defs (onTc (τ := τ) (main (F := F))) ⟨m, fun _ => 0, ρ⟩ (fun r => ∀ c : Dev nD,
      (r.2.mem ((c.tc : Thread nD τ).loc main_v8_0) = hRef m c
        ∧ r.2.mem ((c.tc : Thread nD τ).loc main_v8_1) = k0_pay2 (nRef m c) (mRef m c) k0_pay7
        ∧ r.2.mem ((c.tc : Thread nD τ).loc main_v8_2) = k0_pay3 (mRef m c) k0_pay7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨⟨?_, ?_, ?_⟩, h.2 c⟩)
    (θ_run_and (run_main m ρ) (frame_of m ρ (dats m) (A_eq m) (run_main m ρ)))
  · exact ((h.1 c).1 6).trans (arr6 m c)
  · exact ((h.1 c).1 7).trans (arr7 m c)
  · exact ((h.1 c).1 8).trans (arr8 m c)

end Cert.ReferenceIdeal.Own

end
-- ==== Proof.Operands.lean ====
/- The operand arrays that the two programs make of the same arguments. -/
module

public import proofs.«01_k».proof.Proof.ArraysIdeal
public import proofs.«01_k».proof.Proof.ArraysRef

@[expose] public section

noncomputable section

namespace Cert.Fused

open Idealize.ShloMosaic Idealize.ShloMosaic.TcCoe Idealize.ShloMosaic.Tactic
open Idealize.SL.Sem

variable {F : FTy → Type} [FloatOps F]

/-- The reference's operands, read as the kernel's. -/
structure Match (I : In F) (w : FVec F ⟨2, ![1152, 16384]⟩ .fp8e4m3) (ws : FVec F ⟨2, ![1152, 16384]⟩ .bf16)
    (x : FVec F ⟨2, ![8192, 1152]⟩ .fp8e4m3) (xs : FVec F ⟨2, ![8192, 1]⟩ .f32) (r : FVec F ⟨2, ![8192, 16384]⟩ .bf16)
    (g : FVec F ⟨2, ![1, 16384]⟩ .bf16) : Prop where
  w : w = I.W
  ws : ∀ j, ws j = FloatOps.truncf .bf16 lt_bf16_f32 (I.WS (at3 1 9 16384 0 ((j 0).val / 128) (j 1).val))
  x : x = I.X
  xs : ∀ j, xs j = I.XS (at3 32 2 128 ((j 0).val / 256) ((j 0).val % 256 / 128) ((j 0).val % 128))
  r : r = I.R
  g : ∀ j, FloatOps.extf .f32 lt_bf16_f32 (g j) = I.G j

section
variable (m : (ℓ : Loc KernelIdeal.nD KernelIdeal.τ KernelIdeal.sig) → Buf (Elt F) ℓ) (c : Dev KernelIdeal.nD)
open Cert.KernelIdeal Cert.KernelIdeal.Gen

theorem K_v0 : V m c main_v0 = shapeCast S8192x1152 (m ((c : Thread nD τ).loc main_arg0) : FVec F S8x1024x1152 .fp8e4m3) shapeCasts_S8x1024x1152_S8192x1152 := by
  unfold V; after_reads_simp; rfl
theorem K_v1 : V m c main_v1 = shapeCast S32x2x128 (m ((c : Thread nD τ).loc main_arg1) : FVec F S8x1024x1 .f32) shapeCasts_S8x1024x1_S32x2x128 := by
  unfold V; after_reads_simp; rfl
theorem K_v4 : V m c main_v4 = shapeCast S1x9x16384 (shapeCast S9x16384 (broadcastInDim S9x128x128 ![0, 1] bcast_S9x128_S9x128x128_0_1
    (m ((c : Thread nD τ).loc main_arg3) : FVec F S9x128 .f32)) shapeCasts_S9x128x128_S9x16384) shapeCasts_S9x16384_S1x9x16384 := by
  unfold V; after_reads_simp; rfl
theorem K_v5 : V m c main_v5 = shapeCast S8192x16384 (m ((c : Thread nD τ).loc main_arg4) : FVec F S8x1024x16384 .bf16) shapeCasts_S8x1024x16384_S8192x16384 := by
  unfold V; after_reads_simp; rfl
theorem K_v7 : V m c main_v7 = shapeCast S1x16384 (extf .f32 (m ((c : Thread nD τ).loc main_arg5) : FVec F S16384 .bf16) bitsLt_bf16_f32 : FVec F S16384 .f32) shapeCasts_S16384_S1x16384 := by
  unfold V; after_reads_simp; rfl
end

abbrev S8x1024x1 : Shape := ⟨3, ![8, 1024, 1]⟩

/-- The token scales, read in either layout. -/
theorem scales_apply (v : FVec F S8x1024x1 .f32) (h1 : S8x1024x1.ShapeCasts ⟨2, ![8192, 1]⟩) (h2 : S8x1024x1.ShapeCasts ⟨3, ![32, 2, 128]⟩)
    (j : (⟨2, ![8192, 1]⟩ : Shape).Idx) :
    shapeCast ⟨2, ![8192, 1]⟩ v h1 j = shapeCast ⟨3, ![32, 2, 128]⟩ v h2 (at3 32 2 128 ((j 0).val / 256) ((j 0).val % 256 / 128) ((j 0).val % 128)) := by
  have h0 := lt0 j
  have h1' := lt1 j
  rw [shapeCast_apply v h1 j (at3 8 1024 1 ((j 0).val / 1024) ((j 0).val % 1024) 0) (by
        rw [Shape.rowMajor_val_three, Shape.rowMajor_val_two, at3_0, at3_1, at3_2]
        show ((j 0).val / 1024 % 8 * 1024 + (j 0).val % 1024 % 1024) * 1 + 0 % 1 = (j 0).val * 1 + (j 1).val
        omega),
    shapeCast_apply v h2 _ (at3 8 1024 1 ((j 0).val / 1024) ((j 0).val % 1024) 0) (by
        rw [Shape.rowMajor_val_three, Shape.rowMajor_val_three, at3_0, at3_1, at3_2, at3_0, at3_1, at3_2]
        show ((j 0).val / 1024 % 8 * 1024 + (j 0).val % 1024 % 1024) * 1 + 0 % 1 = ((j 0).val / 256 % 32 * 2 + (j 0).val % 256 / 128 % 2) * 128 + (j 0).val % 128 % 128
        omega)]

/-- The weight scales of the kernel's layout, at a row's group and a column, -/
theorem ws_kernel (v : FVec F ⟨2, ![9, 128]⟩ .f32) (hb : (⟨2, ![9, 128]⟩ : Shape).BroadcastsInDim ⟨3, ![9, 128, 128]⟩ ![0, 1])
    (h1 : (⟨3, ![9, 128, 128]⟩ : Shape).ShapeCasts ⟨2, ![9, 16384]⟩) (h2 : (⟨2, ![9, 16384]⟩ : Shape).ShapeCasts ⟨3, ![1, 9, 16384]⟩)
    (p n : ℕ) (hp : p < 9) (hn : n < 16384) :
    shapeCast ⟨3, ![1, 9, 16384]⟩ (shapeCast ⟨2, ![9, 16384]⟩ (broadcastInDim ⟨3, ![9, 128, 128]⟩ ![0, 1] hb v) h1) h2 (at3 1 9 16384 0 p n)
      = v (at2 9 128 p (n / 128)) := by
  rw [shapeCast_apply _ h2 _ (at2 9 16384 p n) (by
        rw [Shape.rowMajor_val_three, Shape.rowMajor_val_two, at3_0, at3_1, at3_2, at2_0, at2_1]
        show p % 9 * 16384 + n % 16384 = (0 % 1 * 9 + p % 9) * 16384 + n % 16384
        omega),
    shapeCast_apply _ h1 _ (at3 9 128 128 p (n / 128) (n % 128)) (by
        rw [Shape.rowMajor_val_three, Shape.rowMajor_val_two, at3_0, at3_1, at3_2, at2_0, at2_1]
        show (p % 9 * 128 + n / 128 % 128) * 128 + n % 128 % 128 = p % 9 * 16384 + n % 16384
        omega),
    broadcastInDim_apply _ hb v _ (at2 9 128 p (n / 128)) (fun a => by
        match a with
        | ⟨0, _⟩ => rfl
        | ⟨1, _⟩ => rfl)]

/-- and of the reference's, at a row and a column. -/
theorem ws_ref (v : FVec F ⟨2, ![9, 128]⟩ .bf16) (hb : (⟨2, ![9, 128]⟩ : Shape).BroadcastsInDim ⟨4, ![9, 1, 128, 1]⟩ ![0, 2])
    (hc : (⟨4, ![9, 1, 128, 1]⟩ : Shape).BroadcastsInDim ⟨4, ![9, 128, 128, 128]⟩ ![0, 1, 2, 3])
    (h1 : (⟨4, ![9, 128, 128, 128]⟩ : Shape).ShapeCasts ⟨2, ![1152, 16384]⟩) (j : (⟨2, ![1152, 16384]⟩ : Shape).Idx) :
    shapeCast ⟨2, ![1152, 16384]⟩ (broadcastInDim ⟨4, ![9, 128, 128, 128]⟩ ![0, 1, 2, 3] hc (broadcastInDim ⟨4, ![9, 1, 128, 1]⟩ ![0, 2] hb v)) h1 j
      = v (at2 9 128 ((j 0).val / 128) ((j 1).val / 128)) := by
  have h0 := lt0 j
  have h1' := lt1 j
  rw [shapeCast_apply _ h1 _ (fun a => match a with
        | ⟨0, _⟩ => (⟨(j 0).val / 128, by omega⟩ : Fin 9)
        | ⟨1, _⟩ => (⟨(j 0).val % 128, by omega⟩ : Fin 128)
        | ⟨2, _⟩ => (⟨(j 1).val / 128, by omega⟩ : Fin 128)
        | ⟨3, _⟩ => (⟨(j 1).val % 128, by omega⟩ : Fin 128)) (by
        rw [Shape.rowMajor_val_four, Shape.rowMajor_val_two]
        show (((j 0).val / 128 * 128 + (j 0).val % 128) * 128 + (j 1).val / 128) * 128 + (j 1).val % 128 = (j 0).val * 16384 + (j 1).val
        omega),
    broadcastInDim_apply _ hc _ _ (fun a => match a with
        | ⟨0, _⟩ => (⟨(j 0).val / 128, by omega⟩ : Fin 9)
        | ⟨1, _⟩ => (⟨0, by omega⟩ : Fin 1)
        | ⟨2, _⟩ => (⟨(j 1).val / 128, by omega⟩ : Fin 128)
        | ⟨3, _⟩ => (⟨0, by omega⟩ : Fin 1)) (fun a => by
        match a with
        | ⟨0, _⟩ => rfl
        | ⟨1, _⟩ => rfl
        | ⟨2, _⟩ => rfl
        | ⟨3, _⟩ => rfl),
    broadcastInDim_apply _ hb v _ (at2 9 128 ((j 0).val / 128) ((j 1).val / 128)) (fun a => by
        match a with
        | ⟨0, _⟩ => exact Nat.mod_eq_of_lt (by omega)
        | ⟨1, _⟩ => exact Nat.mod_eq_of_lt (by omega))]

variable (m : (ℓ : Loc KernelIdeal.nD KernelIdeal.τ KernelIdeal.sig) → Buf (Elt F) ℓ)
  (m' : (ℓ : Loc ReferenceIdeal.nD ReferenceIdeal.τ ReferenceIdeal.sig) → Buf (Elt F) ℓ) (c : Dev KernelIdeal.nD)

/-- From equal arguments the operands match. -/
theorem operands
    (a0 : m' ((c.tc : Thread ReferenceIdeal.nD ReferenceIdeal.τ).loc ReferenceIdeal.main_arg0) = m ((c.tc : Thread KernelIdeal.nD KernelIdeal.τ).loc KernelIdeal.main_arg0))
    (a1 : m' ((c.tc : Thread ReferenceIdeal.nD ReferenceIdeal.τ).loc ReferenceIdeal.main_arg1) = m ((c.tc : Thread KernelIdeal.nD KernelIdeal.τ).loc KernelIdeal.main_arg1))
    (a2 : m' ((c.tc : Thread ReferenceIdeal.nD ReferenceIdeal.τ).loc ReferenceIdeal.main_arg2) = m ((c.tc : Thread KernelIdeal.nD KernelIdeal.τ).loc KernelIdeal.main_arg2))
    (a3 : m' ((c.tc : Thread ReferenceIdeal.nD ReferenceIdeal.τ).loc ReferenceIdeal.main_arg3) = m ((c.tc : Thread KernelIdeal.nD KernelIdeal.τ).loc KernelIdeal.main_arg3))
    (a4 : m' ((c.tc : Thread ReferenceIdeal.nD ReferenceIdeal.τ).loc ReferenceIdeal.main_arg4) = m ((c.tc : Thread KernelIdeal.nD KernelIdeal.τ).loc KernelIdeal.main_arg4))
    (a5 : m' ((c.tc : Thread ReferenceIdeal.nD ReferenceIdeal.τ).loc ReferenceIdeal.main_arg5) = m ((c.tc : Thread KernelIdeal.nD KernelIdeal.τ).loc KernelIdeal.main_arg5)) :
    Match (KernelIdeal.Own.inOf m c) (ReferenceIdeal.Gen.V m' c ReferenceIdeal.main_arg2) (ReferenceIdeal.Gen.V m' c ReferenceIdeal.main_v3)
      (ReferenceIdeal.Gen.V m' c ReferenceIdeal.main_v4) (ReferenceIdeal.Gen.V m' c ReferenceIdeal.main_v5) (ReferenceIdeal.Gen.V m' c ReferenceIdeal.main_v6)
      (ReferenceIdeal.Gen.V m' c ReferenceIdeal.main_v7) where
  w := by
    show _ = KernelIdeal.Gen.V m c KernelIdeal.main_arg2
    rw [ReferenceIdeal.Gen.V_main_arg2, KernelIdeal.Gen.V_main_arg2]; exact a2
  ws j := by
    show _ = FloatOps.truncf .bf16 lt_bf16_f32 (KernelIdeal.Gen.V m c KernelIdeal.main_v4 _)
    have h0 := lt0 j
    rw [ReferenceIdeal.Own.V_v3, K_v4, ws_kernel _ _ _ _ _ _ (by omega) (lt1 j), ← a3]
    exact ws_ref _ _ _ _ j
  x := by
    show _ = KernelIdeal.Gen.V m c KernelIdeal.main_v0
    rw [ReferenceIdeal.Own.V_v4, K_v0, ← a0]
  xs j := by
    show _ = KernelIdeal.Gen.V m c KernelIdeal.main_v1 _
    rw [ReferenceIdeal.Own.V_v5, K_v1, ← a1]
    exact scales_apply _ _ _ j
  r := by
    show _ = KernelIdeal.Gen.V m c KernelIdeal.main_v5
    rw [ReferenceIdeal.Own.V_v6, K_v5, ← a4]
  g j := by
    show _ = KernelIdeal.Gen.V m c KernelIdeal.main_v7 j
    rw [ReferenceIdeal.Own.V_v7, K_v7, ← a5]; rfl

end Cert.Fused

end
-- ==== Proof.Values.lean ====
/- Over the extended reals the two programs' results are the same arrays. -/
module

public import proofs.«01_k».proof.Proof.Reads
public import proofs.«01_k».proof.Proof.Operands

@[expose] public section

set_option maxRecDepth 16384

noncomputable section

namespace Cert.Fused

open Idealize.ShloMosaic Idealize.ShloMosaic.TcCoe Idealize.ShloMosaic.Tactic
open Cert.ReferenceIdeal Cert.ReferenceIdeal.Gen

abbrev A8192x1 : Shape := ⟨2, ![8192, 1]⟩
abbrev A8192x16384 : Shape := ⟨2, ![8192, 16384]⟩

/-! ## The reference's results, read at an index -/

section
variable (w : FVec Ideal ⟨2, ![1152, 16384]⟩ .fp8e4m3) (ws : FVec Ideal ⟨2, ![1152, 16384]⟩ .bf16)
    (x : FVec Ideal ⟨2, ![8192, 1152]⟩ .fp8e4m3) (xs : FVec Ideal A8192x1 .f32) (res : FVec Ideal A8192x16384 .bf16)
    (g : FVec Ideal ⟨2, ![1, 16384]⟩ .bf16)

theorem pay4_apply (j : A8192x16384.Idx) : k0_pay4 (F := Ideal) w ws x xs res j
    = (res j + (∑ k : Fin 1152, (x (at2 8192 1152 (j 0).val k.val) * (w (at2 1152 16384 k.val (j 1).val) * ws (at2 1152 16384 k.val (j 1).val)) : EReal))
      * xs (at2 8192 1 (j 0).val 0) : EReal) := by
  unfold k0_pay4
  rw [shapeCast_self, shapeCast_self, shapeCast_self, shapeCast_self]
  show (res j + matmul (F := Ideal) (DotDims.plain 8192 1152 16384) none (fun j => x j : FVec Ideal ⟨2, ![8192, 1152]⟩ .bf16)
    (fun j => (w j * ws j : EReal) : FVec Ideal ⟨2, ![1152, 16384]⟩ .bf16) (constant A8192x16384 .f32 0x00000000#32) j * broadcastTo A8192x16384 xs _ j : EReal) = _
  rw [plain_apply, spread_apply (by decide)]

theorem pay5_apply (j : A8192x16384.Idx) : k0_pay5 (F := Ideal) w ws x xs res g j
    = (k0_pay4 (F := Ideal) w ws x xs res j * Ideal.rsqrt (Ideal.div (∑ k : Fin 16384, (k0_pay4 (F := Ideal) w ws x xs res (at2 8192 16384 (j 0).val k.val)
          * k0_pay4 (F := Ideal) w ws x xs res (at2 8192 16384 (j 0).val k.val) : EReal)) (Ideal.ofBits .f32 0x46800000#32) + Ideal.ofBits .f32 0x3727C5AC#32)
      * g (at2 1 16384 0 (j 1).val) : EReal) := by
  unfold k0_pay5
  generalize k0_pay4 (F := Ideal) w ws x xs res = h
  rw [shapeCast_self]
  show (h j * broadcastTo A8192x16384 _ _ j * broadcastTo A8192x16384 _ _ j : EReal) = _
  rw [spread_apply (by decide), spreadRow_apply (by decide)]
  show (h j * Ideal.rsqrt (Ideal.div (shapeCast A8192x1 _ _ (at2 8192 1 (j 0).val 0)) (Ideal.ofBits .f32 0x46800000#32) + Ideal.ofBits .f32 0x3727C5AC#32)
    * g (at2 1 16384 0 (j 1).val) : EReal) = _
  rw [col_apply]
  have e : (at1 8192 (at2 8192 1 (j 0).val 0 0).val 0).val = (j 0).val := by
    show (j 0).val % 8192 % 8192 = _
    have := lt0 j
    omega
  refine congrArg (fun t : EReal => h j * Ideal.rsqrt (Ideal.div t (Ideal.ofBits .f32 0x46800000#32) + Ideal.ofBits .f32 0x3727C5AC#32) * g (at2 1 16384 0 (j 1).val))
    ((rowSum_apply (N := 8192) (M := 16384) _ _ _ _ _).trans ?_)
  rw [e]
  rfl

theorem pay6_apply (j : A8192x1.Idx) : k0_pay6 (F := Ideal) w ws x xs res g j
    = (Finset.univ : Finset (Fin 16384)).fold max (⊥ : EReal) fun k => mag (k0_pay5 (F := Ideal) w ws x xs res g (at2 8192 16384 (j 0).val k.val)) := by
  unfold k0_pay6
  generalize k0_pay5 (F := Ideal) w ws x xs res g = n
  show shapeCast A8192x1 _ _ j = _
  rw [col_apply]
  have e : (at1 8192 (j 0).val 0).val = (j 0).val := by
    show (j 0).val % 8192 = _
    have := lt0 j
    omega
  refine (rowMax_apply (N := 8192) (M := 16384) _ _ _ _ _).trans ?_
  rw [e]
  rfl

end

theorem power_word (k : Fin 254) : (BitVec.ofNat 32 k.val - 126#32).toInt = (k.val : ℤ) - 126 := by
  revert k; decide +kernel

/-- The reference's powers of two. -/
theorem power_eq (k : Fin 254) : Ideal.exp2 ((((BitVec.ofNat 32 k.val - 126#32).toInt : ℝ)) : EReal) = pw (k.val + 1) := by
  rw [power_word, pw_mid (by omega) (by omega)]
  show ((Real.rpow 2 (((k.val : ℤ) - 126 : ℤ) : ℝ) : ℝ) : EReal) = _
  rw [show Real.rpow 2 (((k.val : ℤ) - 126 : ℤ) : ℝ) = (2 : ℝ) ^ ((((k.val : ℤ) - 126 : ℤ)) : ℝ) from rfl, Real.rpow_intCast]
  congr 2
  push_cast
  ring

theorem pay1_apply (v c : FVec Ideal A8192x1 .f32) (j : A8192x1.Idx) : k0_pay1 (F := Ideal) v c j = scaleR (v j * c j : EReal) := by
  unfold k0_pay1 scaleR
  show Scalar.select (IntOp.ori (BitVec.ofBool (decide ((v j * c j : EReal) = Ideal.ofBits .f32 0x00000000#32)))
    (BitVec.ofBool (decide ((v j * c j : EReal) = Ideal.ofBits .f32 0x7F800000#32)))) (Ideal.ofBits .f32 0x3F800000#32) (shapeCast A8192x1 _ _ j) = _
  rw [Ideal.ofBits_zero_f32, c_top, c_one, or_ofBool, select_ofBool, col_apply]
  have e : (at1 8192 (j 0).val 0).val = (j 0).val := by
    show (j 0).val % 8192 = _
    have := lt0 j
    omega
  refine congrArg (fun t : EReal => if (v j * c j : EReal) = 0 ∨ (v j * c j : EReal) = ⊤ then 1 else t) ((rowMin_apply (N := 8192) (M := 254) _ _ _ _ _).trans ?_)
  rw [e]
  unfold least
  refine congrArg (fun f => Finset.fold min (⊤ : EReal) f (Finset.univ : Finset (Fin 254))) (funext fun k => ?_)
  have ej : at2 8192 1 (j 0).val 0 = j := by
    have h1 := lt1 j
    exact ext2 (by rw [at2_0, Nat.mod_eq_of_lt (lt0 j)]) (by rw [at2_1]; omega)
  have ek : (at2 8192 254 (j 0).val k.val 1).val = k.val := Nat.mod_eq_of_lt k.isLt
  show Scalar.select (BitVec.ofBool (decide ((broadcastTo (⟨2, ![8192, 254]⟩ : Shape) (fun j => (v j * c j : EReal)) _ (at2 8192 254 (j 0).val k.val) : EReal)
      < Ideal.exp2 ((((BitVec.ofNat 32 (0 * 254 + (at2 8192 254 (j 0).val k.val 1).val) - 126#32).toInt : ℝ)) : EReal))))
    (Ideal.exp2 ((((BitVec.ofNat 32 (0 * 254 + (at2 8192 254 (j 0).val k.val 1).val) - 126#32).toInt : ℝ)) : EReal)) (Ideal.ofBits .f32 0x7F800000#32) = _
  rw [select_ofBool, ek, Nat.zero_mul, Nat.zero_add, power_eq, c_top, spread_apply (by decide)]
  have e0 : (at2 8192 254 (j 0).val k.val 0).val = (j 0).val := Nat.mod_eq_of_lt (lt0 j)
  rw [e0, ej]

theorem pay2_apply (n : FVec Ideal A8192x16384 .f32) (v c : FVec Ideal A8192x1 .f32) (j : A8192x16384.Idx) :
    k0_pay2 (F := Ideal) n v c j = min (Ideal.ofBits .f32 0x43E00000#32) (max (Ideal.ofBits .f32 0xC3E00000#32)
      (n j * invR (v (at2 8192 1 (j 0).val 0) * c (at2 8192 1 (j 0).val 0)) : EReal)) := by
  unfold k0_pay2
  show min (Ideal.ofBits .f32 0x43E00000#32) (max (Ideal.ofBits .f32 0xC3E00000#32) (n j * broadcastTo A8192x16384 _ _ j : EReal)) = _
  rw [spread_apply (by decide)]
  have e : ∀ i : A8192x1.Idx, Scalar.select (BitVec.ofBool (decide (Ideal.div (Ideal.ofBits .f32 0x3F800000#32) (k0_pay1 (F := Ideal) v c i) < Ideal.ofBits .f32 0x00800000#32)))
      (Ideal.ofBits .f32 0x00000000#32) (Ideal.div (Ideal.ofBits .f32 0x3F800000#32) (k0_pay1 (F := Ideal) v c i)) = invR (v i * c i : EReal) := fun i => by
    rw [select_ofBool, c_one, c_min, Ideal.ofBits_zero_f32, pay1_apply]
    rfl
  exact congrArg (fun t : EReal => min (Ideal.ofBits .f32 0x43E00000#32) (max (Ideal.ofBits .f32 0xC3E00000#32) (n j * t))) (e _)

/-! ## The two sides -/

section
variable {I : In Ideal} {w : FVec Ideal ⟨2, ![1152, 16384]⟩ .fp8e4m3} {ws : FVec Ideal ⟨2, ![1152, 16384]⟩ .bf16}
    {x : FVec Ideal ⟨2, ![8192, 1152]⟩ .fp8e4m3} {xs : FVec Ideal A8192x1 .f32} {res : FVec Ideal A8192x16384 .bf16}
    {g : FVec Ideal ⟨2, ![1, 16384]⟩ .bf16} (H : Match I w ws x xs res g)
include H

/-- The first result, row by row. -/
theorem pay4_row {i r n : ℕ} (hi : i < 32) (hr : r < 256) (hn : n < 16384) :
    k0_pay4 (F := Ideal) w ws x xs res (at2 8192 16384 (256 * i + r) n) = rowA I i r n := by
  rw [pay4_apply]
  have e0 : (at2 8192 16384 (256 * i + r) n 0).val = 256 * i + r := Nat.mod_eq_of_lt (by omega)
  have e1 : (at2 8192 16384 (256 * i + r) n 1).val = n := Nat.mod_eq_of_lt hn
  rw [e0, e1, H.w, H.x, H.r, H.xs]
  unfold rowA hT
  have f0 : (at2 256 16384 r n 0).val = r := Nat.mod_eq_of_lt hr
  have f1 : (at2 256 16384 r n 1).val = n := Nat.mod_eq_of_lt hn
  rw [f0, f1]
  show _ = (I.R (at2 8192 16384 (256 * i + r) n) + accT I i (n / 256) (at2 256 256 r (n % 256)) * xsbT I i (at2 256 128 r (n % 128)) : EReal)
  have ea : accT I i (n / 256) (at2 256 256 r (n % 256))
      = ∑ k : Fin 1152, (I.X (at2 8192 1152 (256 * i + r) k.val) * (I.W (at2 1152 16384 k.val n) * ws (at2 1152 16384 k.val n)) : EReal) := by
    unfold accT accOf
    refine (plain_apply (M := 256) (K := 1152) (N := 256) (xbT I i) (fun j => wbT I (at2 1152 16384 (j 0).val (256 * (n / 256) + (j 1).val))) _).trans ?_
    refine Finset.sum_congr rfl fun k _ => ?_
    have hk := k.isLt
    rw [H.ws]
    show (I.X (at2 8192 1152 (256 * i + r % 256 % 256) (k.val % 1152))
      * (I.W (at2 1152 16384 (k.val % 1152) (256 * (n / 256) + n % 256 % 256 % 256))
        * I.WS (at3 1 9 16384 0 (k.val % 1152 % 1152 / 128) ((256 * (n / 256) + n % 256 % 256 % 256) % 16384))) : EReal)
      = (I.X (at2 8192 1152 (256 * i + r) k.val) * (I.W (at2 1152 16384 k.val n) * I.WS (at3 1 9 16384 0 (k.val % 1152 / 128) (n % 16384))) : EReal)
    rw [show r % 256 % 256 = r by omega, show k.val % 1152 % 1152 = k.val % 1152 by omega, show 256 * (n / 256) + n % 256 % 256 % 256 = n by omega,
      Nat.mod_eq_of_lt hk]
  have ex : xsbT I i (at2 256 128 r (n % 128)) = I.XS (at3 32 2 128 ((at2 8192 1 (256 * i + r) 0 0).val / 256) ((at2 8192 1 (256 * i + r) 0 0).val % 256 / 128) ((at2 8192 1 (256 * i + r) 0 0).val % 128)) := by
    have e2 : (at2 8192 1 (256 * i + r) 0 0).val = 256 * i + r := Nat.mod_eq_of_lt (by omega)
    have e3 : (at2 256 128 r (n % 128) 0).val = r := Nat.mod_eq_of_lt hr
    unfold xsbT
    rw [e2, e3, show (256 * i + r) / 256 = i by omega, show (256 * i + r) % 256 / 128 = r / 128 by omega, show (256 * i + r) % 128 = r % 128 by omega]
  rw [ea, ex]

/-- The normalised row. -/
theorem pay5_row {i r n : ℕ} (hi : i < 32) (hr : r < 256) (hn : n < 16384) :
    k0_pay5 (F := Ideal) w ws x xs res g (at2 8192 16384 (256 * i + r) n) = rowA I i r n * rowR I i r * rowG I n := by
  rw [pay5_apply]
  have e0 : (at2 8192 16384 (256 * i + r) n 0).val = 256 * i + r := Nat.mod_eq_of_lt (by omega)
  have e1 : (at2 8192 16384 (256 * i + r) n 1).val = n := Nat.mod_eq_of_lt hn
  have es : (∑ k : Fin 16384, (k0_pay4 (F := Ideal) w ws x xs res (at2 8192 16384 (256 * i + r) k.val) * k0_pay4 (F := Ideal) w ws x xs res (at2 8192 16384 (256 * i + r) k.val) : EReal))
      = ∑ k : Fin 16384, rowA I i r k.val * rowA I i r k.val :=
    Finset.sum_congr rfl fun k _ => by rw [pay4_row H hi hr k.isLt]
  rw [e0, e1, es, ← mean_eq, pay4_row H hi hr hn]
  exact congrArg (fun t : EReal => rowA I i r n * rowR I i r * t) (H.g _)

/-- The value the scale is taken from. -/
theorem v_row {i r : ℕ} (hi : i < 32) (hr : r < 256) (l : ℕ) :
    (k0_pay6 (F := Ideal) w ws x xs res g (at2 8192 1 (256 * i + r) 0) * k0_pay7 (F := Ideal) (at2 8192 1 (256 * i + r) 0) : EReal) = vT I i (at2 256 128 r l) := by
  rw [vT_row I i r hr l (k0_pay6 (F := Ideal) w ws x xs res g (at2 8192 1 (256 * i + r) 0))]
  · rfl
  · rw [pay6_apply]
    have e0 : (at2 8192 1 (256 * i + r) 0 0).val = 256 * i + r := Nat.mod_eq_of_lt (by omega)
    have e : (fun k : Fin 16384 => mag (k0_pay5 (F := Ideal) w ws x xs res g (at2 8192 16384 (at2 8192 1 (256 * i + r) 0 0).val k.val)))
        = fun k : Fin 16384 => mag (rowA I i r k.val * rowR I i r * rowG I k.val) := funext fun k => by
      rw [e0, pay5_row H hi hr k.isLt]
    rw [e]
    exact top_fold fun n => mag (rowA I i r n * rowR I i r * rowG I n)

theorem v_nonneg {i r : ℕ} (hi : i < 32) (hr : r < 256) (l : ℕ) : (0 : EReal) ≤ vT I i (at2 256 128 r l) := by
  obtain ⟨h1, n, hn, e⟩ := top_fold fun n => mag (rowA I i r n * rowR I i r * rowG I n)
  rw [vT_row I i r hr l _ ⟨h1, n, hn, e⟩, e]
  exact mul_nonneg (mag_nonneg _) c_448

theorem row_split (j : A8192x16384.Idx) : j = at2 8192 16384 (256 * ((j 0).val / 256) + (j 0).val % 256) (j 1).val := by
  have h0 := lt0 j
  have h1 := lt1 j
  refine ext2 ?_ ?_
  · rw [at2_0]; omega
  · rw [at2_1]; omega

theorem h_eq : hArr I = k0_pay4 (F := Ideal) w ws x xs res := funext fun j => by
  have h0 := lt0 j
  refine Eq.trans ?_ (congrArg (k0_pay4 (F := Ideal) w ws x xs res) (row_split H j)).symm
  rw [pay4_row H (by omega) (by omega) (lt1 j)]
  rfl

theorem q_eq : qArr I = k0_pay2 (F := Ideal) (k0_pay5 (F := Ideal) w ws x xs res g) (k0_pay6 (F := Ideal) w ws x xs res g) k0_pay7 := funext fun j => by
  have h0 := lt0 j
  have h1 := lt1 j
  have hi : (j 0).val / 256 < 32 := by omega
  have hr : (j 0).val % 256 < 256 := by omega
  generalize hI : (j 0).val / 256 = i at hi
  generalize hR : (j 0).val % 256 = r at hr
  have ej : (j 0).val = 256 * i + r := by omega
  have es : j = at2 8192 16384 (256 * i + r) (j 1).val := by rw [← hI, ← hR]; exact row_split H j
  rw [pay2_apply, ej]
  have e5 : k0_pay5 (F := Ideal) w ws x xs res g j = rowA I i r (j 1).val * rowR I i r * rowG I (j 1).val := by
    refine (congrArg (k0_pay5 (F := Ideal) w ws x xs res g) es).trans ?_
    exact pay5_row H hi hr h1
  rw [e5, v_row H hi hr ((j 1).val % 128), ← inv_eq (v_nonneg H hi hr _)]
  show qT I ((j 0).val / 256) (at2 256 16384 ((j 0).val % 256) (j 1).val) = _
  rw [hI, hR]
  have f0 : (at2 256 16384 r (j 1).val 0).val = r := Nat.mod_eq_of_lt hr
  have f1 : (at2 256 16384 r (j 1).val 1).val = (j 1).val := Nat.mod_eq_of_lt h1
  unfold qT
  rw [f0, f1, rsT_row I i r hr, show invT I i (at2 256 128 r ((j 1).val % 128)) = inv1 (vT I i (at2 256 128 r ((j 1).val % 128))) from invOf_apply _ _]
  show min (max (rowA I i r (j 1).val * rowR I i r * rowG I (j 1).val * _) (Ideal.ofBits .f32 0xC3E00000#32)) (Ideal.ofBits .f32 0x43E00000#32) = _
  rw [max_comm, min_comm]

theorem ns_eq : nsArr I = k0_pay3 (F := Ideal) (k0_pay6 (F := Ideal) w ws x xs res g) k0_pay7 := funext fun j => by
  have h0 := lt3_0 j
  have h1 := lt3_1 j
  have h2 := lt3_2 j
  have hr : 128 * (j 1).val + (j 2).val < 256 := by omega
  show nsT I (j 0).val (at3 1 2 128 0 (j 1).val (j 2).val) = shapeCast (⟨3, ![32, 2, 128]⟩ : Shape) (k0_pay1 (F := Ideal) (k0_pay6 (F := Ideal) w ws x xs res g) k0_pay7) _ j
  rw [shapeCast_apply _ _ j (at2 8192 1 (256 * (j 0).val + (128 * (j 1).val + (j 2).val)) 0) (by
        rw [Shape.rowMajor_val_three, Shape.rowMajor_val_two, at2_0, at2_1]
        show (256 * (j 0).val + (128 * (j 1).val + (j 2).val)) % 8192 * 1 + 0 % 1 = ((j 0).val * 2 + (j 1).val) * 128 + (j 2).val
        omega),
    pay1_apply, v_row H h0 hr 0, ← scale_eq (v_nonneg H h0 hr 0)]
  show scaleOf (vT I (j 0).val) (at2 256 128 (128 * ((j 1).val % 2) + (j 2).val % 128) 0) = _
  rw [Nat.mod_eq_of_lt h1, Nat.mod_eq_of_lt h2]
  exact scaleOf_apply _ _

end

end Cert.Fused

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.RunKernel
public import proofs.«01_k».proof.Proof.RunIdeal
public import proofs.«01_k».proof.Proof.Values

@[expose] public section

noncomputable section

namespace Cert.Proof

open Idealize.ShloMosaic Idealize.SL.Sem

/-- From equal arguments the kernel and the reference end with the same three results. -/
theorem same : Cert.algebraic_KernelIdeal_ReferenceIdeal (hKernelIdeal := Cert.KernelIdeal.Gen.facts) (hReferenceIdeal := Cert.ReferenceIdeal.Gen.facts) := by
  intro m g m' g' _ h
  have M : ∀ c : Dev Cert.KernelIdeal.nD, _ := fun c =>
    Cert.Fused.operands (F := Ideal) m m' c (h c).1 (h c).2.1 (h c).2.2.1 (h c).2.2.2.1 (h c).2.2.2.2.1 (h c).2.2.2.2.2
  refine ⟨fun c => Cert.Fused.hArr (Cert.KernelIdeal.Own.inOf m c), fun c => Cert.Fused.qArr (Cert.KernelIdeal.Own.inOf m c),
    fun c => Cert.Fused.nsArr (Cert.KernelIdeal.Own.inOf m c), ?_, ?_⟩
  · exact (θ_run _ _ _).mono (fun r hr c => ⟨(hr c).1.1, (hr c).1.2.1, (hr c).1.2.2, (hr c).2⟩) (Cert.KernelIdeal.Own.run_arrays m g)
  · exact (θ_run _ _ _).mono (fun r hr c => ⟨(hr c).1.1.trans (Cert.Fused.h_eq (M c)).symm, (hr c).1.2.1.trans (Cert.Fused.q_eq (M c)).symm,
      (hr c).1.2.2.trans (Cert.Fused.ns_eq (M c)).symm, (hr c).2⟩) (Cert.ReferenceIdeal.Own.run_arrays m' g')

theorem claim : Cert.Claim :=
  ⟨Cert.Kernel.Gen.facts, Cert.KernelIdeal.Gen.facts, Cert.ReferenceIdeal.Gen.facts,
    fun m g _ => Cert.Kernel.Own.frame m g, fun m g _ => Cert.KernelIdeal.Own.frame m g, fun m g _ => Cert.ReferenceIdeal.Gen.frame m g,
    trivial, same⟩

end Cert.Proof

end
